-- ==== Defs.lean ====
def Pre_Kernel [hPre_row_indices : Cert.Pre_row_indices.Facts] (m : (ℓ : Loc Cert.Kernel.nD Cert.Kernel.τ Cert.Kernel.sig) → Buf (Elt Bits) ℓ) : Prop :=
  ∀ c : Dev Cert.Kernel.nD,
    (Cert.Pre_row_indices.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_row_indices : Cert.Pre_row_indices.Facts] (m : (ℓ : Loc Cert.KernelIdeal.nD Cert.KernelIdeal.τ Cert.KernelIdeal.sig) → Buf (Elt Ideal) ℓ) : Prop :=
  ∀ c : Dev Cert.KernelIdeal.nD,
    (Cert.Pre_row_indices.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_row_indices : Cert.Pre_row_indices.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_row_indices.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_row_indices : Cert.Pre_row_indices.Facts] (m : (ℓ : Loc Cert.Reference.nD Cert.Reference.τ Cert.Reference.sig) → Buf (Elt Bits) ℓ) : Prop :=
  ∀ c : Dev Cert.Reference.nD,
    (Cert.Pre_row_indices.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 [hPre_experts : Cert.Pre_experts.Facts] (m : (ℓ : Loc Cert.Kernel2.nD Cert.Kernel2.τ Cert.Kernel2.sig) → Buf (Elt Bits) ℓ) : Prop :=
  ∀ c : Dev Cert.Kernel2.nD,
    (Cert.Pre_experts.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_experts : Cert.Pre_experts.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal [hPre_experts : Cert.Pre_experts.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_retention [hPre_finite_retention : Cert.Pre_finite_retention.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_retention.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_retention [hPre_finite_retention : Cert.Pre_finite_retention.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_retention.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] [hPre_row_indices : Cert.Pre_row_indices.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_row_indices : Cert.Pre_row_indices.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_row_indices : Cert.Pre_row_indices.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_row_indices : Cert.Pre_row_indices.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] [hPre_experts : Cert.Pre_experts.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_experts : Cert.Pre_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] [hPre_experts : Cert.Pre_experts.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_finite_retention [hKernel5Ideal : Cert.Kernel5Ideal.Facts] [hPre_finite_retention : Cert.Pre_finite_retention.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_retention m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_finite_retention [hReference5Ideal : Cert.Reference5Ideal.Facts] [hPre_finite_retention : Cert.Pre_finite_retention.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_retention m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_row_indices : Cert.Pre_row_indices.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_row_indices : Cert.Pre_row_indices.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal [hKernel2Ideal : Cert.Kernel2Ideal.Facts] [hReference2Ideal : Cert.Reference2Ideal.Facts] [hPre_experts : Cert.Pre_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v72) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal_pre_finite_retention [hKernel5Ideal : Cert.Kernel5Ideal.Facts] [hReference5Ideal : Cert.Reference5Ideal.Facts] [hPre_finite_retention : Cert.Pre_finite_retention.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_retention m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v46) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_row_indices : Cert.Pre_row_indices.Facts) (hPre_experts : Cert.Pre_experts.Facts) (hPre_finite_retention : Cert.Pre_finite_retention.Facts),
    quiescent_Kernel (hKernel := hKernel) (hPre_row_indices := hPre_row_indices)
    ∧ quiescent_KernelIdeal (hKernelIdeal := hKernelIdeal) (hPre_row_indices := hPre_row_indices)
    ∧ quiescent_ReferenceIdeal (hReferenceIdeal := hReferenceIdeal) (hPre_row_indices := hPre_row_indices)
    ∧ quiescent_Reference (hReference := hReference) (hPre_row_indices := hPre_row_indices)
    ∧ quiescent_Kernel2 (hKernel2 := hKernel2) (hPre_experts := hPre_experts)
    ∧ quiescent_Kernel2Ideal (hKernel2Ideal := hKernel2Ideal) (hPre_experts := hPre_experts)
    ∧ quiescent_Reference2Ideal (hReference2Ideal := hReference2Ideal) (hPre_experts := hPre_experts)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_retention (hKernel5Ideal := hKernel5Ideal) (hPre_finite_retention := hPre_finite_retention)
    ∧ quiescent_Reference5Ideal (hReference5Ideal := hReference5Ideal)
    ∧ quiescent_Reference5Ideal_pre_finite_retention (hReference5Ideal := hReference5Ideal) (hPre_finite_retention := hPre_finite_retention)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal) (hPre_row_indices := hPre_row_indices)
    ∧ bitexact_Kernel_Reference (hKernel := hKernel) (hReference := hReference) (hPre_row_indices := hPre_row_indices)
    ∧ preserves_Kernel2_Kernel2Ideal
    ∧ algebraic_Kernel2Ideal_Reference2Ideal (hKernel2Ideal := hKernel2Ideal) (hReference2Ideal := hReference2Ideal) (hPre_experts := hPre_experts)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_retention (hKernel5Ideal := hKernel5Ideal) (hReference5Ideal := hReference5Ideal) (hPre_finite_retention := hPre_finite_retention)
    ∧ preserves_Kernel6_Kernel6Ideal
    ∧ algebraic_Kernel6Ideal_Reference6Ideal (hKernel6Ideal := hKernel6Ideal) (hReference6Ideal := hReference6Ideal)
-- ==== Pre_experts.lean ====
abbrev S72 : Shape := ⟨1, ![72]⟩
abbrev S1 : Shape := ⟨1, ![1]⟩
abbrev S36864x512 : Shape := ⟨2, ![36864, 512]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S72 : S_.BroadcastsInDim S72 (![] : Fin 0 → Fin S72.rank)

variable [Facts]

def fn {F : FTy → Type} [FloatOps F] (main_arg0 : IVec S72 32) (main_arg1 : IVec S1 32) (main_arg2 : IVec S36864x512 32) (main_arg3 : FVec F S8x1024x3584 .f32) (main_arg4 : FVec F S8x1024x3584 .f32) (main_arg5 : FVec F S8x3584x1024 .f32) : IVec S72 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 8#32
  let main_v2 : IVec S72 32 := broadcastInDim S72 ![] bcast_S_S72 main_c_0
  let main_v3 : IVec S72 1 := cmpi .slt main_arg0 main_v2
  let main_v4 : IVec S72 1 := andi main_v1 main_v3
  main_v4
-- ==== Pre_finite_retention.lean ====
abbrev S1x16384x1024 : Shape := ⟨3, ![1, 16384, 1024]⟩
abbrev S1x256x1024 : Shape := ⟨3, ![1, 256, 1024]⟩
abbrev S8x6144 : Shape := ⟨2, ![8, 6144]⟩
abbrev S16640x512 : Shape := ⟨2, ![16640, 512]⟩
abbrev S1024x1024 : Shape := ⟨2, ![1024, 1024]⟩
abbrev S_ : Shape := ⟨0, ![]⟩

class Facts : Prop where
  bitsLt_bf16_f32 : FTy.bits .bf16 < FTy.bits .f32
  bcast_S_S16640x512 : S_.BroadcastsInDim S16640x512 (![] : Fin 0 → Fin S16640x512.rank)

variable [Facts]

def fn {F : FTy → Type} [FloatOps F] (main_arg0 : FVec F S1x16384x1024 .f32) (main_arg1 : FVec F S1x256x1024 .f32) (main_arg2 : FVec F S8x6144 .f32) (main_arg3 : FVec F S16640x512 .bf16) (main_arg4 : FVec F S16640x512 .bf16) (main_arg5 : FVec F S16640x512 .bf16) (main_arg6 : FVec F S16640x512 .bf16) (main_arg7 : FVec F S1024x1024 .f32) : IVec S16640x512 1 :=
  let main_v0 : FVec F S16640x512 .f32 := (extf .f32 · bitsLt_bf16_f32) main_arg3
  let main_v1 : FVec F S16640x512 .f32 := Host.absf main_v0
  let main_cst : FVec F S_ .f32 := constant S_ .f32 0x7F800000#32
  let main_v2 : FVec F S16640x512 .f32 := broadcastInDim S16640x512 ![] bcast_S_S16640x512 main_cst
  let main_v3 : IVec S16640x512 1 := cmpf .olt main_v1 main_v2
  let main_v4 : FVec F S16640x512 .f32 := (extf .f32 · bitsLt_bf16_f32) main_arg4
  let main_v5 : FVec F S16640x512 .f32 := Host.absf main_v4
  let main_cst_0 : FVec F S_ .f32 := constant S_ .f32 0x7F800000#32
  let main_v6 : FVec F S16640x512 .f32 := broadcastInDim S16640x512 ![] bcast_S_S16640x512 main_cst_0
  let main_v7 : IVec S16640x512 1 := cmpf .olt main_v5 main_v6
  let main_v8 : IVec S16640x512 1 := andi main_v3 main_v7
  main_v8
-- ==== Pre_row_indices.lean ====
abbrev S16384x512 : Shape := ⟨2, ![16384, 512]⟩
abbrev S36864 : Shape := ⟨1, ![36864]⟩
abbrev S_ : Shape := ⟨0, ![]⟩

class Facts : Prop where
  bcast_S_S36864 : S_.BroadcastsInDim S36864 (![] : Fin 0 → Fin S36864.rank)

variable [Facts]

def fn {F : FTy → Type} [FloatOps F] (main_arg0 : IVec S16384x512 32) (main_arg1 : IVec S36864 32) : IVec S36864 1 :=
  let main_c : IVec S_ 32 := constantI S_ 32 0#32
  let main_v0 : IVec S36864 32 := broadcastInDim S36864 ![] bcast_S_S36864 main_c
  let main_v1 : IVec S36864 1 := cmpi .sge main_arg1 main_v0
  let main_c_0 : IVec S_ 32 := constantI S_ 32 16384#32
  let main_v2 : IVec S36864 32 := broadcastInDim S36864 ![] bcast_S_S36864 main_c_0
  let main_v3 : IVec S36864 1 := cmpi .slt main_arg1 main_v2
  let main_v4 : IVec S36864 1 := andi main_v1 main_v3
  main_v4
-- ==== Kernel.lean ====
abbrev S16384x512 : Shape := ⟨2, ![16384, 512]⟩
abbrev S36864 : Shape := ⟨1, ![36864]⟩
abbrev S1x36864 : Shape := ⟨2, ![1, 36864]⟩
abbrev S36864x512 : Shape := ⟨2, ![36864, 512]⟩
abbrev S_ : Shape := ⟨0, ![]⟩
abbrev S2x1x128 : Shape := ⟨3, ![2, 1, 128]⟩
abbrev S2 : Shape := ⟨1, ![2]⟩
abbrev S1x128x512 : Shape := ⟨3, ![1, 128, 512]⟩
abbrev S1 : Shape := ⟨1, ![1]⟩
abbrev S1x1x128 : Shape := ⟨3, ![1, 1, 128]⟩
abbrev S1x128 : Shape := ⟨2, ![1, 128]⟩
abbrev S128x512 : Shape := ⟨2, ![128, 512]⟩
abbrev S16x128 : Shape := ⟨2, ![16, 128]⟩
abbrev S1x16 : Shape := ⟨2, ![1, 16]⟩
abbrev S16 : Shape := ⟨1, ![16]⟩
abbrev S16384x128 : Shape := ⟨2, ![16384, 128]⟩

abbrev nBuf : Table → Nat
  | .hbm => 4
  | .local .scVector .vmem => 2
  | _ => 0

abbrev bufTy : (tb : Table) → Fin (nBuf tb) → BufTy
  | .hbm, ⟨0, _⟩ => ⟨S16384x512, .i32⟩
  | .hbm, ⟨1, _⟩ => ⟨S36864, .i32⟩
  | .hbm, ⟨2, _⟩ => ⟨S1x36864, .i32⟩
  | .hbm, ⟨3, _⟩ => ⟨S36864x512, .i32⟩
  | .local .scVector .vmem, ⟨0, _⟩ => ⟨S2x1x128, .i32⟩
  | .local .scVector .vmem, ⟨1, _⟩ => ⟨S1x128x512, .i32⟩
  | _, _ => ⟨S16384x512, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c9_i32 : BitVec 32 := 9#32
  let v4 : BitVec 32 := Scalar.muli v3 c9_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c9_i32_27_r0 : BitVec 32 := 9#32
  let v32_r0 : BitVec 32 := Scalar.addi c0_i32_26_r0 c9_i32_27_r0
  let c1_i32_28_r0 : BitVec 32 := 1#32
  ⟨c0_i32_26_r0, v32_r0, c1_i32_28_r0⟩
def k0_off4 (arg7_r0 : BitVec 32) : Fin 3 → Nat :=
  let c2_i32_852_r0 : BitVec 32 := 2#32
  let v713_r0 : BitVec 32 := Scalar.remui arg7_r0 c2_i32_852_r0
  let c0_i32_854_r0 : BitVec 32 := 0#32
  let c0_i32_855_r0 : BitVec 32 := 0#32
  ![v713_r0.toNat, 0, 0]
def k0_cond1 (i : grid0.Coords) (k0_t1 : Fin k0_t1_loop.trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c9_i32 : BitVec 32 := 9#32
  let v4 : BitVec 32 := Scalar.muli v3 c9_i32
  let v58_r0 : BitVec 32 := Scalar.addi arg11_r0 v4
  let true_55_r0 : BitVec 1 := 1#1
  let c1_i32_54_r0 : BitVec 32 := 1#32
  let v64_r0 : BitVec 32 := Scalar.addi arg11_r0 c1_i32_54_r0
  let v65_r0 : BitVec 32 := Scalar.select true_55_r0 v64_r0 arg11_r0
  let c9_i32_56_r0 : BitVec 32 := 9#32
  let v66_r0 : BitVec 1 := Scalar.cmpi .eq v65_r0 c9_i32_56_r0
  let c0_i32_57_r0 : BitVec 32 := 0#32
  let v67_r0 : BitVec 32 := Scalar.select v66_r0 c0_i32_57_r0 v65_r0
  let v68_r0 : BitVec 32 := Scalar.addi v67_r0 v4
  let v74_r0 : BitVec 1 := Scalar.cmpi .ne v58_r0 v68_r0
  let c0_i32_26_r0 : BitVec 32 := 0#32
  let c1_i32_28_r0 : BitVec 32 := 1#32
  let arg6_r0 : BitVec 32 := Scf.iv c0_i32_26_r0 c1_i32_28_r0 k0_t1
  let c8_i32_62_r0 : BitVec 32 := 8#32
  let v75_r0 : BitVec 1 := Scalar.cmpi .sge arg6_r0 c8_i32_62_r0
  let true_63_r0 : BitVec 1 := 1#1
  let v76_r0 : BitVec 1 := Scalar.xori v75_r0 true_63_r0
  let v77_r0 : BitVec 1 := Scalar.andi v74_r0 v76_r0
  let true_64_r0 : BitVec 1 := 1#1
  let v78_r0 : BitVec 1 := Scalar.andi v77_r0 true_64_r0
  let v79_r0 : BitVec 32 := Scalar.extui v78_r0
  let c0_i32_65_r0 : BitVec 32 := 0#32
  let v80_r0 : BitVec 1 := Scalar.cmpi .ne v79_r0 c0_i32_65_r0
  v80_r0

def k0_off5 (i : grid0.Coords) (arg11_r0 : BitVec 32) : Fin 2 → Nat :=
  let c0_i32_856_r0 : BitVec 32 := 0#32
  let c128_i32_853_r0 : BitVec 32 := 128#32
  let true_55_r0 : BitVec 1 := 1#1
  let c1_i32_54_r0 : BitVec 32 := 1#32
  let v64_r0 : BitVec 32 := Scalar.addi arg11_r0 c1_i32_54_r0
  let v65_r0 : BitVec 32 := Scalar.select true_55_r0 v64_r0 arg11_r0
  let c9_i32_56_r0 : BitVec 32 := 9#32
  let v66_r0 : BitVec 1 := Scalar.cmpi .eq v65_r0 c9_i32_56_r0
  let c0_i32_57_r0 : BitVec 32 := 0#32
  let v67_r0 : BitVec 32 := Scalar.select v66_r0 c0_i32_57_r0 v65_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c9_i32 : BitVec 32 := 9#32
  let v4 : BitVec 32 := Scalar.muli v3 c9_i32
  let v68_r0 : BitVec 32 := Scalar.addi v67_r0 v4
  let v714_r0 : BitVec 32 := Scalar.muli c128_i32_853_r0 v68_r0
  ![0, v714_r0.toNat]
def k0_off6 (arg7_r0 : BitVec 32) : Fin 1 → Nat :=
  let c2_i32_852_r0 : BitVec 32 := 2#32
  let v713_r0 : BitVec 32 := Scalar.remui arg7_r0 c2_i32_852_r0
  ![v713_r0.toNat]
def k0_off7 (arg8_r0 : BitVec 32) : Fin 3 → Nat :=
  let c2_i32_853_r0 : BitVec 32 := 2#32
  let v714_r0 : BitVec 32 := Scalar.remui arg8_r0 c2_i32_853_r0
  let c0_i32_854_r0 : BitVec 32 := 0#32
  let c0_i32_855_r0 : BitVec 32 := 0#32
  ![v714_r0.toNat, 0, 0]
def k0_cond2 (i : grid0.Coords) (k0_t1 : Fin k0_t1_loop.trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c9_i32 : BitVec 32 := 9#32
  let v4 : BitVec 32 := Scalar.muli v3 c9_i32
  let v58_r0 : BitVec 32 := Scalar.addi arg11_r0 v4
  let true_51_r0 : BitVec 1 := 1#1
  let c1_i32_50_r0 : BitVec 32 := 1#32
  let v59_r0 : BitVec 32 := Scalar.subi arg11_r0 c1_i32_50_r0
  let v60_r0 : BitVec 32 := Scalar.select true_51_r0 v59_r0 arg11_r0
  let c_m1_i32_52_r0 : BitVec 32 := 4294967295#32
  let v61_r0 : BitVec 1 := Scalar.cmpi .eq v60_r0 c_m1_i32_52_r0
  let c8_i32_53_r0 : BitVec 32 := 8#32
  let v62_r0 : BitVec 32 := Scalar.select v61_r0 c8_i32_53_r0 v60_r0
  let v63_r0 : BitVec 32 := Scalar.addi v62_r0 v4
  let v89_r0 : BitVec 1 := Scalar.cmpi .ne v58_r0 v63_r0
  let c0_i32_26_r0 : BitVec 32 := 0#32
  let c1_i32_28_r0 : BitVec 32 := 1#32
  let arg6_r0 : BitVec 32 := Scf.iv c0_i32_26_r0 c1_i32_28_r0 k0_t1
  let c0_i32_48_r0 : BitVec 32 := 0#32
  let v56_r0 : BitVec 1 := Scalar.cmpi .eq arg6_r0 c0_i32_48_r0
  let v90_r0 : BitVec 1 := Scalar.ori v89_r0 v56_r0
  let c0_i32_70_r0 : BitVec 32 := 0#32
  let v91_r0 : BitVec 1 := Scalar.cmpi .sge arg6_r0 c0_i32_70_r0
  let v92_r0 : BitVec 1 := Scalar.andi v90_r0 v91_r0
  let v93_r0 : BitVec 32 := Scalar.extui v92_r0
  let c0_i32_71_r0 : BitVec 32 := 0#32
  let v94_r0 : BitVec 1 := Scalar.cmpi .ne v93_r0 c0_i32_71_r0
  v94_r0

def k0_off8 (i : grid0.Coords) (arg11_r0 : BitVec 32) : Fin 2 → Nat :=
  let c0_i32_856_r0 : BitVec 32 := 0#32
  let c128_i32_852_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c9_i32 : BitVec 32 := 9#32
  let v4 : BitVec 32 := Scalar.muli v3 c9_i32
  let v58_r0 : BitVec 32 := Scalar.addi arg11_r0 v4
  let v713_r0 : BitVec 32 := Scalar.muli c128_i32_852_r0 v58_r0
  ![0, v713_r0.toNat]
def k0_off9 (arg8_r0 : BitVec 32) : Fin 1 → Nat :=
  let c2_i32_853_r0 : BitVec 32 := 2#32
  let v714_r0 : BitVec 32 := Scalar.remui arg8_r0 c2_i32_853_r0
  ![v714_r0.toNat]
def k0_off10 (arg9_r0 : BitVec 32) : Fin 3 → Nat :=
  let c1_i32_75_r0 : BitVec 32 := 1#32
  let v102_r0 : BitVec 32 := Scalar.remui arg9_r0 c1_i32_75_r0
  let c0_i32_77_r0 : BitVec 32 := 0#32
  let c0_i32_78_r0 : BitVec 32 := 0#32
  ![v102_r0.toNat, 0, 0]

def k0_chk2 (arg9_r0 : BitVec 32) : Prop :=
  (∀ a, (k0_off10 arg9_r0) a + S1x128x512.size a ≤ S1x128x512.size a)
theorem k0_off10_inb : ∀ (arg9_r0 : BitVec 32) (k0_hw2 : k0_chk2 arg9_r0), ∀ a, (k0_off10 arg9_r0) a + S1x128x512.size a ≤ S1x128x512.size a := fun arg9_r0 k0_hw2 => k0_hw2

def k0_off11 (arg8_r0 : BitVec 32) : Fin 3 → Nat :=
  let c2_i32_74_r0 : BitVec 32 := 2#32
  let v101_r0 : BitVec 32 := Scalar.remui arg8_r0 c2_i32_74_r0
  let c0_i32_81_r0 : BitVec 32 := 0#32
  let c0_i32_82_r0 : BitVec 32 := 0#32
  ![v101_r0.toNat, 0, 0]

def k0_chk3 (arg8_r0 : BitVec 32) : Prop :=
  (∀ a, (k0_off11 arg8_r0) a + S1x1x128.size a ≤ S2x1x128.size a)
theorem k0_off11_inb : ∀ (arg8_r0 : BitVec 32) (k0_hw3 : k0_chk3 arg8_r0), ∀ a, (k0_off11 arg8_r0) a + S1x1x128.size a ≤ S2x1x128.size a := fun arg8_r0 k0_hw3 => k0_hw3

def k0_off12 (arg9_r0 : BitVec 32) : Fin 3 → Nat :=
  let c1_i32_852_r0 : BitVec 32 := 1#32
  let v713_r0 : BitVec 32 := Scalar.remui arg9_r0 c1_i32_852_r0
  let c0_i32_854_r1 : BitVec 32 := 0#32
  let c0_i32_855_r1 : BitVec 32 := 0#32
  ![v713_r0.toNat, 0, 0]
def k0_cond5 (i : grid0.Coords) (k0_t1 : Fin k0_t1_loop.trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c9_i32 : BitVec 32 := 9#32
  let v4 : BitVec 32 := Scalar.muli v3 c9_i32
  let v58_r0 : BitVec 32 := Scalar.addi arg11_r0 v4
  let true_55_r0 : BitVec 1 := 1#1
  let c1_i32_54_r0 : BitVec 32 := 1#32
  let v64_r0 : BitVec 32 := Scalar.addi arg11_r0 c1_i32_54_r0
  let v65_r0 : BitVec 32 := Scalar.select true_55_r0 v64_r0 arg11_r0
  let c9_i32_56_r0 : BitVec 32 := 9#32
  let v66_r0 : BitVec 1 := Scalar.cmpi .eq v65_r0 c9_i32_56_r0
  let c0_i32_57_r0 : BitVec 32 := 0#32
  let v67_r0 : BitVec 32 := Scalar.select v66_r0 c0_i32_57_r0 v65_r0
  let v68_r0 : BitVec 32 := Scalar.addi v67_r0 v4
  let v684_r0 : BitVec 1 := Scalar.cmpi .ne v58_r0 v68_r0
  let c0_i32_26_r0 : BitVec 32 := 0#32
  let c1_i32_28_r0 : BitVec 32 := 1#32
  let arg6_r0 : BitVec 32 := Scf.iv c0_i32_26_r0 c1_i32_28_r0 k0_t1
  let c8_i32_49_r0 : BitVec 32 := 8#32
  let v57_r0 : BitVec 1 := Scalar.cmpi .eq arg6_r0 c8_i32_49_r0
  let v685_r0 : BitVec 1 := Scalar.ori v684_r0 v57_r0
  let v686_r0 : BitVec 32 := Scalar.extui v685_r0
  let c0_i32_837_r0 : BitVec 32 := 0#32
  let v687_r0 : BitVec 1 := Scalar.cmpi .ne v686_r0 c0_i32_837_r0
  v687_r0

def k0_off13 (i : grid0.Coords) (arg11_r0 : BitVec 32) : Fin 2 → Nat :=
  let c128_i32_853_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c9_i32 : BitVec 32 := 9#32
  let v4 : BitVec 32 := Scalar.muli v3 c9_i32
  let v58_r0 : BitVec 32 := Scalar.addi arg11_r0 v4
  let v714_r0 : BitVec 32 := Scalar.muli c128_i32_853_r0 v58_r0
  let c0_i32_856_r1 : BitVec 32 := 0#32
  ![v714_r0.toNat, 0]

def k0_chk1 (i : grid0.Coords) (k0_t1 : Fin k0_t1_loop.trips) (arg7_r0 : BitVec 32) (arg8_r0 : BitVec 32) (arg9_r0 : BitVec 32) (arg11_r0 : BitVec 32) : Prop :=
  (∀ (k0_h1 : k0_cond1 i k0_t1 arg11_r0 = 1#1), ∀ a, (k0_off4 arg7_r0) a + S1x1x128.size a ≤ S2x1x128.size a) ∧
  (∀ (k0_h1 : k0_cond1 i k0_t1 arg11_r0 = 1#1), ∀ a, (k0_off5 i arg11_r0) a + S1x128.size a ≤ S1x36864.size a) ∧
  (∀ (k0_h1 : k0_cond1 i k0_t1 arg11_r0 = 1#1), ∀ a, (k0_off6 arg7_r0) a + S1.size a ≤ S2.size a) ∧
  (∀ (k0_h2 : k0_cond2 i k0_t1 arg11_r0 = 1#1), ∀ a, (k0_off7 arg8_r0) a + S1x1x128.size a ≤ S2x1x128.size a) ∧
  (∀ (k0_h2 : k0_cond2 i k0_t1 arg11_r0 = 1#1), ∀ a, (k0_off8 i arg11_r0) a + S1x128.size a ≤ S1x36864.size a) ∧
  (∀ (k0_h2 : k0_cond2 i k0_t1 arg11_r0 = 1#1), ∀ a, (k0_off9 arg8_r0) a + S1.size a ≤ S2.size a) ∧
  (∀ (k0_h5 : k0_cond5 i k0_t1 arg11_r0 = 1#1), ∀ a, (k0_off12 arg9_r0) a + S1x128x512.size a ≤ S1x128x512.size a) ∧
  (∀ (k0_h5 : k0_cond5 i k0_t1 arg11_r0 = 1#1), ∀ a, (k0_off13 i arg11_r0) a + S128x512.size a ≤ S36864x512.size a)
theorem k0_off4_inb : ∀ (i : grid0.Coords) (k0_t1 : Fin k0_t1_loop.trips) (arg7_r0 : BitVec 32) (arg8_r0 : BitVec 32) (arg9_r0 : BitVec 32) (arg11_r0 : BitVec 32) (k0_hw1 : k0_chk1 i k0_t1 arg7_r0 arg8_r0 arg9_r0 arg11_r0), ∀ (k0_h1 : k0_cond1 i k0_t1 arg11_r0 = 1#1), ∀ a, (k0_off4 arg7_r0) a + S1x1x128.size a ≤ S2x1x128.size a := fun i k0_t1 arg7_r0 arg8_r0 arg9_r0 arg11_r0 k0_hw1 k0_h1 => k0_hw1.1 k0_h1
theorem k0_off5_inb : ∀ (i : grid0.Coords) (k0_t1 : Fin k0_t1_loop.trips) (arg7_r0 : BitVec 32) (arg8_r0 : BitVec 32) (arg9_r0 : BitVec 32) (arg11_r0 : BitVec 32) (k0_hw1 : k0_chk1 i k0_t1 arg7_r0 arg8_r0 arg9_r0 arg11_r0), ∀ (k0_h1 : k0_cond1 i k0_t1 arg11_r0 = 1#1), ∀ a, (k0_off5 i arg11_r0) a + S1x128.size a ≤ S1x36864.size a := fun i k0_t1 arg7_r0 arg8_r0 arg9_r0 arg11_r0 k0_hw1 k0_h1 => k0_hw1.2.1 k0_h1
theorem k0_off6_inb : ∀ (i : grid0.Coords) (k0_t1 : Fin k0_t1_loop.trips) (arg7_r0 : BitVec 32) (arg8_r0 : BitVec 32) (arg9_r0 : BitVec 32) (arg11_r0 : BitVec 32) (k0_hw1 : k0_chk1 i k0_t1 arg7_r0 arg8_r0 arg9_r0 arg11_r0), ∀ (k0_h1 : k0_cond1 i k0_t1 arg11_r0 = 1#1), ∀ a, (k0_off6 arg7_r0) a + S1.size a ≤ S2.size a := fun i k0_t1 arg7_r0 arg8_r0 arg9_r0 arg11_r0 k0_hw1 k0_h1 => k0_hw1.2.2.1 k0_h1
theorem k0_off7_inb : ∀ (i : grid0.Coords) (k0_t1 : Fin k0_t1_loop.trips) (arg7_r0 : BitVec 32) (arg8_r0 : BitVec 32) (arg9_r0 : BitVec 32) (arg11_r0 : BitVec 32) (k0_hw1 : k0_chk1 i k0_t1 arg7_r0 arg8_r0 arg9_r0 arg11_r0), ∀ (k0_h2 : k0_cond2 i k0_t1 arg11_r0 = 1#1), ∀ a, (k0_off7 arg8_r0) a + S1x1x128.size a ≤ S2x1x128.size a := fun i k0_t1 arg7_r0 arg8_r0 arg9_r0 arg11_r0 k0_hw1 k0_h2 => k0_hw1.2.2.2.1 k0_h2
theorem k0_off8_inb : ∀ (i : grid0.Coords) (k0_t1 : Fin k0_t1_loop.trips) (arg7_r0 : BitVec 32) (arg8_r0 : BitVec 32) (arg9_r0 : BitVec 32) (arg11_r0 : BitVec 32) (k0_hw1 : k0_chk1 i k0_t1 arg7_r0 arg8_r0 arg9_r0 arg11_r0), ∀ (k0_h2 : k0_cond2 i k0_t1 arg11_r0 = 1#1), ∀ a, (k0_off8 i arg11_r0) a + S1x128.size a ≤ S1x36864.size a := fun i k0_t1 arg7_r0 arg8_r0 arg9_r0 arg11_r0 k0_hw1 k0_h2 => k0_hw1.2.2.2.2.1 k0_h2
theorem k0_off9_inb : ∀ (i : grid0.Coords) (k0_t1 : Fin k0_t1_loop.trips) (arg7_r0 : BitVec 32) (arg8_r0 : BitVec 32) (arg9_r0 : BitVec 32) (arg11_r0 : BitVec 32) (k0_hw1 : k0_chk1 i k0_t1 arg7_r0 arg8_r0 arg9_r0 arg11_r0), ∀ (k0_h2 : k0_cond2 i k0_t1 arg11_r0 = 1#1), ∀ a, (k0_off9 arg8_r0) a + S1.size a ≤ S2.size a := fun i k0_t1 arg7_r0 arg8_r0 arg9_r0 arg11_r0 k0_hw1 k0_h2 => k0_hw1.2.2.2.2.2.1 k0_h2
theorem k0_off12_inb : ∀ (i : grid0.Coords) (k0_t1 : Fin k0_t1_loop.trips) (arg7_r0 : BitVec 32) (arg8_r0 : BitVec 32) (arg9_r0 : BitVec 32) (arg11_r0 : BitVec 32) (k0_hw1 : k0_chk1 i k0_t1 arg7_r0 arg8_r0 arg9_r0 arg11_r0), ∀ (k0_h5 : k0_cond5 i k0_t1 arg11_r0 = 1#1), ∀ a, (k0_off12 arg9_r0) a + S1x128x512.size a ≤ S1x128x512.size a := fun i k0_t1 arg7_r0 arg8_r0 arg9_r0 arg11_r0 k0_hw1 k0_h5 => k0_hw1.2.2.2.2.2.2.1 k0_h5
theorem k0_off13_inb : ∀ (i : grid0.Coords) (k0_t1 : Fin k0_t1_loop.trips) (arg7_r0 : BitVec 32) (arg8_r0 : BitVec 32) (arg9_r0 : BitVec 32) (arg11_r0 : BitVec 32) (k0_hw1 : k0_chk1 i k0_t1 arg7_r0 arg8_r0 arg9_r0 arg11_r0), ∀ (k0_h5 : k0_cond5 i k0_t1 arg11_r0 = 1#1), ∀ a, (k0_off13 i arg11_r0) a + S128x512.size a ≤ S36864x512.size a := fun i k0_t1 arg7_r0 arg8_r0 arg9_r0 arg11_r0 k0_hw1 k0_h5 => k0_hw1.2.2.2.2.2.2.2 k0_h5

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S16384x512 : Shape := ⟨2, ![16384, 512]⟩
abbrev S36864 : Shape := ⟨1, ![36864]⟩
abbrev S36864x1 : Shape := ⟨2, ![36864, 1]⟩
abbrev S36864x512 : Shape := ⟨2, ![36864, 512]⟩

abbrev nBuf : Space → Nat
  | .hbm => 4
  | .vmem => 0
  | .smem => 0
  | _ => 0

abbrev bufTy : (tb : Table) → Fin (tcTables nBuf tb) → BufTy
  | .hbm, ⟨0, _⟩ => ⟨S16384x512, .i32⟩
  | .hbm, ⟨1, _⟩ => ⟨S36864, .i32⟩
  | .hbm, ⟨2, _⟩ => ⟨S36864x1, .i32⟩
  | .hbm, ⟨3, _⟩ => ⟨S36864x512, .i32⟩
  | _, _ => ⟨S16384x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Kernel2.lean ====
abbrev S72 : Shape := ⟨1, ![72]⟩
abbrev S1 : Shape := ⟨1, ![1]⟩
abbrev S36864x512 : Shape := ⟨2, ![36864, 512]⟩
abbrev S8x1024x3584 : Shape := ⟨3, ![8, 1024, 3584]⟩
abbrev S8x3584x1024 : Shape := ⟨3, ![8, 3584, 1024]⟩
abbrev S36864x1024 : Shape := ⟨2, ![36864, 1024]⟩
abbrev S512x512 : Shape := ⟨2, ![512, 512]⟩
abbrev S1x1024x1792 : Shape := ⟨3, ![1, 1024, 1792]⟩
abbrev S1x1792x1024 : Shape := ⟨3, ![1, 1792, 1024]⟩
abbrev S512x1024 : Shape := ⟨2, ![512, 1024]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 8
  | .vmem => 11
  | .smem => 2
  | _ => 0

abbrev bufTy : (tb : Table) → Fin (tcTables nBuf tb) → BufTy
  | .hbm, ⟨0, _⟩ => ⟨S36864x512, .i32⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S8x1024x3584, .bf16⟩
  | .hbm, ⟨5, _⟩ => ⟨S8x1024x3584, .bf16⟩
  | .hbm, ⟨6, _⟩ => ⟨S8x3584x1024, .bf16⟩
  | .hbm, ⟨7, _⟩ => ⟨S36864x1024, .bf16⟩
  | .local _ .vmem, ⟨0, _⟩ => ⟨S512x512, .i32⟩
  | .local _ .vmem, ⟨1, _⟩ => ⟨S512x512, .i32⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .smem, ⟨0, _⟩ => ⟨S72, .i32⟩
  | .local _ .smem, ⟨1, _⟩ => ⟨S1, .i32⟩
  | _, _ => ⟨S36864x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 2], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c1_i32 : BitVec 32 := 1#32
  let v7 : BitVec 1 := Scalar.cmpi .eq arg1 c1_i32
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S72 : Shape := ⟨1, ![72]⟩
abbrev S1 : Shape := ⟨1, ![1]⟩
abbrev S36864x512 : Shape := ⟨2, ![36864, 512]⟩
abbrev S8x1024x3584 : Shape := ⟨3, ![8, 1024, 3584]⟩
abbrev S8x3584x1024 : Shape := ⟨3, ![8, 3584, 1024]⟩
abbrev S_ : Shape := ⟨0, ![]⟩
abbrev S36864x1024 : Shape := ⟨2, ![36864, 1024]⟩
abbrev S36864 : Shape := ⟨1, ![36864]⟩
abbrev S36864x1 : Shape := ⟨2, ![36864, 1]⟩
abbrev S1x8 : Shape := ⟨2, ![1, 8]⟩
abbrev S36864x8 : Shape := ⟨2, ![36864, 8]⟩
abbrev S8x3584x36864 : Shape := ⟨3, ![8, 3584, 36864]⟩
abbrev S8x36864x3584 : Shape := ⟨3, ![8, 36864, 3584]⟩
abbrev S8x36864x1024 : Shape := ⟨3, ![8, 36864, 1024]⟩
abbrev S8x36864 : Shape := ⟨2, ![8, 36864]⟩
abbrev S8x36864x1 : Shape := ⟨3, ![8, 36864, 1]⟩

abbrev nBuf : Space → Nat
  | .hbm => 78
  | .vmem => 0
  | .smem => 0
  | _ => 0

abbrev bufTy : (tb : Table) → Fin (tcTables nBuf tb) → BufTy
  | .hbm, ⟨0, _⟩ => ⟨S72, .i32⟩
  | .hbm, ⟨1, _⟩ => ⟨S1, .i32⟩
  | .hbm, ⟨2, _⟩ => ⟨S36864x512, .i32⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S_, .i32⟩
  | .hbm, ⟨7, _⟩ => ⟨S36864x512, .i32⟩
  | .hbm, ⟨8, _⟩ => ⟨S36864x512, .i32⟩
  | .hbm, ⟨9, _⟩ => ⟨S36864x512, .f32⟩
  | .hbm, ⟨10, _⟩ => ⟨S_, .i32⟩
  | .hbm, ⟨11, _⟩ => ⟨S36864x512, .i32⟩
  | .hbm, ⟨12, _⟩ => ⟨S36864x512, .i32⟩
  | .hbm, ⟨13, _⟩ => ⟨S36864x512, .f32⟩
  | .hbm, ⟨14, _⟩ => ⟨S36864x1024, .f32⟩
  | .hbm, ⟨15, _⟩ => ⟨S36864, .i32⟩
  | .hbm, ⟨16, _⟩ => ⟨S_, .i32⟩
  | .hbm, ⟨17, _⟩ => ⟨S_, .i32⟩
  | .hbm, ⟨18, _⟩ => ⟨S36864, .i32⟩
  | .hbm, ⟨19, _⟩ => ⟨S36864, .i32⟩
  | .hbm, ⟨20, _⟩ => ⟨S36864, .i32⟩
  | .hbm, ⟨21, _⟩ => ⟨S_, .i32⟩
  | .hbm, ⟨22, _⟩ => ⟨S36864, .i32⟩
  | .hbm, ⟨23, _⟩ => ⟨S36864, .i1⟩
  | .hbm, ⟨24, _⟩ => ⟨S36864, .i32⟩
  | .hbm, ⟨25, _⟩ => ⟨S36864, .i32⟩
  | .hbm, ⟨26, _⟩ => ⟨S_, .i32⟩
  | .hbm, ⟨27, _⟩ => ⟨S36864, .i32⟩
  | .hbm, ⟨28, _⟩ => ⟨S36864, .i1⟩
  | .hbm, ⟨29, _⟩ => ⟨S36864, .i1⟩
  | .hbm, ⟨30, _⟩ => ⟨S_, .i32⟩
  | .hbm, ⟨31, _⟩ => ⟨S36864, .i32⟩
  | .hbm, ⟨32, _⟩ => ⟨S36864, .i32⟩
  | .hbm, ⟨33, _⟩ => ⟨S36864, .i32⟩
  | .hbm, ⟨34, _⟩ => ⟨S_, .i32⟩
  | .hbm, ⟨35, _⟩ => ⟨S36864, .i32⟩
  | .hbm, ⟨36, _⟩ => ⟨S36864, .i1⟩
  | .hbm, ⟨37, _⟩ => ⟨S_, .i32⟩
  | .hbm, ⟨38, _⟩ => ⟨S36864, .i32⟩
  | .hbm, ⟨39, _⟩ => ⟨S36864, .i1⟩
  | .hbm, ⟨40, _⟩ => ⟨S_, .i32⟩
  | .hbm, ⟨41, _⟩ => ⟨S36864, .i32⟩
  | .hbm, ⟨42, _⟩ => ⟨S36864, .i32⟩
  | .hbm, ⟨43, _⟩ => ⟨S36864, .i32⟩
  | .hbm, ⟨44, _⟩ => ⟨S36864x1, .i32⟩
  | .hbm, ⟨45, _⟩ => ⟨S36864, .i32⟩
  | .hbm, ⟨46, _⟩ => ⟨S_, .i32⟩
  | .hbm, ⟨47, _⟩ => ⟨S_, .i32⟩
  | .hbm, ⟨48, _⟩ => ⟨S36864, .i32⟩
  | .hbm, ⟨49, _⟩ => ⟨S36864, .i32⟩
  | .hbm, ⟨50, _⟩ => ⟨S36864x1, .i32⟩
  | .hbm, ⟨51, _⟩ => ⟨S1x8, .i32⟩
  | .hbm, ⟨52, _⟩ => ⟨S36864x8, .i32⟩
  | .hbm, ⟨53, _⟩ => ⟨S36864x8, .i32⟩
  | .hbm, ⟨54, _⟩ => ⟨S36864x8, .i1⟩
  | .hbm, ⟨55, _⟩ => ⟨S36864x8, .f32⟩
  | .hbm, ⟨56, _⟩ => ⟨S8x3584x36864, .f32⟩
  | .hbm, ⟨57, _⟩ => ⟨S8x36864x3584, .f32⟩
  | .hbm, ⟨58, _⟩ => ⟨S8x36864x3584, .f32⟩
  | .hbm, ⟨59, _⟩ => ⟨S8x36864x3584, .f32⟩
  | .hbm, ⟨60, _⟩ => ⟨S_, .f32⟩
  | .hbm, ⟨61, _⟩ => ⟨S8x36864x3584, .f32⟩
  | .hbm, ⟨62, _⟩ => ⟨S8x36864x3584, .f32⟩
  | .hbm, ⟨63, _⟩ => ⟨S_, .f32⟩
  | .hbm, ⟨64, _⟩ => ⟨S8x36864x3584, .f32⟩
  | .hbm, ⟨65, _⟩ => ⟨S8x36864x3584, .f32⟩
  | .hbm, ⟨66, _⟩ => ⟨S8x36864x3584, .f32⟩
  | .hbm, ⟨67, _⟩ => ⟨S8x3584x36864, .f32⟩
  | .hbm, ⟨68, _⟩ => ⟨S8x36864x3584, .f32⟩
  | .hbm, ⟨69, _⟩ => ⟨S8x36864x3584, .f32⟩
  | .hbm, ⟨70, _⟩ => ⟨S8x36864x1024, .f32⟩
  | .hbm, ⟨71, _⟩ => ⟨S8x36864, .f32⟩
  | .hbm, ⟨72, _⟩ => ⟨S8x36864x1, .f32⟩
  | .hbm, ⟨73, _⟩ => ⟨S8x36864x1024, .f32⟩
  | .hbm, ⟨74, _⟩ => ⟨S8x36864x1024, .f32⟩
  | .hbm, ⟨75, _⟩ => ⟨S_, .f32⟩
  | .hbm, ⟨76, _⟩ => ⟨S36864x1024, .f32⟩
  | .hbm, ⟨77, _⟩ => ⟨S36864x1024, .bf16⟩
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_c_2 : Ref sig .tc := ⟨.hbm, 37, rfl⟩
abbrev main_v12 : Ref sig .tc := ⟨.hbm, 38, rfl⟩
abbrev main_v13 : Ref sig .tc := ⟨.hbm, 39, rfl⟩
abbrev main_c_3 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c_4 : Ref sig .tc := ⟨.hbm, 46, rfl⟩
abbrev main_call1_v0 : Ref sig .tc := ⟨.hbm, 47, rfl⟩
abbrev main_call1_v1 : Ref sig .tc := ⟨.hbm, 48, rfl⟩
abbrev main_v19 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_call3_v0 : Ref sig .tc := ⟨.hbm, 58, rfl⟩
abbrev main_call3_v1 : Ref sig .tc := ⟨.hbm, 59, rfl⟩
abbrev main_call3_cst : Ref sig .tc := ⟨.hbm, 60, rfl⟩
abbrev main_call3_v2 : Ref sig .tc := ⟨.hbm, 61, rfl⟩
abbrev main_call3_v3 : Ref sig .tc := ⟨.hbm, 62, rfl⟩
abbrev main_call3_cst_0 : Ref sig .tc := ⟨.hbm, 63, rfl⟩
abbrev main_call3_v4 : Ref sig .tc := ⟨.hbm, 64, rfl⟩
abbrev main_call3_v5 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_cst : Ref sig .tc := ⟨.hbm, 75, rfl⟩
abbrev main_v32 : Ref sig .tc := ⟨.hbm, 76, rfl⟩
abbrev main_v33 : Ref sig .tc := ⟨.hbm, 77, rfl⟩

abbrev nD : Nat := 1
abbrev τ : Topo := Topo.v7x

variable {F : FTy → Type} [FloatOps F]
-- ==== Kernel3.lean ====
abbrev S16384x1024 : Shape := ⟨2, ![16384, 1024]⟩
abbrev S8x6144 : Shape := ⟨2, ![8, 6144]⟩
abbrev S16384x128 : Shape := ⟨2, ![16384, 128]⟩
abbrev S36864x1024 : Shape := ⟨2, ![36864, 1024]⟩
abbrev S32768 : Shape := ⟨1, ![32768]⟩
abbrev S16384 : Shape := ⟨1, ![16384]⟩
abbrev S16384x1 : Shape := ⟨2, ![16384, 1]⟩
abbrev S512x1024 : Shape := ⟨2, ![512, 1024]⟩
abbrev S512x128 : Shape := ⟨2, ![512, 128]⟩
abbrev S512x1 : Shape := ⟨2, ![512, 1]⟩
abbrev S1x1024 : Shape := ⟨2, ![1, 1024]⟩
abbrev S1x16384x1024 : Shape := ⟨3, ![1, 16384, 1024]⟩

abbrev nBuf : Space → Nat
  | .hbm => 13
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S8x6144, .f32⟩
  | .hbm, ⟨2, _⟩ => ⟨S16384x128, .f32⟩
  | .hbm, ⟨3, _⟩ => ⟨S36864x1024, .bf16⟩
  | .hbm, ⟨4, _⟩ => ⟨S32768, .i32⟩
  | .hbm, ⟨5, _⟩ => ⟨S16384, .i32⟩
  | .hbm, ⟨6, _⟩ => ⟨S16384x1, .i32⟩
  | .hbm, ⟨7, _⟩ => ⟨S16384x1024, .bf16⟩
  | .hbm, ⟨8, _⟩ => ⟨S16384, .i32⟩
  | .hbm, ⟨9, _⟩ => ⟨S16384x1, .i32⟩
  | .hbm, ⟨10, _⟩ => ⟨S16384x1024, .bf16⟩
  | .hbm, ⟨11, _⟩ => ⟨S16384x1024, .f32⟩
  | .hbm, ⟨12, _⟩ => ⟨S1x16384x1024, .f32⟩
  | .local _ .vmem, ⟨0, _⟩ => ⟨S512x1024, .f32⟩
  | .local _ .vmem, ⟨1, _⟩ => ⟨S512x1024, .f32⟩
  | .local _ .vmem, ⟨2, _⟩ => ⟨S8x6144, .f32⟩
  | .local _ .vmem, ⟨3, _⟩ => ⟨S512x128, .f32⟩
  | .local _ .vmem, ⟨4, _⟩ => ⟨S512x128, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S16384x1024 : Shape := ⟨2, ![16384, 1024]⟩
abbrev S8x6144 : Shape := ⟨2, ![8, 6144]⟩
abbrev S16384x128 : Shape := ⟨2, ![16384, 128]⟩
abbrev S36864x1024 : Shape := ⟨2, ![36864, 1024]⟩
abbrev S32768 : Shape := ⟨1, ![32768]⟩
abbrev S1x1024 : Shape := ⟨2, ![1, 1024]⟩
abbrev S2x16384 : Shape := ⟨2, ![2, 16384]⟩
abbrev S2x16384x1 : Shape := ⟨3, ![2, 16384, 1]⟩
abbrev S2x16384x1024 : Shape := ⟨3, ![2, 16384, 1024]⟩
abbrev S16384x2 : Shape := ⟨2, ![16384, 2]⟩
abbrev S_ : Shape := ⟨0, ![]⟩
abbrev S1x16384x1024 : Shape := ⟨3, ![1, 16384, 1024]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x6144, .f32⟩
  | .hbm, ⟨2, _⟩ => ⟨S16384x128, .f32⟩
  | .hbm, ⟨3, _⟩ => ⟨S36864x1024, .bf16⟩
  | .hbm, ⟨4, _⟩ => ⟨S32768, .i32⟩
  | .hbm, ⟨5, _⟩ => ⟨S1x1024, .f32⟩
  | .hbm, ⟨6, _⟩ => ⟨S2x16384, .i32⟩
  | .hbm, ⟨7, _⟩ => ⟨S2x16384x1, .i32⟩
  | .hbm, ⟨8, _⟩ => ⟨S2x16384x1024, .bf16⟩
  | .hbm, ⟨9, _⟩ => ⟨S2x16384x1024, .f32⟩
  | .hbm, ⟨10, _⟩ => ⟨S16384x2, .f32⟩
  | .hbm, ⟨11, _⟩ => ⟨S2x16384, .f32⟩
  | .hbm, ⟨12, _⟩ => ⟨S2x16384x1, .f32⟩
  | .hbm, ⟨13, _⟩ => ⟨S2x16384x1024, .f32⟩
  | .hbm, ⟨14, _⟩ => ⟨S2x16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S1x16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Kernel4.lean ====
abbrev S1x16384x1024 : Shape := ⟨3, ![1, 16384, 1024]⟩
abbrev S1x256x1024 : Shape := ⟨3, ![1, 256, 1024]⟩
abbrev S8x6144 : Shape := ⟨2, ![8, 6144]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S256x1024 : Shape := ⟨2, ![256, 1024]⟩
abbrev S16640x1024 : Shape := ⟨2, ![16640, 1024]⟩
abbrev S1x1024 : Shape := ⟨2, ![1, 1024]⟩
abbrev S640x1024 : Shape := ⟨2, ![640, 1024]⟩
abbrev S640 : Shape := ⟨1, ![640]⟩
abbrev S640x1 : Shape := ⟨2, ![640, 1]⟩
abbrev S640x2816 : Shape := ⟨2, ![640, 2816]⟩

abbrev nBuf : Space → Nat
  | .hbm => 15
  | .vmem => 9
  | .smem => 0
  | _ => 0

abbrev bufTy : (tb : Table) → Fin (tcTables nBuf tb) → BufTy
  | .hbm, ⟨0, _⟩ => ⟨S1x16384x1024, .f32⟩
  | .hbm, ⟨1, _⟩ => ⟨S1x256x1024, .f32⟩
  | .hbm, ⟨2, _⟩ => ⟨S8x6144, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S16384x1024, .f32⟩
  | .hbm, ⟨8, _⟩ => ⟨S256x1024, .f32⟩
  | .hbm, ⟨9, _⟩ => ⟨S16640x1024, .f32⟩
  | .hbm, ⟨10, _⟩ => ⟨S1x1024, .f32⟩
  | .hbm, ⟨11, _⟩ => ⟨S1024x2816, .bf16⟩
  | .hbm, ⟨12, _⟩ => ⟨S1024x2816, .bf16⟩
  | .hbm, ⟨13, _⟩ => ⟨S2816x1024, .bf16⟩
  | .hbm, ⟨14, _⟩ => ⟨S16640x1024, .f32⟩
  | .local _ .vmem, ⟨0, _⟩ => ⟨S640x1024, .f32⟩
  | .local _ .vmem, ⟨1, _⟩ => ⟨S640x1024, .f32⟩
  | .local _ .vmem, ⟨2, _⟩ => ⟨S8x6144, .f32⟩
  | .local _ .vmem, ⟨3, _⟩ => ⟨S1x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S640x1024, .f32⟩
  | .local _ .vmem, ⟨8, _⟩ => ⟨S640x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S640x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S1x16384x1024 : Shape := ⟨3, ![1, 16384, 1024]⟩
abbrev S1x256x1024 : Shape := ⟨3, ![1, 256, 1024]⟩
abbrev S8x6144 : Shape := ⟨2, ![8, 6144]⟩
abbrev S1024 : Shape := ⟨1, ![1024]⟩
abbrev S1024x2816 : Shape := ⟨2, ![1024, 2816]⟩
abbrev S2816x1024 : Shape := ⟨2, ![2816, 1024]⟩
abbrev S1x6144 : Shape := ⟨2, ![1, 6144]⟩
abbrev S6144 : Shape := ⟨1, ![6144]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1x16384x2816 : Shape := ⟨3, ![1, 16384, 2816]⟩
abbrev S16384x1024 : Shape := ⟨2, ![16384, 1024]⟩
abbrev S1x256 : Shape := ⟨2, ![1, 256]⟩
abbrev S1x256x1 : Shape := ⟨3, ![1, 256, 1]⟩
abbrev S1x256x2816 : Shape := ⟨3, ![1, 256, 2816]⟩
abbrev S256x1024 : Shape := ⟨2, ![256, 1024]⟩
abbrev S16640x1024 : Shape := ⟨2, ![16640, 1024]⟩

abbrev nBuf : Space → Nat
  | .hbm => 104
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x256x1024, .f32⟩
  | .hbm, ⟨2, _⟩ => ⟨S8x6144, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1x6144, .f32⟩
  | .hbm, ⟨8, _⟩ => ⟨S6144, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1x16384x1024, .f32⟩
  | .hbm, ⟨13, _⟩ => ⟨S_, .f32⟩
  | .hbm, ⟨14, _⟩ => ⟨S1x16384, .f32⟩
  | .hbm, ⟨15, _⟩ => ⟨S1x16384x1, .f32⟩
  | .hbm, ⟨16, _⟩ => ⟨S_, .f32⟩
  | .hbm, ⟨17, _⟩ => ⟨S1x16384x1, .f32⟩
  | .hbm, ⟨18, _⟩ => ⟨S1x16384x1, .f32⟩
  | .hbm, ⟨19, _⟩ => ⟨S_, .f32⟩
  | .hbm, ⟨20, _⟩ => ⟨S1x16384x1, .f32⟩
  | .hbm, ⟨21, _⟩ => ⟨S1x16384x1, .f32⟩
  | .hbm, ⟨22, _⟩ => ⟨S1x16384x1, .f32⟩
  | .hbm, ⟨23, _⟩ => ⟨S1x16384x1024, .f32⟩
  | .hbm, ⟨24, _⟩ => ⟨S1x16384x1024, .f32⟩
  | .hbm, ⟨25, _⟩ => ⟨S1x1x1024, .f32⟩
  | .hbm, ⟨26, _⟩ => ⟨S1x16384x1024, .f32⟩
  | .hbm, ⟨27, _⟩ => ⟨S1x16384x1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1x1x1024, .f32⟩
  | .hbm, ⟨32, _⟩ => ⟨S1x16384x1024, .f32⟩
  | .hbm, ⟨33, _⟩ => ⟨S1x16384x1024, .f32⟩
  | .hbm, ⟨34, _⟩ => ⟨S1x1x1024, .f32⟩
  | .hbm, ⟨35, _⟩ => ⟨S1x16384x1024, .f32⟩
  | .hbm, ⟨36, _⟩ => ⟨S1x16384x1024, .f32⟩
  | .hbm, ⟨37, _⟩ => ⟨S1x16384x2816, .f32⟩
  | .hbm, ⟨38, _⟩ => ⟨S1x16384x2816, .f32⟩
  | .hbm, ⟨39, _⟩ => ⟨S1x16384x2816, .f32⟩
  | .hbm, ⟨40, _⟩ => ⟨S_, .f32⟩
  | .hbm, ⟨41, _⟩ => ⟨S1x16384x2816, .f32⟩
  | .hbm, ⟨42, _⟩ => ⟨S1x16384x2816, .f32⟩
  | .hbm, ⟨43, _⟩ => ⟨S_, .f32⟩
  | .hbm, ⟨44, _⟩ => ⟨S1x16384x2816, .f32⟩
  | .hbm, ⟨45, _⟩ => ⟨S1x16384x2816, .f32⟩
  | .hbm, ⟨46, _⟩ => ⟨S1x16384x2816, .f32⟩
  | .hbm, ⟨47, _⟩ => ⟨S1x16384x2816, .f32⟩
  | .hbm, ⟨48, _⟩ => ⟨S1x16384x2816, .f32⟩
  | .hbm, ⟨49, _⟩ => ⟨S1x16384x1024, .f32⟩
  | .hbm, ⟨50, _⟩ => ⟨S1x1x1024, .f32⟩
  | .hbm, ⟨51, _⟩ => ⟨S1x16384x1024, .f32⟩
  | .hbm, ⟨52, _⟩ => ⟨S1x16384x1024, .f32⟩
  | .hbm, ⟨53, _⟩ => ⟨S1x16384x1024, .f32⟩
  | .hbm, ⟨54, _⟩ => ⟨S16384x1024, .f32⟩
  | .hbm, ⟨55, _⟩ => ⟨S1x6144, .f32⟩
  | .hbm, ⟨56, _⟩ => ⟨S6144, .f32⟩
  | .hbm, ⟨57, _⟩ => ⟨S1024, .f32⟩
  | .hbm, ⟨58, _⟩ => ⟨S1024, .f32⟩
  | .hbm, ⟨59, _⟩ => ⟨S1024, .f32⟩
  | .hbm, ⟨60, _⟩ => ⟨S1x256x1024, .f32⟩
  | .hbm, ⟨61, _⟩ => ⟨S_, .f32⟩
  | .hbm, ⟨62, _⟩ => ⟨S1x256, .f32⟩
  | .hbm, ⟨63, _⟩ => ⟨S1x256x1, .f32⟩
  | .hbm, ⟨64, _⟩ => ⟨S_, .f32⟩
  | .hbm, ⟨65, _⟩ => ⟨S1x256x1, .f32⟩
  | .hbm, ⟨66, _⟩ => ⟨S1x256x1, .f32⟩
  | .hbm, ⟨67, _⟩ => ⟨S_, .f32⟩
  | .hbm, ⟨68, _⟩ => ⟨S1x256x1, .f32⟩
  | .hbm, ⟨69, _⟩ => ⟨S1x256x1, .f32⟩
  | .hbm, ⟨70, _⟩ => ⟨S1x256x1, .f32⟩
  | .hbm, ⟨71, _⟩ => ⟨S1x256x1024, .f32⟩
  | .hbm, ⟨72, _⟩ => ⟨S1x256x1024, .f32⟩
  | .hbm, ⟨73, _⟩ => ⟨S1x1x1024, .f32⟩
  | .hbm, ⟨74, _⟩ => ⟨S1x256x1024, .f32⟩
  | .hbm, ⟨75, _⟩ => ⟨S1x256x1024, .f32⟩
  | .hbm, ⟨76, _⟩ => ⟨S_, .f32⟩
  | .hbm, ⟨77, _⟩ => ⟨S1024, .f32⟩
  | .hbm, ⟨78, _⟩ => ⟨S1024, .f32⟩
  | .hbm, ⟨79, _⟩ => ⟨S1x1x1024, .f32⟩
  | .hbm, ⟨80, _⟩ => ⟨S1x256x1024, .f32⟩
  | .hbm, ⟨81, _⟩ => ⟨S1x256x1024, .f32⟩
  | .hbm, ⟨82, _⟩ => ⟨S1x1x1024, .f32⟩
  | .hbm, ⟨83, _⟩ => ⟨S1x256x1024, .f32⟩
  | .hbm, ⟨84, _⟩ => ⟨S1x256x1024, .f32⟩
  | .hbm, ⟨85, _⟩ => ⟨S1x256x2816, .f32⟩
  | .hbm, ⟨86, _⟩ => ⟨S1x256x2816, .f32⟩
  | .hbm, ⟨87, _⟩ => ⟨S1x256x2816, .f32⟩
  | .hbm, ⟨88, _⟩ => ⟨S_, .f32⟩
  | .hbm, ⟨89, _⟩ => ⟨S1x256x2816, .f32⟩
  | .hbm, ⟨90, _⟩ => ⟨S1x256x2816, .f32⟩
  | .hbm, ⟨91, _⟩ => ⟨S_, .f32⟩
  | .hbm, ⟨92, _⟩ => ⟨S1x256x2816, .f32⟩
  | .hbm, ⟨93, _⟩ => ⟨S1x256x2816, .f32⟩
  | .hbm, ⟨94, _⟩ => ⟨S1x256x2816, .f32⟩
  | .hbm, ⟨95, _⟩ => ⟨S1x256x2816, .f32⟩
  | .hbm, ⟨96, _⟩ => ⟨S1x256x2816, .f32⟩
  | .hbm, ⟨97, _⟩ => ⟨S1x256x1024, .f32⟩
  | .hbm, ⟨98, _⟩ => ⟨S1x1x1024, .f32⟩
  | .hbm, ⟨99, _⟩ => ⟨S1x256x1024, .f32⟩
  | .hbm, ⟨100, _⟩ => ⟨S1x256x1024, .f32⟩
  | .hbm, ⟨101, _⟩ => ⟨S1x256x1024, .f32⟩
  | .hbm, ⟨102, _⟩ => ⟨S256x1024, .f32⟩
  | .hbm, ⟨103, _⟩ => ⟨S16640x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_3 : Ref sig .tc := ⟨.hbm, 61, rfl⟩
abbrev main_v42 : Ref sig .tc := ⟨.hbm, 62, rfl⟩
abbrev main_v43 : Ref sig .tc := ⟨.hbm, 63, rfl⟩
abbrev main_cst_4 : Ref sig .tc := ⟨.hbm, 64, rfl⟩
abbrev main_v44 : Ref sig .tc := ⟨.hbm, 65, rfl⟩
abbrev main_v45 : Ref sig .tc := ⟨.hbm, 66, rfl⟩
abbrev main_cst_5 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_6 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_call1_v0 : Ref sig .tc := ⟨.hbm, 86, rfl⟩
abbrev main_call1_v1 : Ref sig .tc := ⟨.hbm, 87, rfl⟩
abbrev main_call1_cst : Ref sig .tc := ⟨.hbm, 88, rfl⟩
abbrev main_call1_v2 : Ref sig .tc := ⟨.hbm, 89, rfl⟩
abbrev main_call1_v3 : Ref sig .tc := ⟨.hbm, 90, rfl⟩
abbrev main_call1_cst_0 : Ref sig .tc := ⟨.hbm, 91, rfl⟩
abbrev main_call1_v4 : Ref sig .tc := ⟨.hbm, 92, rfl⟩
abbrev main_call1_v5 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩

abbrev nD : Nat := 1
abbrev τ : Topo := Topo.v7x

variable {F : FTy → Type} [FloatOps F]
-- ==== Kernel5.lean ====
abbrev S1x16384x1024 : Shape := ⟨3, ![1, 16384, 1024]⟩
abbrev S1x256x1024 : Shape := ⟨3, ![1, 256, 1024]⟩
abbrev S8x6144 : Shape := ⟨2, ![8, 6144]⟩
abbrev S16640x512 : Shape := ⟨2, ![16640, 512]⟩
abbrev S1024x1024 : Shape := ⟨2, ![1024, 1024]⟩
abbrev S128x128 : Shape := ⟨2, ![128, 128]⟩
abbrev S16384x1024 : Shape := ⟨2, ![16384, 1024]⟩
abbrev S256x1024 : Shape := ⟨2, ![256, 1024]⟩
abbrev S16640x1024 : Shape := ⟨2, ![16640, 1024]⟩
abbrev S640x1024 : Shape := ⟨2, ![640, 1024]⟩
abbrev S640x512 : Shape := ⟨2, ![640, 512]⟩
abbrev S512x1024 : Shape := ⟨2, ![512, 1024]⟩
abbrev S640x128 : Shape := ⟨2, ![640, 128]⟩
abbrev S128x1024 : Shape := ⟨2, ![128, 1024]⟩
abbrev S640x1 : Shape := ⟨2, ![640, 1]⟩
abbrev S1x1024 : Shape := ⟨2, ![1, 1024]⟩

abbrev nBuf : Space → Nat
  | .hbm => 14
  | .vmem => 15
  | .smem => 0
  | _ => 0

abbrev bufTy : (tb : Table) → Fin (tcTables nBuf tb) → BufTy
  | .hbm, ⟨0, _⟩ => ⟨S1x16384x1024, .f32⟩
  | .hbm, ⟨1, _⟩ => ⟨S1x256x1024, .f32⟩
  | .hbm, ⟨2, _⟩ => ⟨S8x6144, .f32⟩
  | .hbm, ⟨3, _⟩ => ⟨S16640x512, .bf16⟩
  | .hbm, ⟨4, _⟩ => ⟨S16640x512, .bf16⟩
  | .hbm, ⟨5, _⟩ => ⟨S16640x512, .bf16⟩
  | .hbm, ⟨6, _⟩ => ⟨S16640x512, .bf16⟩
  | .hbm, ⟨7, _⟩ => ⟨S1024x1024, .f32⟩
  | .hbm, ⟨8, _⟩ => ⟨S128x128, .bf16⟩
  | .hbm, ⟨9, _⟩ => ⟨S16384x1024, .f32⟩
  | .hbm, ⟨10, _⟩ => ⟨S256x1024, .f32⟩
  | .hbm, ⟨11, _⟩ => ⟨S16640x1024, .f32⟩
  | .hbm, ⟨12, _⟩ => ⟨S1024x1024, .bf16⟩
  | .hbm, ⟨13, _⟩ => ⟨S16640x1024, .f32⟩
  | .local _ .vmem, ⟨0, _⟩ => ⟨S640x1024, .f32⟩
  | .local _ .vmem, ⟨1, _⟩ => ⟨S640x1024, .f32⟩
  | .local _ .vmem, ⟨2, _⟩ => ⟨S8x6144, .f32⟩
  | .local _ .vmem, ⟨3, _⟩ => ⟨S640x512, .bf16⟩
  | .local _ .vmem, ⟨4, _⟩ => ⟨S640x512, .bf16⟩
  | .local _ .vmem, ⟨5, _⟩ => ⟨S640x512, .bf16⟩
  | .local _ .vmem, ⟨6, _⟩ => ⟨S640x512, .bf16⟩
  | .local _ .vmem, ⟨7, _⟩ => ⟨S640x512, .bf16⟩
  | .local _ .vmem, ⟨8, _⟩ => ⟨S640x512, .bf16⟩
  | .local _ .vmem, ⟨9, _⟩ => ⟨S640x512, .bf16⟩
  | .local _ .vmem, ⟨10, _⟩ => ⟨S640x512, .bf16⟩
  | .local _ .vmem, ⟨11, _⟩ => ⟨S128x128, .bf16⟩
  | .local _ .vmem, ⟨12, _⟩ => ⟨S1024x1024, .bf16⟩
  | .local _ .vmem, ⟨13, _⟩ => ⟨S640x1024, .f32⟩
  | .local _ .vmem, ⟨14, _⟩ => ⟨S640x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S640x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S1x16384x1024 : Shape := ⟨3, ![1, 16384, 1024]⟩
abbrev S1x256x1024 : Shape := ⟨3, ![1, 256, 1024]⟩
abbrev S8x6144 : Shape := ⟨2, ![8, 6144]⟩
abbrev S16640x512 : Shape := ⟨2, ![16640, 512]⟩
abbrev S1024x1024 : Shape := ⟨2, ![1024, 1024]⟩
abbrev S16640x8x64 : Shape := ⟨3, ![16640, 8, 64]⟩
abbrev S_ : Shape := ⟨0, ![]⟩
abbrev S16640x8 : Shape := ⟨2, ![16640, 8]⟩
abbrev S16640x8x1 : Shape := ⟨3, ![16640, 8, 1]⟩
abbrev S16640x1024 : Shape := ⟨2, ![16640, 1024]⟩
abbrev S8x1024 : Shape := ⟨2, ![8, 1024]⟩
abbrev S16384x1024 : Shape := ⟨2, ![16384, 1024]⟩
abbrev S1x1024 : Shape := ⟨2, ![1, 1024]⟩
abbrev S1024 : Shape := ⟨1, ![1024]⟩
abbrev S256x1024 : Shape := ⟨2, ![256, 1024]⟩

abbrev nBuf : Space → Nat
  | .hbm => 68
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x256x1024, .f32⟩
  | .hbm, ⟨2, _⟩ => ⟨S8x6144, .f32⟩
  | .hbm, ⟨3, _⟩ => ⟨S16640x512, .bf16⟩
  | .hbm, ⟨4, _⟩ => ⟨S16640x512, .bf16⟩
  | .hbm, ⟨5, _⟩ => ⟨S16640x512, .bf16⟩
  | .hbm, ⟨6, _⟩ => ⟨S16640x512, .bf16⟩
  | .hbm, ⟨7, _⟩ => ⟨S1024x1024, .f32⟩
  | .hbm, ⟨8, _⟩ => ⟨S16640x512, .f32⟩
  | .hbm, ⟨9, _⟩ => ⟨S16640x512, .f32⟩
  | .hbm, ⟨10, _⟩ => ⟨S16640x512, .f32⟩
  | .hbm, ⟨11, _⟩ => ⟨S16640x8x64, .f32⟩
  | .hbm, ⟨12, _⟩ => ⟨S_, .f32⟩
  | .hbm, ⟨13, _⟩ => ⟨S16640x8, .f32⟩
  | .hbm, ⟨14, _⟩ => ⟨S16640x8x1, .f32⟩
  | .hbm, ⟨15, _⟩ => ⟨S_, .f32⟩
  | .hbm, ⟨16, _⟩ => ⟨S16640x8x1, .f32⟩
  | .hbm, ⟨17, _⟩ => ⟨S16640x8x1, .f32⟩
  | .hbm, ⟨18, _⟩ => ⟨S16640x8x64, .f32⟩
  | .hbm, ⟨19, _⟩ => ⟨S16640x8x64, .f32⟩
  | .hbm, ⟨20, _⟩ => ⟨S16640x8x64, .f32⟩
  | .hbm, ⟨21, _⟩ => ⟨S_, .f32⟩
  | .hbm, ⟨22, _⟩ => ⟨S16640x8, .f32⟩
  | .hbm, ⟨23, _⟩ => ⟨S16640x8x1, .f32⟩
  | .hbm, ⟨24, _⟩ => ⟨S_, .f32⟩
  | .hbm, ⟨25, _⟩ => ⟨S16640x8x1, .f32⟩
  | .hbm, ⟨26, _⟩ => ⟨S16640x8x1, .f32⟩
  | .hbm, ⟨27, _⟩ => ⟨S16640x8x64, .f32⟩
  | .hbm, ⟨28, _⟩ => ⟨S16640x8x64, .f32⟩
  | .hbm, ⟨29, _⟩ => ⟨S_, .f32⟩
  | .hbm, ⟨30, _⟩ => ⟨S16640x8x1, .f32⟩
  | .hbm, ⟨31, _⟩ => ⟨S16640x8x1, .f32⟩
  | .hbm, ⟨32, _⟩ => ⟨S16640x8x1, .f32⟩
  | .hbm, ⟨33, _⟩ => ⟨S16640x8x64, .f32⟩
  | .hbm, ⟨34, _⟩ => ⟨S16640x8x64, .f32⟩
  | .hbm, ⟨35, _⟩ => ⟨S16640x512, .f32⟩
  | .hbm, ⟨36, _⟩ => ⟨S16640x512, .f32⟩
  | .hbm, ⟨37, _⟩ => ⟨S16640x512, .f32⟩
  | .hbm, ⟨38, _⟩ => ⟨S16640x512, .f32⟩
  | .hbm, ⟨39, _⟩ => ⟨S_, .f32⟩
  | .hbm, ⟨40, _⟩ => ⟨S16640x512, .f32⟩
  | .hbm, ⟨41, _⟩ => ⟨S16640x512, .f32⟩
  | .hbm, ⟨42, _⟩ => ⟨S_, .f32⟩
  | .hbm, ⟨43, _⟩ => ⟨S16640x512, .f32⟩
  | .hbm, ⟨44, _⟩ => ⟨S16640x512, .f32⟩
  | .hbm, ⟨45, _⟩ => ⟨S16640x512, .f32⟩
  | .hbm, ⟨46, _⟩ => ⟨S16640x512, .f32⟩
  | .hbm, ⟨47, _⟩ => ⟨S16640x512, .f32⟩
  | .hbm, ⟨48, _⟩ => ⟨S16640x1024, .f32⟩
  | .hbm, ⟨49, _⟩ => ⟨S16640x1024, .f32⟩
  | .hbm, ⟨50, _⟩ => ⟨S8x1024, .f32⟩
  | .hbm, ⟨51, _⟩ => ⟨S16384x1024, .f32⟩
  | .hbm, ⟨52, _⟩ => ⟨S1x1024, .f32⟩
  | .hbm, ⟨53, _⟩ => ⟨S1024, .f32⟩
  | .hbm, ⟨54, _⟩ => ⟨S16384x1024, .f32⟩
  | .hbm, ⟨55, _⟩ => ⟨S1x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S256x1024, .f32⟩
  | .hbm, ⟨60, _⟩ => ⟨S1x1024, .f32⟩
  | .hbm, ⟨61, _⟩ => ⟨S1024, .f32⟩
  | .hbm, ⟨62, _⟩ => ⟨S256x1024, .f32⟩
  | .hbm, ⟨63, _⟩ => ⟨S1x1024, .f32⟩
  | .hbm, ⟨64, _⟩ => ⟨S256x1024, .f32⟩
  | .hbm, ⟨65, _⟩ => ⟨S256x1024, .f32⟩
  | .hbm, ⟨66, _⟩ => ⟨S256x1024, .f32⟩
  | .hbm, ⟨67, _⟩ => ⟨S16640x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩

abbrev nD : Nat := 1
abbrev τ : Topo := Topo.v7x

variable {F : FTy → Type} [FloatOps F]
-- ==== Kernel6.lean ====
abbrev S1x1024 : Shape := ⟨2, ![1, 1024]⟩
abbrev S1024 : Shape := ⟨1, ![1024]⟩
abbrev S1024x6144 : Shape := ⟨2, ![1024, 6144]⟩
abbrev S6144 : Shape := ⟨1, ![6144]⟩
abbrev S_ : Shape := ⟨0, ![]⟩
abbrev S8x1024 : Shape := ⟨2, ![8, 1024]⟩
abbrev S1 : Shape := ⟨1, ![1]⟩
abbrev S1x6144 : Shape := ⟨2, ![1, 6144]⟩
abbrev S8x6144 : Shape := ⟨2, ![8, 6144]⟩
abbrev S1024x1536 : Shape := ⟨2, ![1024, 1536]⟩
abbrev S1x1536 : Shape := ⟨2, ![1, 1536]⟩
abbrev S8x1536 : Shape := ⟨2, ![8, 1536]⟩
abbrev S1024x8 : Shape := ⟨2, ![1024, 8]⟩
abbrev S1024x1 : Shape := ⟨2, ![1024, 1]⟩
abbrev S1536 : Shape := ⟨1, ![1536]⟩
abbrev S6x1536 : Shape := ⟨2, ![6, 1536]⟩

abbrev nBuf : Space → Nat
  | .hbm => 15
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S_, .f32⟩
  | .hbm, ⟨5, _⟩ => ⟨S8x1024, .f32⟩
  | .hbm, ⟨6, _⟩ => ⟨S1024, .f32⟩
  | .hbm, ⟨7, _⟩ => ⟨S_, .i32⟩
  | .hbm, ⟨8, _⟩ => ⟨S1, .i32⟩
  | .hbm, ⟨9, _⟩ => ⟨S8x1024, .f32⟩
  | .hbm, ⟨10, _⟩ => ⟨S_, .i32⟩
  | .hbm, ⟨11, _⟩ => ⟨S1, .i32⟩
  | .hbm, ⟨12, _⟩ => ⟨S8x1024, .f32⟩
  | .hbm, ⟨13, _⟩ => ⟨S1x6144, .f32⟩
  | .hbm, ⟨14, _⟩ => ⟨S8x6144, .f32⟩
  | .local _ .vmem, ⟨0, _⟩ => ⟨S8x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S8x1536, .f32⟩
  | .local _ .vmem, ⟨6, _⟩ => ⟨S8x1536, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S1x1024 : Shape := ⟨2, ![1, 1024]⟩
abbrev S1024 : Shape := ⟨1, ![1024]⟩
abbrev S1024x6144 : Shape := ⟨2, ![1024, 6144]⟩
abbrev S6144 : Shape := ⟨1, ![6144]⟩
abbrev S_ : Shape := ⟨0, ![]⟩
abbrev S1x6144 : Shape := ⟨2, ![1, 6144]⟩
abbrev S6x6144 : Shape := ⟨2, ![6, 6144]⟩
abbrev S8x6144 : Shape := ⟨2, ![8, 6144]⟩

abbrev nBuf : Space → Nat
  | .hbm => 30
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x6144, .f32⟩
  | .hbm, ⟨14, _⟩ => ⟨S1x6144, .f32⟩
  | .hbm, ⟨15, _⟩ => ⟨S1x6144, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S6144, .f32⟩
  | .hbm, ⟨26, _⟩ => ⟨S6144, .f32⟩
  | .hbm, ⟨27, _⟩ => ⟨S1x6144, .f32⟩
  | .hbm, ⟨28, _⟩ => ⟨S6x6144, .f32⟩
  | .hbm, ⟨29, _⟩ => ⟨S8x6144, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call1_v0 : Ref sig .tc := ⟨.hbm, 16, rfl⟩
abbrev main_call1_v1 : Ref sig .tc := ⟨.hbm, 17, rfl⟩
abbrev main_call1_cst : Ref sig .tc := ⟨.hbm, 18, rfl⟩
abbrev main_call1_v2 : Ref sig .tc := ⟨.hbm, 19, rfl⟩
abbrev main_call1_v3 : Ref sig .tc := ⟨.hbm, 20, rfl⟩
abbrev main_call1_cst_0 : Ref sig .tc := ⟨.hbm, 21, rfl⟩
abbrev main_call1_v4 : Ref sig .tc := ⟨.hbm, 22, rfl⟩
abbrev main_call1_v5 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩

abbrev nD : Nat := 1
abbrev τ : Topo := Topo.v7x

variable {F : FTy → Type} [FloatOps F]
-- ==== Proof.GatherBatch.lean ====
/-
  Many indirect gathers in flight on one DMA semaphore, waited for only after all have been issued.

  The library's rule for an indirect gather (`SparseCore.wp_indirectGatherLocal`) starts from the semaphore at zero, so
  it serves one stream per semaphore at a time. Here the ROWS of all the streams are the transfers of one batch
  (Lib/Batch.lean): a stream of `z` rows takes the next `z` issue rights of the batch, and what each row delivers is
  stated row by row, over the whole batch, before the first issue.
-/
module

public import Idealize.ShloMosaic.Lib.SparseCore.Stream
public import Idealize.ShloMosaic.Lib.Batch

@[expose] public section

noncomputable section

namespace Cert.Proof.GatherBatch

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

/-! ## Families over `Fin n`, cut at a position -/

section Families

variable {M : Type} [URA M] {n : ℕ}

/-- The indices from `k` on are the next `z` ones and those from `k + z` on. -/
theorem bigSep_pending_block (Φ : Fin n → sProp M) (k z : ℕ) (h : k + z ≤ n) :
    bigSep (Transfers.pending k) Φ
      = iprop(bigSep Finset.univ (fun j : Fin z => Φ ⟨k + j.val, by omega⟩) ∗ bigSep (Transfers.pending (k + z)) Φ) := by
  have hd : Disjoint (Finset.univ.map ⟨fun j : Fin z => (⟨k + j.val, by omega⟩ : Fin n), fun a b e => by simpa [Fin.ext_iff] using e⟩)
      (Transfers.pending (n := n) (k + z)) := by
    rw [Finset.disjoint_left]
    intro t ht ht'
    obtain ⟨j, -, rfl⟩ := Finset.mem_map.mp ht
    have : k + z ≤ k + j.val := (Finset.mem_filter.mp ht').2
    omega
  have hu : Transfers.pending (n := n) k
      = Finset.univ.map ⟨fun j : Fin z => (⟨k + j.val, by omega⟩ : Fin n), fun a b e => by simpa [Fin.ext_iff] using e⟩ ∪ Transfers.pending (k + z) := by
    ext t
    rw [Finset.mem_union, Finset.mem_map]
    constructor
    · intro ht
      have ht := (Finset.mem_filter.mp ht).2
      by_cases h' : k + z ≤ t.val
      · exact .inr (Finset.mem_filter.mpr ⟨Finset.mem_univ _, h'⟩)
      · exact .inl ⟨⟨t.val - k, by omega⟩, Finset.mem_univ _, Fin.ext (show k + (t.val - k) = t.val by omega)⟩
    · rintro (⟨j, -, rfl⟩ | h')
      · exact Finset.mem_filter.mpr ⟨Finset.mem_univ _, Nat.le_add_right _ _⟩
      · exact Finset.mem_filter.mpr ⟨Finset.mem_univ _, by have := (Finset.mem_filter.mp h').2; omega⟩
  rw [hu, BI.bigSep_union hd, BI.bigSep_map]
  rfl

end Families

/-! ## The batch, with the resources of the rows still to be issued -/

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)} {n : ℕ}

local notation "𝕄" => MT nD τ sig Ix (Elt F) Name U Lvl

/-- A batch of `n` row transfers of `N` units each on a cell, the first `k` of them issued and none waited for, with
    what each row still to be issued needs (`R`); row `t` delivers `D t`. -/
def Filling (sm : SemLoc sig) (ι : Ix) (N : ℕ) (R D : Fin n → sProp 𝕄) (k : ℕ) : sProp 𝕄 :=
  iprop(∃ γ γ₀ κ, inv κ (Transfers.batchBody EC (c, sm) N D γ γ₀) ∗ bigSep (Transfers.pending k) (fun t => iprop(R t ∗ count EC (γ t) 0))
    ∗ count EC γ₀ 0 ∗ cred (tallyAt (c, sm) ι (k * N)))

/-- It starts at a cell holding zero. -/
theorem filling_start [Infinite Name] [EC.LandsIn (upEmb : UEmb _ 𝕄)] {sm : SemLoc sig} (ι : Ix) (N : ℕ) (R D : Fin n → sProp 𝕄)
    [∀ t, Storable (upEmb : UEmb _ 𝕄) (D t)] {E : Set Name} :
    iprop(semVal (c, sm) 0 ∗ bigSep Finset.univ R) ⊢ |={E}=> Filling EC c sm ι N R D 0 := by
  iintro ⟨Hv, HR⟩
  imod (Transfers.batch_alloc EC N D (g := (c, sm)) (E := E)) $$ Hv with ⟨%γ, %γ₀, %κ, Hinv, H0, Hc⟩
  imodintro
  unfold Filling
  iexists γ, γ₀, κ
  isplitl [Hinv]; · iexact Hinv
  isplitl [HR Hc]
  · rw [Transfers.pending_zero]
    iapply (Transfers.bigSep_sep_in _ _ _)
    isplitl [HR] <;> iassumption
  isplitl [H0]; · iexact H0
  rw [Nat.zero_mul, tallyAt_zero, cred_zero]
  iempintro

/-- With every row issued it is the library's batch, nothing of it waited for. -/
theorem filling_done {sm : SemLoc sig} (ι : Ix) (N : ℕ) (R D : Fin n → sProp 𝕄) :
    Filling EC c sm ι N R D n ⊢ Transfers.Batch EC c sm ι N D n 0 := by
  unfold Filling Transfers.Batch
  iintro ⟨%γ, %γ₀, %κ, Hinv, HR, H0, Hc⟩
  iexists γ, γ₀, κ
  have he : Transfers.pending (n := n) n = ∅ := by
    unfold Transfers.pending; exact Finset.filter_eq_empty_iff.mpr fun t _ => by have := t.isLt; omega
  isplitl [Hinv]; · iexact Hinv
  isplitl [HR]
  · iapply (Entails.of_eq (show bigSep (Transfers.pending (n := n) n) (fun t => iprop(R t ∗ count EC (γ t) 0))
        = bigSep (Transfers.pending (n := n) n) (fun t => count EC (γ t) 0) by rw [he, BI.bigSep_empty, BI.bigSep_empty])) $$ HR
  isplitl [H0]; · iexact H0
  rw [Nat.sub_zero]
  iexact Hc

/-- Row `r` of the source, as a row of the destination. -/
def rowData (src : Memref sig c.2.kind sp s₀ e) (hg : s₀.Gathers a s) (fs : Buf (Elt F) (src.view.loc c)) (r : Fin (s₀.size hg.axis)) :
    (s.rowShape hg.axis').Idx → Elt F e :=
  fun i => src.view.read (Elt F) fs (hg.rowIdx r i)

/-- THE ISSUE of one indirect gather into the batch: its `z` rows are rows `k, …, k + z - 1`. `hpre`: what row `k + j`
    needs splits into row `j` of the destination, entry `j` of the list (at one share for the whole stream), a share of
    the source, and a rest; `hpost`: that row written, the entry, the share and the rest are what it delivers. -/
theorem wp_gatherInto [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {qo : PosShare TreeShare} {fo : Buf (Elt F) (offs.view.loc c)}
    (ι : Ix) (N : ℕ) (R D put : Fin n → sProp 𝕄) (k₀ : ℕ) (hk : k₀ + s.size hg.axis' ≤ n)
    (fs : Fin (s.size hg.axis') → Buf (Elt F) (src.view.loc c)) (qs : Fin (s.size hg.axis') → PosShare TreeShare)
    (fd : Fin (s.size hg.axis') → Buf (Elt F) (dst.view.loc c))
    (hN : ∀ j, (dst.slice (s.rowRect hg.axis' j) (s.stride_rowRect hg.axis' j)).view.dmaCredit = N)
    (hin : ∀ x, (offs.view.read (Elt F) fo x).toNat < s₀.size hg.axis)
    (hpre : ∀ j : Fin (s.size hg.axis'), R ⟨k₀ + j.val, by omega⟩
      ⊢ iprop((dst.view.loc c ↦[(dst.view.slice (s.rowRect hg.axis' j)).set]{fullShare} fd j)
          ∗ (offs.view.loc c ↦[{offs.view.emb (si.rowMajor.symm (j.cast hn.symm))}]{qo} fo)
          ∗ (src.view.loc c ↦[src.view.set]{qs j} fs j) ∗ put ⟨k₀ + j.val, by omega⟩))
    (hpost : ∀ j : Fin (s.size hg.axis'),
      iprop(put ⟨k₀ + j.val, by omega⟩
        ∗ ((dst.view.loc c ↦[(dst.view.slice (s.rowRect hg.axis' j)).set]{fullShare}
              ((dst.view.slice (s.rowRect hg.axis' j)).write (Elt F) (fd j)
                (rowData c src hg (fs j) (rows (offs.view.read (Elt F) fo) hn hin j)) Finset.univ))
            ∗ (offs.view.loc c ↦[{offs.view.emb (si.rowMajor.symm (j.cast hn.symm))}]{qo} fo))
          ∗ (src.view.loc c ↦[src.view.set]{qs j} fs j)) ⊢ D ⟨k₀ + j.val, by omega⟩) :
    Filling EC c (.dma sem) ι N R D k₀
      ⊢ iprop((Filling EC c (.dma sem) ι N R D (k₀ + s.size hg.axis') -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let rd : Fin (s.size hg.axis') → RowDma τ sig (Elt F) c.2 sem :=
    fun j => gatherRow c src dst hg sem hsrc he hsp hr j (rows (offs.view.read (Elt F) fo) hn hin j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hsum : ∑ j, (rd j).dst.view.dmaCredit = s.size hg.axis' * N := by
    rw [Finset.sum_congr rfl fun j _ => hN j, Finset.sum_const, Finset.card_univ, Fintype.card_fin, smul_eq_mul]
  unfold Filling
  iintro ⟨%γ, %γ₀, %κ, #Hinv, HR, H0, Hc⟩ Hk
  ihave HR' := (Entails.of_eq (bigSep_pending_block (fun t => iprop(R t ∗ count EC (γ t) 0)) k₀ (s.size hg.axis') hk)) $$ HR
  icases HR' with ⟨Hrows, HR⟩
  iapply (wp_enqueueIndirectDma 𝒱 c bd Set.univ (qo := qo) (fo := fo) (rd := rd) ι (s.size hg.axis' * N) hA hrd hsum) $$ [Hrows]
  · have hrow : ∀ j : Fin (s.size hg.axis'), iprop(inv κ (Transfers.batchBody EC (c, SemLoc.dma sem) N D γ γ₀)
          ∗ (R ⟨k₀ + j.val, by omega⟩ ∗ count EC (γ ⟨k₀ + j.val, by omega⟩) 0))
        ⊢ iprop(S.heldEntry qo fo j ∗ (S.heldEntry qo fo j -∗ rowRes c (rd j))) := fun j => by
      iintro ⟨#Hinv, HRj, Hγ⟩
      ihave H := hpre j $$ HRj
      icases H with ⟨Hd, He, Hs, Hput⟩
      isplitl [He]; · iexact He
      iintro He
      unfold rowRes
      iexists qs j, fs j, iprop((dst.view.loc c ↦[(dst.view.slice (s.rowRect hg.axis' j)).set]{fullShare}
              ((dst.view.slice (s.rowRect hg.axis' j)).write (Elt F) (fd j)
                (rowData c src hg (fs j) (rows (offs.view.read (Elt F) fo) hn hin j)) Finset.univ))
            ∗ S.heldEntry qo fo j)
      isplitl [Hs]; · iexact Hs
      isplitl [Hd He]
      · iapply writeUpdate_frame
        isplitl [Hd]
        · iapply (pointsTo_writeUpdate c (v := dst.view.slice (s.rowRect hg.axis' j)) subset_rfl) $$ Hd
        · iexact He
      · rw [show (rd j).dst.view.amount (SemLoc.dma sem) = N from hN j]
        iapply (Transfers.batch_creditUpdate_with EC (N := N) (D := D) (γ := γ) (γ₀ := γ₀) (⟨k₀ + j.val, by omega⟩ : Fin n) (hpost j))
        isplitr; · iexact Hinv
        isplitl [Hγ]; · iexact Hγ
        iexact Hput
    unfold Stream.res
    iapply (Transfers.bigSep_mono_pers Finset.univ _ _ _ fun j _ => hrow j)
    isplitr; · iexact Hinv
    iexact Hrows
  · iintro Hcred
    iapply Hk
    iexists γ, γ₀, κ
    isplitr; · iexact Hinv
    isplitl [HR]; · iexact HR
    isplitl [H0]; · iexact H0
    rw [Nat.add_mul, ← tallyAt_add]
    isplitl [Hc] <;> iassumption

end Cert.Proof.GatherBatch

end
-- ==== Proof.Geometry.lean ====
/-
  The memrefs of the gather kernel's tile and where their elements sit: a list slot of 128 row numbers, its lists of
  sixteen, the row buffer's windows of sixteen rows by 128 words, and the column slabs of `x` they are read from.
-/
module

public import proofs.«01_k».proof.Defs
public import proofs.«01_k».proof.Proof.GatherBatch
public import Idealize.ShloMosaic.Lib.SparseCore.Quiescent
public import Idealize.ShloMosaic.Lib.ValueLayout
public import Idealize.ShloMosaic.Lib.StableHlo.Run
public import Idealize.ShloMosaic.Lib.Pipeline.Kit
public import Idealize.ShloMosaic.Lib.Tactic
public import proofs.«01_k».proof.Proof.Gen.Kernel
public import proofs.«01_k».proof.Proof.Gen.Kernel.Skeleton

@[expose] public section

noncomputable section

namespace Cert.Proof.Gather

open Cert.Kernel Cert.Kernel.Gen
open Idealize.ShloMosaic Idealize.ShloMosaic.ValueIdx
open Idealize.ShloMosaic.SparseCore (S V T)

/-! ## The tile's memrefs -/

/-- The table's rows, the list as a row, the result. -/
abbrev xV : Memref sig .scVector .hbm S16384x512 .i32 := Memref.whole main_arg0_scv
abbrev iV : Memref sig .scVector .hbm S1x36864 .i32 := Memref.whole main_v0_scv
abbrev oV : Memref sig .scVector .hbm S36864x512 .i32 := Memref.whole main_v1_scv
/-- The tile's two list slots and its row buffer. -/
abbrev sV : Memref sig .scVector .vmem S2x1x128 .i32 := Memref.whole cc0_scoped0
abbrev bV : Memref sig .scVector .vmem S1x128x512 .i32 := Memref.whole cc0_scoped2

/-- The slot at offsets `o`. -/
abbrev slotM (o : Fin 3 → ℕ) (h : ∀ a, o a + S1x1x128.size a ≤ S2x1x128.size a) : Memref sig .scVector .vmem S1x128 .i32 :=
  (sV.slice (Rect.unit (s := S2x1x128) o S1x1x128.size h) (fun _ => rfl)).squeeze S1x128 squeezes_S1x1x128_S1x128
/-- Sixteen row numbers of it, from offsets `o₂`. -/
abbrev listM (o : Fin 3 → ℕ) (h : ∀ a, o a + S1x1x128.size a ≤ S2x1x128.size a) (o₂ : Fin 2 → ℕ) (h₂ : ∀ a, o₂ a + S1x16.size a ≤ S1x128.size a) :
    Memref sig .scVector .vmem S16 .i32 :=
  ((slotM o h).slice (Rect.unit (s := S1x128) o₂ S1x16.size h₂) (fun _ => rfl)).squeeze S16 squeezes_S1x16_S16
/-- The row buffer as 128 rows. -/
abbrev rowsM (o : Fin 3 → ℕ) (h : ∀ a, o a + S1x128x512.size a ≤ S1x128x512.size a) : Memref sig .scVector .vmem S128x512 .i32 :=
  (bV.slice (Rect.unit (s := S1x128x512) o S1x128x512.size h) (fun _ => rfl)).squeeze S128x512 squeezes_S1x128x512_S128x512
/-- A window of it. -/
abbrev winM (o : Fin 3 → ℕ) (h : ∀ a, o a + S1x128x512.size a ≤ S1x128x512.size a) (o₁ : Fin 2 → ℕ) (h₁ : ∀ a, o₁ a + S16x128.size a ≤ S128x512.size a) :
    Memref sig .scVector .vmem S16x128 .i32 :=
  (rowsM o h).slice (Rect.unit (s := S128x512) o₁ S16x128.size h₁) (fun _ => rfl)
/-- A column slab of the table. -/
abbrev slabM (o : Fin 2 → ℕ) (h : ∀ a, o a + S16384x128.size a ≤ S16384x512.size a) (o' : Fin 2 → ℕ) (h' : ∀ a, o' a + S16384x128.size a ≤ S16384x128.size a) :
    Memref sig .scVector .hbm S16384x128 .i32 :=
  (xV.slice (Rect.unit (s := S16384x512) o S16384x128.size h) (fun _ => rfl)).slice (Rect.unit (s := S16384x128) o' S16384x128.size h') (fun _ => rfl)

/-! ## Where their elements sit -/

theorem slot_emb {b : ℕ} (hb : b < 2) {o : Fin 3 → ℕ} (e : o = ![b, 0, 0]) (h) (i : S1x128.Idx) :
    (slotM o h).view.emb i = (ix3 (⟨b, hb⟩ : Fin 2) (0 : Fin 1) (i 1) : S2x1x128.Idx) := by
  subst e
  show (Rect.unit (s := S2x1x128) ![b, 0, 0] S1x1x128.size h).emb (Shape.reshapeEquiv _ i) = _
  have hi : i = ix2 (i 0 : Fin 1) (i 1 : Fin 128) := eq_ix2 i
  have hr : ∀ hh : S1x128.numel = S1x1x128.numel, Shape.reshapeEquiv hh i = (ix3 (⟨0, Nat.one_pos⟩ : Fin 1) (i 0 : Fin 1) (i 1 : Fin 128) : S1x1x128.Idx) := fun hh => by
    conv_lhs => rw [hi]
    exact reshapeEquiv_ix2_1ab _ _ _
  rw [hr]
  have h0 : (i 0).val < 1 := (i 0).isLt
  funext a
  match a with
  | ⟨0, _⟩ => exact Fin.ext (show b + 1 * 0 = b by omega)
  | ⟨1, _⟩ => exact Fin.ext (show 0 + 1 * (i 0).val = 0 by omega)
  | ⟨2, _⟩ => exact Fin.ext (show 0 + 1 * (i 1).val = (i 1).val by omega)

theorem list_emb {b : ℕ} (hb : b < 2) {o : Fin 3 → ℕ} (e : o = ![b, 0, 0]) (h) {k : ℕ} (hk : k < 8) {o₂ : Fin 2 → ℕ} (e₂ : o₂ = ![0, 16 * k]) (h₂) (i : S16.Idx) :
    (listM o h o₂ h₂).view.emb i
      = (ix3 (⟨b, hb⟩ : Fin 2) (0 : Fin 1) (⟨16 * k + (i 0).val, by have : (i 0).val < 16 := (i 0).isLt; omega⟩ : Fin 128) : S2x1x128.Idx) := by
  subst e₂
  have h0 : (i 0).val < 16 := (i 0).isLt
  show (slotM o h).view.emb ((Rect.unit (s := S1x128) ![0, 16 * k] S1x16.size h₂).emb (Shape.reshapeEquiv _ i)) = _
  have hr : ∀ hh : S16.numel = S1x16.numel, Shape.reshapeEquiv hh i = (ix2 (0 : Fin 1) (i 0 : Fin 16) : S1x16.Idx) := fun hh =>
    Shape.reshapeEquiv_eq_of_rowMajor hh (by
      rw [Shape.rowMajor_val_two, Shape.rowMajor_val_one]
      show 0 * 16 + (i 0).val = (i 0).val
      omega)
  rw [hr, slot_emb hb e h]
  refine congrArg (fun z : Fin 128 => (ix3 (⟨b, hb⟩ : Fin 2) (0 : Fin 1) z : S2x1x128.Idx)) (Fin.ext ?_)
  show 16 * k + 1 * (i 0).val = 16 * k + (i 0).val
  omega

theorem rows_emb {o : Fin 3 → ℕ} (e : o = ![0, 0, 0]) (h) (i : S128x512.Idx) :
    (rowsM o h).view.emb i = (ix3 (0 : Fin 1) (i 0) (i 1) : S1x128x512.Idx) := by
  subst e
  show (Rect.unit (s := S1x128x512) ![0, 0, 0] S1x128x512.size h).emb (Shape.reshapeEquiv _ i) = _
  have hi : i = ix2 (i 0 : Fin 128) (i 1 : Fin 512) := eq_ix2 i
  have hr : ∀ hh : S128x512.numel = S1x128x512.numel, Shape.reshapeEquiv hh i = (ix3 (⟨0, Nat.one_pos⟩ : Fin 1) (i 0 : Fin 128) (i 1 : Fin 512) : S1x128x512.Idx) := fun hh => by
    conv_lhs => rw [hi]
    exact reshapeEquiv_ix2_1ab _ _ _
  rw [hr]
  funext a
  match a with
  | ⟨0, _⟩ => exact Fin.ext (show 0 + 1 * 0 = 0 by omega)
  | ⟨1, _⟩ => exact Fin.ext (show 0 + 1 * (i 0).val = (i 0).val by omega)
  | ⟨2, _⟩ => exact Fin.ext (show 0 + 1 * (i 1).val = (i 1).val by omega)

theorem slab_emb {c : ℕ} (hc : c < 4) {o : Fin 2 → ℕ} (e : o = ![0, 128 * c]) (h) {o' : Fin 2 → ℕ} (e' : o' = ![0, 0]) (h') (i : S16384x128.Idx) :
    (slabM o h o' h').view.emb i
      = (ix2 (i 0 : Fin 16384) (⟨128 * c + (i 1).val, by have : (i 1).val < 128 := (i 1).isLt; omega⟩ : Fin 512) : S16384x512.Idx) := by
  subst e e'
  funext a
  match a with
  | ⟨0, _⟩ => exact Fin.ext (show 0 + 1 * (0 + 1 * (i 0).val) = (i 0).val by omega)
  | ⟨1, _⟩ => exact Fin.ext (show 128 * c + 1 * (0 + 1 * (i 1).val) = 128 * c + (i 1).val by omega)

/-- Row `j` of a window, as the gather writes it. -/
theorem winRow_emb {o : Fin 3 → ℕ} (e : o = ![0, 0, 0]) (h) {k c : ℕ} (hk : k < 8) (hc : c < 4) {o₁ : Fin 2 → ℕ} (e₁ : o₁ = ![16 * k, 128 * c]) (h₁)
    (a : Fin 2) (ha : a = 0) (j : Fin (S16x128.size a)) (hj : j.val < 16) (z : (S16x128.rowShape a).Idx) (hz : (z (1 : Fin 2)).val < 128) :
    ((winM o h o₁ h₁).view.slice (S16x128.rowRect a j)).emb z
      = (ix3 (0 : Fin 1) (⟨16 * k + j.val, by omega⟩ : Fin 128) (⟨128 * c + (z (1 : Fin 2)).val, by omega⟩ : Fin 512) : S1x128x512.Idx) := by
  subst ha e₁
  show (rowsM o h).view.emb ((Rect.unit (s := S128x512) ![16 * k, 128 * c] S16x128.size h₁).emb ((S16x128.rowRect 0 j).emb z)) = _
  have z0 : (z (0 : Fin 2)).val < 1 := (z (0 : Fin 2)).isLt
  rw [rows_emb e h]
  funext x
  match x with
  | ⟨0, _⟩ => rfl
  | ⟨1, _⟩ => exact Fin.ext (show 16 * k + 1 * (j.val + 1 * (z (0 : Fin 2)).val) = 16 * k + j.val by omega)
  | ⟨2, _⟩ => exact Fin.ext (show 128 * c + 1 * (0 + 1 * (z (1 : Fin 2)).val) = 128 * c + (z (1 : Fin 2)).val by omega)

/-! ## The 512 rows of one block: sixteen rows of thirty-two windows -/

/-- The row of the block's copies element `y` of the row buffer belongs to: row `y₁ % 16` of the window at row
    `16 (y₁ / 16)` and column `128 (y₂ / 128)`, the windows counted along the columns first. -/
def rowOfIdx (y : S1x128x512.Idx) : ℕ := 16 * (4 * ((y 1).val / 16) + (y 2).val / 128) + (y 1).val % 16
/-- The elements row `t` of the block's copies writes. -/
def rowSet (t : Fin 512) : Finset S1x128x512.Idx := Finset.univ.filter fun y => rowOfIdx y = t.val
/-- The elements of list slot `b`, and those of them whose position is `r` modulo sixteen. -/
def slotSet (b : ℕ) : Finset S2x1x128.Idx := Finset.univ.filter fun y => (y 0).val = b
def classSet (b : ℕ) (r : Fin 16) : Finset S2x1x128.Idx := Finset.univ.filter fun y => (y 0).val = b ∧ (y 2).val % 16 = r.val

theorem rowOfIdx_lt (y : S1x128x512.Idx) : rowOfIdx y < 512 := by
  have h1 : (y 1).val < 128 := (y 1).isLt
  have h2 : (y 2).val < 512 := (y 2).isLt
  unfold rowOfIdx; omega

theorem rowSet_disjoint : ∀ t ∈ (Finset.univ : Finset (Fin 512)), ∀ t' ∈ (Finset.univ : Finset (Fin 512)), t ≠ t' → Disjoint (rowSet t) (rowSet t') :=
  fun t _ t' _ hne => Finset.disjoint_left.mpr fun y hy hy' =>
    hne (Fin.ext ((Finset.mem_filter.mp hy).2.symm.trans (Finset.mem_filter.mp hy').2))
theorem rowSet_cover : (Finset.univ : Finset (Fin 512)).biUnion rowSet = Finset.univ :=
  Finset.eq_univ_iff_forall.mpr fun y => Finset.mem_biUnion.mpr
    ⟨⟨rowOfIdx y, rowOfIdx_lt y⟩, Finset.mem_univ _, Finset.mem_filter.mpr ⟨Finset.mem_univ _, rfl⟩⟩
theorem classSet_disjoint (b : ℕ) : ∀ t ∈ (Finset.univ : Finset (Fin 16)), ∀ t' ∈ (Finset.univ : Finset (Fin 16)), t ≠ t' → Disjoint (classSet b t) (classSet b t') :=
  fun t _ t' _ hne => Finset.disjoint_left.mpr fun y hy hy' =>
    hne (Fin.ext ((Finset.mem_filter.mp hy).2.2.symm.trans (Finset.mem_filter.mp hy').2.2))
theorem classSet_cover (b : ℕ) : (Finset.univ : Finset (Fin 16)).biUnion (classSet b) = slotSet b := by
  ext y
  simp only [Finset.mem_biUnion, Finset.mem_univ, true_and, classSet, slotSet, Finset.mem_filter]
  exact ⟨fun ⟨_, h, _⟩ => h, fun h => ⟨⟨(y 2).val % 16, Nat.mod_lt _ (by omega)⟩, h, rfl⟩⟩

/-- The elements of a slot's memref are the slot. -/
theorem slot_set {b : ℕ} (hb : b < 2) {o : Fin 3 → ℕ} (e : o = ![b, 0, 0]) (h) : (slotM o h).view.set = slotSet b := by
  ext y
  constructor
  · intro hy
    obtain ⟨i, -, rfl⟩ := Finset.mem_map.mp hy
    exact Finset.mem_filter.mpr ⟨Finset.mem_univ _, by rw [slot_emb hb e h]⟩
  · intro hy
    have hy0 : (y 0).val = b := (Finset.mem_filter.mp hy).2
    refine Finset.mem_map.mpr ⟨ix2 (0 : Fin 1) (y 2), Finset.mem_univ _, ?_⟩
    rw [slot_emb hb e h]
    have h1 : (y 1).val < 1 := (y 1).isLt
    funext a
    match a with
    | ⟨0, _⟩ => exact Fin.ext hy0.symm
    | ⟨1, _⟩ => exact Fin.ext (show 0 = (y 1).val by omega)
    | ⟨2, _⟩ => rfl

/-- Position `v` of a row of a window. -/
def rowIx (a : Fin 2) (ha : a = 0) (v : ℕ) (hv : v < 128) : (S16x128.rowShape a).Idx := fun x =>
  ⟨if x.val = 0 then 0 else v, by
    subst ha
    match x with
    | ⟨0, _⟩ => exact (show (if (0 : ℕ) = 0 then 0 else v) < 1 by simp)
    | ⟨1, _⟩ => exact (show (if (1 : ℕ) = 0 then 0 else v) < 128 by simpa using hv)⟩

/-- The elements of a window's row are one row of the block's copies. -/
theorem winRow_set {o : Fin 3 → ℕ} (e : o = ![0, 0, 0]) (h) {k c : ℕ} (hk : k < 8) (hc : c < 4) {o₁ : Fin 2 → ℕ} (e₁ : o₁ = ![16 * k, 128 * c]) (h₁)
    (a : Fin 2) (ha : a = 0) (j : Fin (S16x128.size a)) (hj : j.val < 16) (t : Fin 512) (ht : t.val = 16 * (4 * k + c) + j.val) :
    ((winM o h o₁ h₁).view.slice (S16x128.rowRect a j)).set = rowSet t := by
  ext y
  constructor
  · intro hy
    obtain ⟨z, -, rfl⟩ := Finset.mem_map.mp hy
    have hz : (z (1 : Fin 2)).val < 128 := by subst ha; exact (z (1 : Fin 2)).isLt
    rw [winRow_emb e h hk hc e₁ h₁ a ha j hj z hz]
    refine Finset.mem_filter.mpr ⟨Finset.mem_univ _, ?_⟩
    show 16 * (4 * ((16 * k + j.val) / 16) + (128 * c + (z (1 : Fin 2)).val) / 128) + (16 * k + j.val) % 16 = t.val
    omega
  · intro hy
    have hy1 : (y 1).val < 128 := (y 1).isLt
    have hy2 : (y 2).val < 512 := (y 2).isLt
    have hm : 16 * (4 * ((y 1).val / 16) + (y 2).val / 128) + (y 1).val % 16 = t.val := (Finset.mem_filter.mp hy).2
    let z : (S16x128.rowShape a).Idx := rowIx a ha ((y 2).val % 128) (Nat.mod_lt _ (by omega))
    have hz1 : (z (1 : Fin 2)).val = (y 2).val % 128 := rfl
    refine Finset.mem_map.mpr ⟨z, Finset.mem_univ _, ?_⟩
    rw [winRow_emb e h hk hc e₁ h₁ a ha j hj z (by rw [hz1]; exact Nat.mod_lt _ (by omega))]
    have h0 : (y 0).val < 1 := (y 0).isLt
    funext x
    match x with
    | ⟨0, _⟩ => exact Fin.ext (show 0 = (y 0).val by omega)
    | ⟨1, _⟩ => exact Fin.ext (show 16 * k + j.val = (y 1).val by omega)
    | ⟨2, _⟩ => exact Fin.ext (show 128 * c + (y 2).val % 128 = (y 2).val by omega)

theorem rows_set {o : Fin 3 → ℕ} (e : o = ![0, 0, 0]) (h) : (rowsM o h).view.set = Finset.univ := by
  refine Finset.eq_univ_iff_forall.mpr fun y => Finset.mem_map.mpr ⟨ix2 (y 1) (y 2), Finset.mem_univ _, ?_⟩
  rw [rows_emb e h]
  have h0 : (y 0).val < 1 := (y 0).isLt
  funext x
  match x with
  | ⟨0, _⟩ => exact Fin.ext (show 0 = (y 0).val by omega)
  | ⟨1, _⟩ => rfl
  | ⟨2, _⟩ => rfl

end Cert.Proof.Gather

end
-- ==== Proof.Block.lean ====
/-
  One block of 128 rows of the gather kernel: the 512 row transfers its thirty-two indirect gathers issue on one DMA
  semaphore, what each needs and delivers, one gather's issue, one gather's wait.
-/
module

public import proofs.«01_k».proof.Proof.Geometry

@[expose] public section

noncomputable section

namespace Cert.Proof.Gather

open Cert.Kernel Cert.Kernel.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.GatherBatch

variable {F : FTy → Type}

abbrev 𝒱₀ : Variants := Variants.none
abbrev UH : Type := URounds (GSem nD τ sig) ℕ
abbrev UU : Type := UH × Counters

local notation "𝕄" => MT nD τ sig (HIx 1) (Elt F) ℕ UU ℕ

/-- The embedding of the transfers' counters. -/
abbrev EC : UEmb Counters (MT nD τ sig (HIx 1) (Elt F) ℕ UU ℕ) := countersEmb

/-! ## What one row transfer needs and delivers -/

theorem pos32 : 0 < 32 := by omega
theorem pos16 : 0 < 16 := by omega

/-- The stream a row transfer belongs to, and which of its sixteen rows it is. -/
def streamOf (t : Fin 512) : Fin 32 := ⟨t.val / 16, by have := t.isLt; omega⟩
def entryOf (t : Fin 512) : Fin 16 := ⟨t.val % 16, Nat.mod_lt _ (by omega)⟩

section Rows

variable (d : Dev nD) (u : Fin τ.nSC) (w : Fin τ.nSub)

/-- Row transfer `t` of a block whose list is slot `b`: its elements of the row buffer, the entries of the list whose
    position is its own modulo sixteen (a share: all streams hold some), a share of the table. -/
def Row (b : ℕ) (f : Buf (Elt F) (bV.view.loc (V d u w))) (fo : Buf (Elt F) (sV.view.loc (V d u w)))
    (q : PosShare TreeShare) (fx : Buf (Elt F) (xV.view.loc (V d u w))) (t : Fin 512) : sProp 𝕄 :=
  iprop((bV.view.loc (V d u w) ↦[rowSet t]{fullShare} f)
    ∗ (sV.view.loc (V d u w) ↦[classSet b (entryOf t)]{pieceOf fullShare 32 pos32 (streamOf t)} fo)
    ∗ (xV.view.loc (V d u w) ↦[Finset.univ]{pieceOf (pieceOf q 32 pos32 (streamOf t)) 16 pos16 (entryOf t)} fx))

instance (b : ℕ) (f : Buf (Elt F) (bV.view.loc (V d u w))) (fo : Buf (Elt F) (sV.view.loc (V d u w)))
    (q : PosShare TreeShare) (fx : Buf (Elt F) (xV.view.loc (V d u w))) (t : Fin 512) : Storable (upEmb : UEmb _ 𝕄) (Row d u w b f fo q fx t) := by
  unfold Row; infer_instance

theorem bigSep_streams (Φ : Fin 32 → Fin 16 → sProp 𝕄) :
    (bigSep Finset.univ fun t : Fin 512 => Φ (streamOf t) (entryOf t)) = bigSep Finset.univ fun j : Fin 32 => bigSep Finset.univ fun r : Fin 16 => Φ j r := by
  rw [bigSep_univ_equiv (finProdFinEquiv : Fin 32 × Fin 16 ≃ Fin 512) (fun t : Fin 512 => Φ (streamOf t) (entryOf t)), bigSep_univ_prod]
  refine bigSep_congr fun j _ => bigSep_congr fun r _ => ?_
  have hj : streamOf (finProdFinEquiv (j, r) : Fin (32 * 16)) = j := Fin.ext (show (r.val + 16 * j.val) / 16 = j.val by have := r.isLt; omega)
  have hr : entryOf (finProdFinEquiv (j, r) : Fin (32 * 16)) = r := Fin.ext (show (r.val + 16 * j.val) % 16 = r.val by have := r.isLt; omega)
  exact congrArg₂ Φ hj hr

/-- All 512 of them are the row buffer, the list slot and the share of the table. -/
theorem rows_eq (b : ℕ) (f : Buf (Elt F) (bV.view.loc (V d u w))) (fo : Buf (Elt F) (sV.view.loc (V d u w)))
    (q : PosShare TreeShare) (fx : Buf (Elt F) (xV.view.loc (V d u w))) :
    bigSep Finset.univ (Row d u w b f fo q fx)
      = (iprop((bV.view.loc (V d u w) ↦[Finset.univ]{fullShare} f) ∗ (sV.view.loc (V d u w) ↦[slotSet b]{fullShare} fo)
          ∗ (xV.view.loc (V d u w) ↦[Finset.univ]{q} fx)) : sProp 𝕄) := by
  unfold Row
  rw [bigSep_sep', bigSep_sep', ← pointsTo_biUnion Finset.univ (ℓ := bV.view.loc (V d u w)) rowSet rowSet_disjoint, rowSet_cover,
    bigSep_streams (fun j r => (sV.view.loc (V d u w) ↦[classSet b r]{pieceOf fullShare 32 pos32 j} fo : sProp 𝕄)),
    bigSep_streams (fun j r => (xV.view.loc (V d u w) ↦[Finset.univ]{pieceOf (pieceOf q 32 pos32 j) 16 pos16 r} fx : sProp 𝕄))]
  have hs : (bigSep Finset.univ fun j : Fin 32 => bigSep Finset.univ fun r : Fin 16 =>
      (sV.view.loc (V d u w) ↦[classSet b r]{pieceOf fullShare 32 pos32 j} fo : sProp 𝕄)) = (sV.view.loc (V d u w) ↦[slotSet b]{fullShare} fo : sProp 𝕄) := by
    rw [pointsTo_piecesOf (slotSet b) fo (o := 32) (by omega) fullShare]
    refine bigSep_congr fun j _ => ?_
    rw [← pointsTo_biUnion Finset.univ (ℓ := sV.view.loc (V d u w)) (classSet b) (classSet_disjoint b), classSet_cover]
  have hx : (bigSep Finset.univ fun j : Fin 32 => bigSep Finset.univ fun r : Fin 16 =>
      (xV.view.loc (V d u w) ↦[Finset.univ]{pieceOf (pieceOf q 32 pos32 j) 16 pos16 r} fx : sProp 𝕄)) = (xV.view.loc (V d u w) ↦[Finset.univ]{q} fx : sProp 𝕄) := by
    rw [pointsTo_piecesOf Finset.univ fx (o := 32) (by omega) q]
    refine bigSep_congr fun j _ => ?_
    rw [pointsTo_piecesOf Finset.univ fx (o := 16) (by omega) (pieceOf q 32 pos32 j)]
  rw [hs, hx]

/-! ## The values -/

/-- Word `v` of row `n` of the table (the last row, were `n` past it). -/
def pick (fx : S16384x512.Idx → Elt F .i32) (n : BitVec 32) (v : Fin 512) : Elt F .i32 :=
  fx (ix2 (⟨min n.toNat 16383, by omega⟩ : Fin 16384) v)
/-- A block of rows gathered by the list in slot `b`. -/
def blockRows (b : Fin 2) (fo : Buf (Elt F) (sV.view.loc (V d u w))) (fx : Buf (Elt F) (xV.view.loc (V d u w))) : Buf (Elt F) (bV.view.loc (V d u w)) :=
  fun y => pick (F := F) fx (fo (ix3 b (0 : Fin 1) (y 1) : S2x1x128.Idx)) (y 2)

end Rows

/-! ## One gather's issue -/

/-- The units one row of 128 words raises the semaphore by. -/
abbrev rowUnits : ℕ := 4096
theorem rowUnits_pos : 0 < rowUnits := by decide
theorem rowUnits_eq : (cc0_scoped2 : Ref sig .scVector).dmaCredit (S16x128.rowShape gathers_S16384x128_S16x128.axis') .i32 = rowUnits := by decide

/-- The state between two issues of a block's gathers: the first `n` rows issued. -/
abbrev Fill (d : Dev nD) (u : Fin τ.nSC) (w : Fin τ.nSub) (b : Fin 2) (f₀ : Buf (Elt F) (bV.view.loc (V d u w)))
    (fo : Buf (Elt F) (sV.view.loc (V d u w))) (q : PosShare TreeShare) (fx : Buf (Elt F) (xV.view.loc (V d u w))) (n : ℕ) : sProp 𝕄 :=
  Filling (n := 512) EC (V d u w) (.dma cc0_scratch0.sem) (default : HIx 1) rowUnits (Row d u w b.val f₀ fo q fx)
    (Row d u w b.val (blockRows d u w b fo fx) fo q fx) n

section Issue

variable {Λ : Labels} {defs : Defs nD τ sig (Elt F) Λ} {bd : Option 𝒱₀.V}
variable (d : Dev nD) (u : Fin τ.nSC) (w : Fin τ.nSub)

set_option maxHeartbeats 1000000 in
theorem wp_issue (b : Fin 2) (f₀ : Buf (Elt F) (bV.view.loc (V d u w))) (fo : Buf (Elt F) (sV.view.loc (V d u w))) (q : PosShare TreeShare)
    (fx : Buf (Elt F) (xV.view.loc (V d u w))) (hfo : ∀ p : Fin 128, (fo (ix3 b (0 : Fin 1) p : S2x1x128.Idx) : BitVec 32).toNat < 16384)
    (k c : ℕ) (hk : k < 8) (hc : c < 4) {n n' : ℕ} (hnn : n = 16 * (4 * k + c)) (hnn' : n' = n + 16)
    {oB : Fin 3 → ℕ} (eB : oB = ![0, 0, 0]) {hB : ∀ a, oB a + S1x128x512.size a ≤ S1x128x512.size a}
    {oW : Fin 2 → ℕ} (eW : oW = ![16 * k, 128 * c]) {hW : ∀ a, oW a + S16x128.size a ≤ S128x512.size a}
    {oS : Fin 3 → ℕ} (eS : oS = ![b.val, 0, 0]) {hS : ∀ a, oS a + S1x1x128.size a ≤ S2x1x128.size a}
    {oL : Fin 2 → ℕ} (eL : oL = ![0, 16 * k]) {hL : ∀ a, oL a + S1x16.size a ≤ S1x128.size a}
    {oX : Fin 2 → ℕ} (eX : oX = ![0, 128 * c]) {hX : ∀ a, oX a + S16384x128.size a ≤ S16384x512.size a}
    {oX' : Fin 2 → ℕ} (eX' : oX' = ![0, 0]) {hX' : ∀ a, oX' a + S16384x128.size a ≤ S16384x128.size a}
    {hn : S16.numel = S16x128.size gathers_S16384x128_S16x128.axis'} {hsrc : (slabM oX hX oX' hX').view.WordExact}
    {he : EltTy.i32.bits = 32} {hsp : Space.hbm = .hbm ∨ Space.hbm = .shared} {hr : S16384x128.StreamRows 0}
    {α : Type} {kont : PUnit → Prog (TpuEff nD τ sig (Elt F) Λ (V d u w).2) α} {Q : α → sProp 𝕄} :
    Fill d u w b f₀ fo q fx n
      ⊢ iprop((Fill d u w b f₀ fo q fx n' -∗ wp frame (wpE defs 𝒱₀ (V d u w) bd) Set.univ (kont ⟨⟩) Q)
          -∗ wp frame (wpE defs 𝒱₀ (V d u w) bd) Set.univ
            (SparseCore.enqueueIndirectGather rfl (slabM oX hX oX' hX') (winM oB hB oW hW) gathers_S16384x128_S16x128 (listM oS hS oL hL) hn
              cc0_scratch0.sem hsrc he hsp hr >>= kont) Q) := by
  subst hnn' hnn
  have hb : b.val < 2 := b.isLt
  have hkc : 4 * k + c < 32 := by omega
  have hread : ∀ x : S16.Idx, (listM oS hS oL hL).view.read (Elt F) fo x
      = fo (ix3 b (0 : Fin 1) (⟨16 * k + (x 0).val, by have : (x 0).val < 16 := (x 0).isLt; omega⟩ : Fin 128) : S2x1x128.Idx) := fun x =>
    ((View.read_apply _ _).trans (cast_eq _ _)).trans (congrArg fo (list_emb hb eS hS hk eL hL x))
  have hin : ∀ x : S16.Idx, ((listM oS hS oL hL).view.read (Elt F) fo x : BitVec 32).toNat < S16384x128.size gathers_S16384x128_S16x128.axis := fun x => by
    rw [hread x]; exact hfo _
  have hrow : ∀ j : Fin (S16x128.size gathers_S16384x128_S16x128.axis'), j.val < 16 := fun j => j.isLt
  have hz : 16 * (4 * k + c) + S16x128.size gathers_S16384x128_S16x128.axis' ≤ 512 := by show 16 * (4 * k + c) + 16 ≤ 512; omega
  let T : Fin (S16x128.size gathers_S16384x128_S16x128.axis') → Fin 512 := fun j => ⟨16 * (4 * k + c) + j.val, by have := hrow j; omega⟩
  have hT : ∀ j, streamOf (T j) = ⟨4 * k + c, hkc⟩ := fun j => Fin.ext (by have := hrow j; show (16 * (4 * k + c) + j.val) / 16 = 4 * k + c; omega)
  have hset : ∀ j, ((winM oB hB oW hW).view.slice (S16x128.rowRect gathers_S16384x128_S16x128.axis' j)).set = rowSet (T j) := fun j =>
    winRow_set eB hB hk hc eW hW _ rfl j (hrow j) (T j) rfl
  let ent : Fin 512 → S2x1x128.Idx := fun t => ix3 b (0 : Fin 1) (⟨16 * k + t.val % 16, by have := Nat.mod_lt t.val (show 16 > 0 by omega); omega⟩ : Fin 128)
  have hent : ∀ j, (listM oS hS oL hL).view.emb (S16.rowMajor.symm (j.cast hn.symm)) = ent (T j) := fun j => by
    rw [list_emb hb eS hS hk eL hL]
    refine congrArg (fun z : Fin 128 => (ix3 b (0 : Fin 1) z : S2x1x128.Idx)) (Fin.ext ?_)
    have e := Shape.rowMajor_val_one (S16.rowMajor.symm (j.cast hn.symm))
    rw [Equiv.apply_symm_apply] at e
    have := hrow j
    show 16 * k + ((S16.rowMajor.symm (j.cast hn.symm)) 0).val = 16 * k + (16 * (4 * k + c) + j.val) % 16
    have e' : j.val = ((S16.rowMajor.symm (j.cast hn.symm)) 0).val := e
    omega
  have hmem : ∀ j, {ent (T j)} ⊆ classSet b.val (entryOf (T j)) := fun j => Finset.singleton_subset_iff.mpr
    (Finset.mem_filter.mpr ⟨Finset.mem_univ _, rfl, by
      show (16 * k + (16 * (4 * k + c) + j.val) % 16) % 16 = (16 * (4 * k + c) + j.val) % 16
      omega⟩)
  iintro HF Hk
  iapply (wp_gatherInto EC 𝒱₀ (V d u w) bd (src := slabM oX hX oX' hX') (dst := winM oB hB oW hW) (hg := gathers_S16384x128_S16x128)
      (offs := listM oS hS oL hL) (hn := hn) (sem := cc0_scratch0.sem) (qo := pieceOf fullShare 32 pos32 ⟨4 * k + c, hkc⟩) (fo := fo)
      (default : HIx 1) rowUnits _ _
      (fun t => iprop((sV.view.loc (V d u w) ↦[classSet b.val (entryOf t) \ {ent t}]{pieceOf fullShare 32 pos32 (streamOf t)} fo)
        ∗ (xV.view.loc (V d u w) ↦[Finset.univ \ (slabM oX hX oX' hX').view.set]{pieceOf (pieceOf q 32 pos32 (streamOf t)) 16 pos16 (entryOf t)} fx)))
      (16 * (4 * k + c)) hz (fun _ => fx) (fun j => pieceOf (pieceOf q 32 pos32 (streamOf (T j))) 16 pos16 (entryOf (T j))) (fun _ => f₀)
      (fun _ => rowUnits_eq) hin ?_ ?_) $$ HF
  · intro j
    rw [hset j, hent j]
    show Row d u w b.val f₀ fo q fx (T j) ⊢ _
    unfold Row
    rw [hT j]
    iintro ⟨Hb, Hs, Hx⟩
    ihave Hs' := (pointsTo_split_subset (hmem j)).1 $$ Hs
    ihave Hx' := (pointsTo_split_subset (Finset.subset_univ (slabM oX hX oX' hX').view.set)).1 $$ Hx
    icases Hs' with ⟨Hs, Hs'⟩
    icases Hx' with ⟨Hx, Hx'⟩
    isplitl [Hb]; · iexact Hb
    isplitl [Hs]; · iexact Hs
    isplitl [Hx]; · iexact Hx
    isplitl [Hs']; · iexact Hs'
    iexact Hx'
  · intro j
    rw [hent j]
    show _ ⊢ Row d u w b.val (blockRows d u w b fo fx) fo q fx (T j)
    have hval : ∀ y ∈ ((winM oB hB oW hW).view.slice (S16x128.rowRect gathers_S16384x128_S16x128.axis' j)).set,
        ((winM oB hB oW hW).view.slice (S16x128.rowRect gathers_S16384x128_S16x128.axis' j)).write (Elt F) f₀
          (rowData (V d u w) (slabM oX hX oX' hX') gathers_S16384x128_S16x128 fx
            (SparseCore.rows ((listM oS hS oL hL).view.read (Elt F) fo) hn hin j)) Finset.univ y = blockRows d u w b fo fx y := by
      intro y hy
      obtain ⟨z, -, rfl⟩ := Finset.mem_map.mp hy
      refine ((View.write_emb_of_mem (v := (winM oB hB oW hW).view.slice (S16x128.rowRect gathers_S16384x128_S16x128.axis' j)) f₀ _
        (Finset.mem_univ z)).trans (cast_eq _ _)).trans ?_
      have hz : (z (1 : Fin 2)).val < 128 := (z (1 : Fin 2)).isLt
      have hw := winRow_emb eB hB hk hc eW hW gathers_S16384x128_S16x128.axis' rfl j (hrow j) z hz
      rw [hw]
      unfold rowData
      rw [View.read_apply, cast_eq, slab_emb hc eX hX eX' hX']
      have hkj : 16 * k + j.val < 128 := by have := hrow j; omega
      have hj := congrArg fo (hent j)
      have hlt := hfo (⟨16 * k + j.val, hkj⟩ : Fin 128)
      have he : ent (T j) = (ix3 b (0 : Fin 1) (⟨16 * k + j.val, hkj⟩ : Fin 128) : S2x1x128.Idx) := by
        refine congrArg (fun z : Fin 128 => (ix3 b (0 : Fin 1) z : S2x1x128.Idx)) (Fin.ext ?_)
        have := hrow j
        show 16 * k + (16 * (4 * k + c) + j.val) % 16 = 16 * k + j.val
        omega
      have hrd : ((SparseCore.rows ((listM oS hS oL hL).view.read (Elt F) fo) hn hin j).val : ℕ)
          = (fo (ix3 b (0 : Fin 1) (⟨16 * k + j.val, hkj⟩ : Fin 128) : S2x1x128.Idx) : BitVec 32).toNat := by
        rw [← he, ← hj]
        show BitVec.toNat ((listM oS hS oL hL).view.read (Elt F) fo (S16.rowMajor.symm (j.cast hn.symm))) = _
        exact congrArg BitVec.toNat ((View.read_apply _ _).trans (cast_eq _ _))
      refine congrArg fx (funext fun a => ?_)
      match a with
      | ⟨0, _⟩ => exact Fin.ext (hrd.trans (by
          show _ = min (BitVec.toNat (fo (ix3 b (0 : Fin 1) (⟨16 * k + j.val, hkj⟩ : Fin 128) : S2x1x128.Idx))) 16383
          exact (Nat.min_eq_left (by omega)).symm))
      | ⟨1, _⟩ => rfl
    have hres := Entails.of_eq (pointsTo_congr (nD := nD) (τ := τ) (sig := sig) (Ix := HIx 1) (Val := Elt F) (Name := ℕ) (U := UU) (Lvl := ℕ)
      (ℓ := bV.view.loc (V d u w)) (q := fullShare) hval)
    rw [hset j] at hres ⊢
    unfold Row
    rw [hT j]
    iintro ⟨⟨Hs', Hx'⟩, ⟨Hb, Hs⟩, Hx⟩
    isplitl [Hb]; · iapply hres $$ Hb
    isplitl [Hs Hs']
    · iapply (pointsTo_split_subset (hmem j)).2
      isplitl [Hs] <;> iassumption
    · iapply (pointsTo_split_subset (Finset.subset_univ (slabM oX hX oX' hX').view.set)).2
      isplitl [Hx] <;> iassumption
  · iexact Hk

/-- The state between two waits of a block's gathers: every row issued, `k` gathers' worth of units waited for, and of
    the waits made since `W₀` each of the level the launch allows. -/
def Drain (b : Fin 2) (fo : Buf (Elt F) (sV.view.loc (V d u w))) (q : PosShare TreeShare) (fx : Buf (Elt F) (xV.view.loc (V d u w)))
    (O : CellTallies nD τ sig (HIx 1)) (W₀ : Waits sig (HIx 1)) (k : ℕ) : sProp 𝕄 :=
  iprop(∃ W, ⌜∀ p ∈ W, p ∈ W₀ ∨ p.2 = none⌝
    ∗ Transfers.Batch EC (V d u w) (.dma cc0_scratch0.sem) (default : HIx 1) rowUnits (Row d u w b.val (blockRows d u w b fo fx) fo q fx) 512 (k * (16 * rowUnits))
    ∗ owes (V d u w) O W ∗ Transfers.MayWaits (V d u w) (default : HIx 1) O)

theorem winUnits_eq : (cc0_scoped2 : Ref sig .scVector).dmaCredit S16x128 .i32 = 16 * rowUnits := by decide

/-- With every gather issued, waiting begins. -/
theorem drain_start (b : Fin 2) (f₀ : Buf (Elt F) (bV.view.loc (V d u w))) (fo : Buf (Elt F) (sV.view.loc (V d u w))) (q : PosShare TreeShare)
    (fx : Buf (Elt F) (xV.view.loc (V d u w))) (O : CellTallies nD τ sig (HIx 1)) (W : Waits sig (HIx 1)) :
    iprop(Fill d u w b f₀ fo q fx 512 ∗ owes (V d u w) O W ∗ Transfers.MayWaits (V d u w) (default : HIx 1) O) ⊢ Drain d u w b fo q fx O W 0 := by
  unfold Drain
  iintro ⟨HF, HO, Hmw⟩
  iexists W
  isplitr; · ipureintro; exact fun p hp => .inl hp
  isplitl [HF]
  · rw [Nat.zero_mul]
    iapply (filling_done EC (V d u w) (default : HIx 1) rowUnits _ _) $$ HF
  isplitl [HO] <;> iassumption

/-- One gather's wait. -/
theorem wp_drain (b : Fin 2) (fo : Buf (Elt F) (sV.view.loc (V d u w))) (q : PosShare TreeShare) (fx : Buf (Elt F) (xV.view.loc (V d u w)))
    (O : CellTallies nD τ sig (HIx 1)) (W₀ : Waits sig (HIx 1)) {n n' : ℕ} (hn : n < 32) (hn' : n' = n + 1)
    {src : Memref sig .scVector .hbm S16384x128 .i32} {oB : Fin 3 → ℕ} {hB : ∀ a, oB a + S1x128x512.size a ≤ S1x128x512.size a}
    {oW : Fin 2 → ℕ} {hW : ∀ a, oW a + S16x128.size a ≤ S128x512.size a}
    {hsrc : src.view.WordExact} {hdst : (winM oB hB oW hW).view.WordExact}
    {α : Type} {kont : PUnit → Prog (TpuEff nD τ sig (Elt F) Λ (V d u w).2) α} {Q : α → sProp 𝕄} :
    Drain d u w b fo q fx O W₀ n
      ⊢ iprop((Drain d u w b fo q fx O W₀ n' -∗ wp frame (wpE defs 𝒱₀ (V d u w) bd) Set.univ (kont ⟨⟩) Q)
          -∗ wp frame (wpE defs 𝒱₀ (V d u w) bd) Set.univ
            (SparseCore.waitIndirectGather cc0_scratch0.sem src (winM oB hB oW hW) hsrc hdst >>= kont) Q) := by
  subst hn'
  have hu : n * (16 * rowUnits) + 16 * rowUnits ≤ rowUnits * 512 := by unfold rowUnits; omega
  rw [SparseCore.waitIndirectGather_bind (c := V d u w)]
  unfold Drain
  iintro ⟨%W, %hWW, HB, HO, #Hmw⟩ Hk
  iapply (Transfers.wp_waitBatchMulO EC 𝒱₀ (V d u w) bd (default : HIx 1) 16 (N := rowUnits) winUnits_eq
    (D := Row d u w b.val (blockRows d u w b fo fx) fo q fx) (j := 512) (u := n * (16 * rowUnits)) hu) $$ [HB HO]
  · isplitl [HB]; · iexact HB
    isplitl [HO]; · iexact HO
    iapply (Transfers.MayWaits.elim (SemLoc.dma cc0_scratch0.sem)) $$ Hmw
  iintro ⟨HB, HO⟩
  iapply Hk
  iexists (insert (SemLoc.dma cc0_scratch0.sem, (default : HIx 1)) W)
  isplitr
  · ipureintro
    intro p hp
    rcases Finset.mem_insert.mp hp with hp | hp
    · exact .inr (hp ▸ rfl)
    · exact hWW p hp
  isplitl [HB]
  · iapply (Entails.of_eq (congrArg (Transfers.Batch EC (V d u w) (.dma cc0_scratch0.sem) (default : HIx 1) rowUnits
      (Row d u w b.val (blockRows d u w b fo fx) fo q fx) 512) (Nat.succ_mul n (16 * rowUnits)).symm)) $$ HB
  isplitl [HO]; · iexact HO
  iexact Hmw

/-- All thirty-two waited for: the row buffer gathered, the list and the share of the table back, the cell at zero. -/
theorem drain_done (b : Fin 2) (fo : Buf (Elt F) (sV.view.loc (V d u w))) (q : PosShare TreeShare) (fx : Buf (Elt F) (xV.view.loc (V d u w)))
    (O : CellTallies nD τ sig (HIx 1)) (W₀ : Waits sig (HIx 1)) :
    Drain d u w b fo q fx O W₀ 32 ⊢ |={Set.univ}=> iprop((bV.view.loc (V d u w) ↦[Finset.univ]{fullShare} blockRows d u w b fo fx)
      ∗ (sV.view.loc (V d u w) ↦[slotSet b.val]{fullShare} fo) ∗ (xV.view.loc (V d u w) ↦[Finset.univ]{q} fx)
      ∗ semVal (V d u w, .dma cc0_scratch0.sem) 0 ∗ ∃ W, ⌜∀ p ∈ W, p ∈ W₀ ∨ p.2 = none⌝ ∗ owes (V d u w) O W) := by
  unfold Drain
  iintro ⟨%W, %hW, HB, HO, -⟩
  ihave HB' := (Entails.of_eq (show Transfers.Batch EC (V d u w) (.dma cc0_scratch0.sem) (default : HIx 1) rowUnits
      (Row d u w b.val (blockRows d u w b fo fx) fo q fx) 512 (32 * (16 * rowUnits))
      = Transfers.Batch EC (V d u w) (.dma cc0_scratch0.sem) (default : HIx 1) rowUnits
      (Row d u w b.val (blockRows d u w b fo fx) fo q fx) 512 (rowUnits * 512) from rfl)) $$ HB
  imod (Transfers.batch_collect' EC (V d u w) (N := rowUnits) rowUnits_pos) $$ HB' with ⟨HD, Hv⟩
  ihave HD' := (Entails.of_eq (rows_eq d u w b.val (blockRows d u w b fo fx) fo q fx)) $$ HD
  icases HD' with ⟨Hb, Hs, Hx⟩
  imodintro
  isplitl [Hb]; · iexact Hb
  isplitl [Hs]; · iexact Hs
  isplitl [Hx]; · iexact Hx
  isplitl [Hv]; · iexact Hv
  iexists W
  isplitr; · ipureintro; exact hW
  iexact HO

/-- From the row buffer, a list slot, a share of the table and the cell at zero, issuing begins. -/
theorem fill_start (b : Fin 2) (f₀ : Buf (Elt F) (bV.view.loc (V d u w))) (fo : Buf (Elt F) (sV.view.loc (V d u w))) (q : PosShare TreeShare)
    (fx : Buf (Elt F) (xV.view.loc (V d u w))) :
    iprop((bV.view.loc (V d u w) ↦[Finset.univ]{fullShare} f₀) ∗ (sV.view.loc (V d u w) ↦[slotSet b.val]{fullShare} fo)
      ∗ (xV.view.loc (V d u w) ↦[Finset.univ]{q} fx) ∗ semVal (V d u w, .dma cc0_scratch0.sem) 0)
      ⊢ |={Set.univ}=> Fill d u w b f₀ fo q fx 0 := by
  iintro ⟨Hb, Hs, Hx, Hv⟩
  iapply (filling_start EC (V d u w) (default : HIx 1) rowUnits _ _)
  isplitl [Hv]; · iexact Hv
  iapply (Entails.of_eq (rows_eq d u w b.val f₀ fo q fx).symm)
  isplitl [Hb]; · iexact Hb
  isplitl [Hs]; · iexact Hs
  iexact Hx

end Issue

end Cert.Proof.Gather

end
-- ==== Proof.Parts.lean ====
/-
  The gathers and the waits of one block, part by part of the printed body: each part issues its gathers into the batch
  (`Fill`), or waits for its gathers (`Drain`).
-/
module

public import proofs.«01_k».proof.Proof.Block

@[expose] public section

noncomputable section

namespace Cert.Proof.Gather

open Cert.Kernel Cert.Kernel.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The vector subcore of device `d` at grid coordinates `i`. -/
abbrev cV (i : grid0.Coords) : Fin τ.nSC := (i 0).castLE hcore0
abbrev jV (i : grid0.Coords) : Fin τ.nSub := (i 1).castLE hsub0

variable [FloatOps F] (d : Dev nD) (i : grid0.Coords) (b : Fin 2) {w8 w9 : BitVec 32} (e11 : k0_off11 w8 = ![b.val, 0, 0]) (e10 : k0_off10 w9 = ![0, 0, 0])
  (h3 : k0_chk3 w8) (h2 : k0_chk2 w9)
  (f₀ : Buf (Elt F) (bV.view.loc (V d (cV i) (jV i)))) (fo : Buf (Elt F) (sV.view.loc (V d (cV i) (jV i)))) (q : PosShare TreeShare)
  (fx : Buf (Elt F) (xV.view.loc (V d (cV i) (jV i)))) (hfo : ∀ p : Fin 128, (fo (ix3 b (0 : Fin 1) p : S2x1x128.Idx) : BitVec 32).toNat < 16384)
  (O : CellTallies nD τ sig (HIx 1)) (W₀ : Waits sig (HIx 1))

include hfo e11 e10 in
theorem part3 {Q : PUnit → sProp 𝕄} : Fill d (cV i) (jV i) b f₀ fo q fx 16
    ⊢ iprop((Fill d (cV i) (jV i) b f₀ fo q fx 64 -∗ Q ⟨⟩)
      -∗ wp frame (wpE (defs₀ (F := F)) 𝒱₀ (V d (cV i) (jV i)) none) Set.univ
        (k0_part3 i xV (Memref.isWhole_whole _) iV (Memref.isWhole_whole _) oV (Memref.isWhole_whole _) cc0_scratch0 sV (Memref.isWhole_whole _) cc0_scoped1 bV (Memref.isWhole_whole _) cc0_scoped3 cc0_scoped4 w8 w9 h3 h2) Q) := by
  rw [k0_part3_eq_skeleton]; unfold k0_part3_skel
  iintro HF Hk
  iapply (wp_issue d (cV i) (jV i) b f₀ fo q fx hfo 0 1 (by omega) (by omega) (n' := 32) rfl rfl e10 rfl e11 rfl rfl rfl) $$ HF
  iintro HF
  iapply (wp_issue d (cV i) (jV i) b f₀ fo q fx hfo 0 2 (by omega) (by omega) (n' := 48) rfl rfl e10 rfl e11 rfl rfl rfl) $$ HF
  iintro HF
  iapply (wp_issue d (cV i) (jV i) b f₀ fo q fx hfo 0 3 (by omega) (by omega) (n' := 64) rfl rfl e10 rfl e11 rfl rfl rfl) $$ HF
  iintro HF
  rw [wp_pure]; imodintro
  iapply Hk $$ HF

include hfo e11 e10 in
theorem part4 {Q : PUnit → sProp 𝕄} : Fill d (cV i) (jV i) b f₀ fo q fx 64
    ⊢ iprop((Fill d (cV i) (jV i) b f₀ fo q fx 112 -∗ Q ⟨⟩)
      -∗ wp frame (wpE (defs₀ (F := F)) 𝒱₀ (V d (cV i) (jV i)) none) Set.univ
        (k0_part4 i xV (Memref.isWhole_whole _) iV (Memref.isWhole_whole _) oV (Memref.isWhole_whole _) cc0_scratch0 sV (Memref.isWhole_whole _) cc0_scoped1 bV (Memref.isWhole_whole _) cc0_scoped3 cc0_scoped4 w8 w9 h3 h2) Q) := by
  rw [k0_part4_eq_skeleton]; unfold k0_part4_skel
  iintro HF Hk
  iapply (wp_issue d (cV i) (jV i) b f₀ fo q fx hfo 1 0 (by omega) (by omega) (n' := 80) rfl rfl e10 rfl e11 rfl rfl rfl) $$ HF
  iintro HF
  iapply (wp_issue d (cV i) (jV i) b f₀ fo q fx hfo 1 1 (by omega) (by omega) (n' := 96) rfl rfl e10 rfl e11 rfl rfl rfl) $$ HF
  iintro HF
  iapply (wp_issue d (cV i) (jV i) b f₀ fo q fx hfo 1 2 (by omega) (by omega) (n' := 112) rfl rfl e10 rfl e11 rfl rfl rfl) $$ HF
  iintro HF
  rw [wp_pure]; imodintro
  iapply Hk $$ HF

include hfo e11 e10 in
theorem part5 {Q : PUnit → sProp 𝕄} : Fill d (cV i) (jV i) b f₀ fo q fx 112
    ⊢ iprop((Fill d (cV i) (jV i) b f₀ fo q fx 144 -∗ Q ⟨⟩)
      -∗ wp frame (wpE (defs₀ (F := F)) 𝒱₀ (V d (cV i) (jV i)) none) Set.univ
        (k0_part5 i xV (Memref.isWhole_whole _) iV (Memref.isWhole_whole _) oV (Memref.isWhole_whole _) cc0_scratch0 sV (Memref.isWhole_whole _) cc0_scoped1 bV (Memref.isWhole_whole _) cc0_scoped3 cc0_scoped4 w8 w9 h3 h2) Q) := by
  rw [k0_part5_eq_skeleton]; unfold k0_part5_skel
  iintro HF Hk
  iapply (wp_issue d (cV i) (jV i) b f₀ fo q fx hfo 1 3 (by omega) (by omega) (n' := 128) rfl rfl e10 rfl e11 rfl rfl rfl) $$ HF
  iintro HF
  iapply (wp_issue d (cV i) (jV i) b f₀ fo q fx hfo 2 0 (by omega) (by omega) (n' := 144) rfl rfl e10 rfl e11 rfl rfl rfl) $$ HF
  iintro HF
  rw [wp_pure]; imodintro
  iapply Hk $$ HF

include hfo e11 e10 in
theorem part6 {Q : PUnit → sProp 𝕄} : Fill d (cV i) (jV i) b f₀ fo q fx 144
    ⊢ iprop((Fill d (cV i) (jV i) b f₀ fo q fx 192 -∗ Q ⟨⟩)
      -∗ wp frame (wpE (defs₀ (F := F)) 𝒱₀ (V d (cV i) (jV i)) none) Set.univ
        (k0_part6 i xV (Memref.isWhole_whole _) iV (Memref.isWhole_whole _) oV (Memref.isWhole_whole _) cc0_scratch0 sV (Memref.isWhole_whole _) cc0_scoped1 bV (Memref.isWhole_whole _) cc0_scoped3 cc0_scoped4 w8 w9 h3 h2) Q) := by
  rw [k0_part6_eq_skeleton]; unfold k0_part6_skel
  iintro HF Hk
  iapply (wp_issue d (cV i) (jV i) b f₀ fo q fx hfo 2 1 (by omega) (by omega) (n' := 160) rfl rfl e10 rfl e11 rfl rfl rfl) $$ HF
  iintro HF
  iapply (wp_issue d (cV i) (jV i) b f₀ fo q fx hfo 2 2 (by omega) (by omega) (n' := 176) rfl rfl e10 rfl e11 rfl rfl rfl) $$ HF
  iintro HF
  iapply (wp_issue d (cV i) (jV i) b f₀ fo q fx hfo 2 3 (by omega) (by omega) (n' := 192) rfl rfl e10 rfl e11 rfl rfl rfl) $$ HF
  iintro HF
  rw [wp_pure]; imodintro
  iapply Hk $$ HF

include hfo e11 e10 in
theorem part7 {Q : PUnit → sProp 𝕄} : Fill d (cV i) (jV i) b f₀ fo q fx 192
    ⊢ iprop((Fill d (cV i) (jV i) b f₀ fo q fx 240 -∗ Q ⟨⟩)
      -∗ wp frame (wpE (defs₀ (F := F)) 𝒱₀ (V d (cV i) (jV i)) none) Set.univ
        (k0_part7 i xV (Memref.isWhole_whole _) iV (Memref.isWhole_whole _) oV (Memref.isWhole_whole _) cc0_scratch0 sV (Memref.isWhole_whole _) cc0_scoped1 bV (Memref.isWhole_whole _) cc0_scoped3 cc0_scoped4 w8 w9 h3 h2) Q) := by
  rw [k0_part7_eq_skeleton]; unfold k0_part7_skel
  iintro HF Hk
  iapply (wp_issue d (cV i) (jV i) b f₀ fo q fx hfo 3 0 (by omega) (by omega) (n' := 208) rfl rfl e10 rfl e11 rfl rfl rfl) $$ HF
  iintro HF
  iapply (wp_issue d (cV i) (jV i) b f₀ fo q fx hfo 3 1 (by omega) (by omega) (n' := 224) rfl rfl e10 rfl e11 rfl rfl rfl) $$ HF
  iintro HF
  iapply (wp_issue d (cV i) (jV i) b f₀ fo q fx hfo 3 2 (by omega) (by omega) (n' := 240) rfl rfl e10 rfl e11 rfl rfl rfl) $$ HF
  iintro HF
  rw [wp_pure]; imodintro
  iapply Hk $$ HF

include hfo e11 e10 in
theorem part8 {Q : PUnit → sProp 𝕄} : Fill d (cV i) (jV i) b f₀ fo q fx 240
    ⊢ iprop((Fill d (cV i) (jV i) b f₀ fo q fx 288 -∗ Q ⟨⟩)
      -∗ wp frame (wpE (defs₀ (F := F)) 𝒱₀ (V d (cV i) (jV i)) none) Set.univ
        (k0_part8 i xV (Memref.isWhole_whole _) iV (Memref.isWhole_whole _) oV (Memref.isWhole_whole _) cc0_scratch0 sV (Memref.isWhole_whole _) cc0_scoped1 bV (Memref.isWhole_whole _) cc0_scoped3 cc0_scoped4 w8 w9 h3 h2) Q) := by
  rw [k0_part8_eq_skeleton]; unfold k0_part8_skel
  iintro HF Hk
  iapply (wp_issue d (cV i) (jV i) b f₀ fo q fx hfo 3 3 (by omega) (by omega) (n' := 256) rfl rfl e10 rfl e11 rfl rfl rfl) $$ HF
  iintro HF
  iapply (wp_issue d (cV i) (jV i) b f₀ fo q fx hfo 4 0 (by omega) (by omega) (n' := 272) rfl rfl e10 rfl e11 rfl rfl rfl) $$ HF
  iintro HF
  iapply (wp_issue d (cV i) (jV i) b f₀ fo q fx hfo 4 1 (by omega) (by omega) (n' := 288) rfl rfl e10 rfl e11 rfl rfl rfl) $$ HF
  iintro HF
  rw [wp_pure]; imodintro
  iapply Hk $$ HF

include hfo e11 e10 in
theorem part9 {Q : PUnit → sProp 𝕄} : Fill d (cV i) (jV i) b f₀ fo q fx 288
    ⊢ iprop((Fill d (cV i) (jV i) b f₀ fo q fx 320 -∗ Q ⟨⟩)
      -∗ wp frame (wpE (defs₀ (F := F)) 𝒱₀ (V d (cV i) (jV i)) none) Set.univ
        (k0_part9 i xV (Memref.isWhole_whole _) iV (Memref.isWhole_whole _) oV (Memref.isWhole_whole _) cc0_scratch0 sV (Memref.isWhole_whole _) cc0_scoped1 bV (Memref.isWhole_whole _) cc0_scoped3 cc0_scoped4 w8 w9 h3 h2) Q) := by
  rw [k0_part9_eq_skeleton]; unfold k0_part9_skel
  iintro HF Hk
  iapply (wp_issue d (cV i) (jV i) b f₀ fo q fx hfo 4 2 (by omega) (by omega) (n' := 304) rfl rfl e10 rfl e11 rfl rfl rfl) $$ HF
  iintro HF
  iapply (wp_issue d (cV i) (jV i) b f₀ fo q fx hfo 4 3 (by omega) (by omega) (n' := 320) rfl rfl e10 rfl e11 rfl rfl rfl) $$ HF
  iintro HF
  rw [wp_pure]; imodintro
  iapply Hk $$ HF

include hfo e11 e10 in
theorem part10 {Q : PUnit → sProp 𝕄} : Fill d (cV i) (jV i) b f₀ fo q fx 320
    ⊢ iprop((Fill d (cV i) (jV i) b f₀ fo q fx 368 -∗ Q ⟨⟩)
      -∗ wp frame (wpE (defs₀ (F := F)) 𝒱₀ (V d (cV i) (jV i)) none) Set.univ
        (k0_part10 i xV (Memref.isWhole_whole _) iV (Memref.isWhole_whole _) oV (Memref.isWhole_whole _) cc0_scratch0 sV (Memref.isWhole_whole _) cc0_scoped1 bV (Memref.isWhole_whole _) cc0_scoped3 cc0_scoped4 w8 w9 h3 h2) Q) := by
  rw [k0_part10_eq_skeleton]; unfold k0_part10_skel
  iintro HF Hk
  iapply (wp_issue d (cV i) (jV i) b f₀ fo q fx hfo 5 0 (by omega) (by omega) (n' := 336) rfl rfl e10 rfl e11 rfl rfl rfl) $$ HF
  iintro HF
  iapply (wp_issue d (cV i) (jV i) b f₀ fo q fx hfo 5 1 (by omega) (by omega) (n' := 352) rfl rfl e10 rfl e11 rfl rfl rfl) $$ HF
  iintro HF
  iapply (wp_issue d (cV i) (jV i) b f₀ fo q fx hfo 5 2 (by omega) (by omega) (n' := 368) rfl rfl e10 rfl e11 rfl rfl rfl) $$ HF
  iintro HF
  rw [wp_pure]; imodintro
  iapply Hk $$ HF

include hfo e11 e10 in
theorem part11 {Q : PUnit → sProp 𝕄} : Fill d (cV i) (jV i) b f₀ fo q fx 368
    ⊢ iprop((Fill d (cV i) (jV i) b f₀ fo q fx 416 -∗ Q ⟨⟩)
      -∗ wp frame (wpE (defs₀ (F := F)) 𝒱₀ (V d (cV i) (jV i)) none) Set.univ
        (k0_part11 i xV (Memref.isWhole_whole _) iV (Memref.isWhole_whole _) oV (Memref.isWhole_whole _) cc0_scratch0 sV (Memref.isWhole_whole _) cc0_scoped1 bV (Memref.isWhole_whole _) cc0_scoped3 cc0_scoped4 w8 w9 h3 h2) Q) := by
  rw [k0_part11_eq_skeleton]; unfold k0_part11_skel
  iintro HF Hk
  iapply (wp_issue d (cV i) (jV i) b f₀ fo q fx hfo 5 3 (by omega) (by omega) (n' := 384) rfl rfl e10 rfl e11 rfl rfl rfl) $$ HF
  iintro HF
  iapply (wp_issue d (cV i) (jV i) b f₀ fo q fx hfo 6 0 (by omega) (by omega) (n' := 400) rfl rfl e10 rfl e11 rfl rfl rfl) $$ HF
  iintro HF
  iapply (wp_issue d (cV i) (jV i) b f₀ fo q fx hfo 6 1 (by omega) (by omega) (n' := 416) rfl rfl e10 rfl e11 rfl rfl rfl) $$ HF
  iintro HF
  rw [wp_pure]; imodintro
  iapply Hk $$ HF

include hfo e11 e10 in
theorem part12 {Q : PUnit → sProp 𝕄} : Fill d (cV i) (jV i) b f₀ fo q fx 416
    ⊢ iprop((Fill d (cV i) (jV i) b f₀ fo q fx 464 -∗ Q ⟨⟩)
      -∗ wp frame (wpE (defs₀ (F := F)) 𝒱₀ (V d (cV i) (jV i)) none) Set.univ
        (k0_part12 i xV (Memref.isWhole_whole _) iV (Memref.isWhole_whole _) oV (Memref.isWhole_whole _) cc0_scratch0 sV (Memref.isWhole_whole _) cc0_scoped1 bV (Memref.isWhole_whole _) cc0_scoped3 cc0_scoped4 w8 w9 h3 h2) Q) := by
  rw [k0_part12_eq_skeleton]; unfold k0_part12_skel
  iintro HF Hk
  iapply (wp_issue d (cV i) (jV i) b f₀ fo q fx hfo 6 2 (by omega) (by omega) (n' := 432) rfl rfl e10 rfl e11 rfl rfl rfl) $$ HF
  iintro HF
  iapply (wp_issue d (cV i) (jV i) b f₀ fo q fx hfo 6 3 (by omega) (by omega) (n' := 448) rfl rfl e10 rfl e11 rfl rfl rfl) $$ HF
  iintro HF
  iapply (wp_issue d (cV i) (jV i) b f₀ fo q fx hfo 7 0 (by omega) (by omega) (n' := 464) rfl rfl e10 rfl e11 rfl rfl rfl) $$ HF
  iintro HF
  rw [wp_pure]; imodintro
  iapply Hk $$ HF

include hfo e11 e10 in
theorem part13 {Q : PUnit → sProp 𝕄} : Fill d (cV i) (jV i) b f₀ fo q fx 464
    ⊢ iprop((Fill d (cV i) (jV i) b f₀ fo q fx 496 -∗ Q ⟨⟩)
      -∗ wp frame (wpE (defs₀ (F := F)) 𝒱₀ (V d (cV i) (jV i)) none) Set.univ
        (k0_part13 i xV (Memref.isWhole_whole _) iV (Memref.isWhole_whole _) oV (Memref.isWhole_whole _) cc0_scratch0 sV (Memref.isWhole_whole _) cc0_scoped1 bV (Memref.isWhole_whole _) cc0_scoped3 cc0_scoped4 w8 w9 h3 h2) Q) := by
  rw [k0_part13_eq_skeleton]; unfold k0_part13_skel
  iintro HF Hk
  iapply (wp_issue d (cV i) (jV i) b f₀ fo q fx hfo 7 1 (by omega) (by omega) (n' := 480) rfl rfl e10 rfl e11 rfl rfl rfl) $$ HF
  iintro HF
  iapply (wp_issue d (cV i) (jV i) b f₀ fo q fx hfo 7 2 (by omega) (by omega) (n' := 496) rfl rfl e10 rfl e11 rfl rfl rfl) $$ HF
  iintro HF
  rw [wp_pure]; imodintro
  iapply Hk $$ HF

include hfo e11 e10 in
theorem part14 {Q : PUnit → sProp 𝕄} : iprop(Fill d (cV i) (jV i) b f₀ fo q fx 496 ∗ owes (V d (cV i) (jV i)) O W₀ ∗ Transfers.MayWaits (V d (cV i) (jV i)) (default : HIx 1) O)
    ⊢ iprop((Drain d (cV i) (jV i) b fo q fx O W₀ 2 -∗ Q ⟨⟩)
      -∗ wp frame (wpE (defs₀ (F := F)) 𝒱₀ (V d (cV i) (jV i)) none) Set.univ
        (k0_part14 i xV (Memref.isWhole_whole _) iV (Memref.isWhole_whole _) oV (Memref.isWhole_whole _) cc0_scratch0 sV (Memref.isWhole_whole _) cc0_scoped1 bV (Memref.isWhole_whole _) cc0_scoped3 cc0_scoped4 w8 w9 h3 h2) Q) := by
  rw [k0_part14_eq_skeleton]; unfold k0_part14_skel
  iintro ⟨HF, HO, Hmw⟩ Hk
  iapply (wp_issue d (cV i) (jV i) b f₀ fo q fx hfo 7 3 (by omega) (by omega) (n' := 512) rfl rfl e10 rfl e11 rfl rfl rfl) $$ HF
  iintro HF
  ihave HF := (drain_start d (cV i) (jV i) b f₀ fo q fx O W₀) $$ [HF HO Hmw]
  · isplitl [HF]; · iexact HF
    isplitl [HO] <;> iassumption
  iapply (wp_drain d (cV i) (jV i) b fo q fx O W₀ (n' := 1) (by omega) rfl) $$ HF
  iintro HF
  iapply (wp_drain d (cV i) (jV i) b fo q fx O W₀ (n' := 2) (by omega) rfl) $$ HF
  iintro HF
  rw [wp_pure]; imodintro
  iapply Hk $$ HF

theorem part15 {Q : PUnit → sProp 𝕄} : Drain d (cV i) (jV i) b fo q fx O W₀ 2
    ⊢ iprop((Drain d (cV i) (jV i) b fo q fx O W₀ 5 -∗ Q ⟨⟩)
      -∗ wp frame (wpE (defs₀ (F := F)) 𝒱₀ (V d (cV i) (jV i)) none) Set.univ
        (k0_part15 i xV (Memref.isWhole_whole _) iV (Memref.isWhole_whole _) oV (Memref.isWhole_whole _) cc0_scratch0 sV (Memref.isWhole_whole _) cc0_scoped1 bV (Memref.isWhole_whole _) cc0_scoped3 cc0_scoped4 w8 w9 h3 h2) Q) := by
  rw [k0_part15_eq_skeleton]; unfold k0_part15_skel
  iintro HF Hk
  iapply (wp_drain d (cV i) (jV i) b fo q fx O W₀ (n' := 3) (by omega) rfl) $$ HF
  iintro HF
  iapply (wp_drain d (cV i) (jV i) b fo q fx O W₀ (n' := 4) (by omega) rfl) $$ HF
  iintro HF
  iapply (wp_drain d (cV i) (jV i) b fo q fx O W₀ (n' := 5) (by omega) rfl) $$ HF
  iintro HF
  rw [wp_pure]; imodintro
  iapply Hk $$ HF

theorem part16 {Q : PUnit → sProp 𝕄} : Drain d (cV i) (jV i) b fo q fx O W₀ 5
    ⊢ iprop((Drain d (cV i) (jV i) b fo q fx O W₀ 7 -∗ Q ⟨⟩)
      -∗ wp frame (wpE (defs₀ (F := F)) 𝒱₀ (V d (cV i) (jV i)) none) Set.univ
        (k0_part16 i xV (Memref.isWhole_whole _) iV (Memref.isWhole_whole _) oV (Memref.isWhole_whole _) cc0_scratch0 sV (Memref.isWhole_whole _) cc0_scoped1 bV (Memref.isWhole_whole _) cc0_scoped3 cc0_scoped4 w8 w9 h3 h2) Q) := by
  rw [k0_part16_eq_skeleton]; unfold k0_part16_skel
  iintro HF Hk
  iapply (wp_drain d (cV i) (jV i) b fo q fx O W₀ (n' := 6) (by omega) rfl) $$ HF
  iintro HF
  iapply (wp_drain d (cV i) (jV i) b fo q fx O W₀ (n' := 7) (by omega) rfl) $$ HF
  iintro HF
  rw [wp_pure]; imodintro
  iapply Hk $$ HF

theorem part17 {Q : PUnit → sProp 𝕄} : Drain d (cV i) (jV i) b fo q fx O W₀ 7
    ⊢ iprop((Drain d (cV i) (jV i) b fo q fx O W₀ 10 -∗ Q ⟨⟩)
      -∗ wp frame (wpE (defs₀ (F := F)) 𝒱₀ (V d (cV i) (jV i)) none) Set.univ
        (k0_part17 i xV (Memref.isWhole_whole _) iV (Memref.isWhole_whole _) oV (Memref.isWhole_whole _) cc0_scratch0 sV (Memref.isWhole_whole _) cc0_scoped1 bV (Memref.isWhole_whole _) cc0_scoped3 cc0_scoped4 w8 w9 h3 h2) Q) := by
  rw [k0_part17_eq_skeleton]; unfold k0_part17_skel
  iintro HF Hk
  iapply (wp_drain d (cV i) (jV i) b fo q fx O W₀ (n' := 8) (by omega) rfl) $$ HF
  iintro HF
  iapply (wp_drain d (cV i) (jV i) b fo q fx O W₀ (n' := 9) (by omega) rfl) $$ HF
  iintro HF
  iapply (wp_drain d (cV i) (jV i) b fo q fx O W₀ (n' := 10) (by omega) rfl) $$ HF
  iintro HF
  rw [wp_pure]; imodintro
  iapply Hk $$ HF

theorem part18 {Q : PUnit → sProp 𝕄} : Drain d (cV i) (jV i) b fo q fx O W₀ 10
    ⊢ iprop((Drain d (cV i) (jV i) b fo q fx O W₀ 13 -∗ Q ⟨⟩)
      -∗ wp frame (wpE (defs₀ (F := F)) 𝒱₀ (V d (cV i) (jV i)) none) Set.univ
        (k0_part18 i xV (Memref.isWhole_whole _) iV (Memref.isWhole_whole _) oV (Memref.isWhole_whole _) cc0_scratch0 sV (Memref.isWhole_whole _) cc0_scoped1 bV (Memref.isWhole_whole _) cc0_scoped3 cc0_scoped4 w8 w9 h3 h2) Q) := by
  rw [k0_part18_eq_skeleton]; unfold k0_part18_skel
  iintro HF Hk
  iapply (wp_drain d (cV i) (jV i) b fo q fx O W₀ (n' := 11) (by omega) rfl) $$ HF
  iintro HF
  iapply (wp_drain d (cV i) (jV i) b fo q fx O W₀ (n' := 12) (by omega) rfl) $$ HF
  iintro HF
  iapply (wp_drain d (cV i) (jV i) b fo q fx O W₀ (n' := 13) (by omega) rfl) $$ HF
  iintro HF
  rw [wp_pure]; imodintro
  iapply Hk $$ HF

theorem part19 {Q : PUnit → sProp 𝕄} : Drain d (cV i) (jV i) b fo q fx O W₀ 13
    ⊢ iprop((Drain d (cV i) (jV i) b fo q fx O W₀ 16 -∗ Q ⟨⟩)
      -∗ wp frame (wpE (defs₀ (F := F)) 𝒱₀ (V d (cV i) (jV i)) none) Set.univ
        (k0_part19 i xV (Memref.isWhole_whole _) iV (Memref.isWhole_whole _) oV (Memref.isWhole_whole _) cc0_scratch0 sV (Memref.isWhole_whole _) cc0_scoped1 bV (Memref.isWhole_whole _) cc0_scoped3 cc0_scoped4 w8 w9 h3 h2) Q) := by
  rw [k0_part19_eq_skeleton]; unfold k0_part19_skel
  iintro HF Hk
  iapply (wp_drain d (cV i) (jV i) b fo q fx O W₀ (n' := 14) (by omega) rfl) $$ HF
  iintro HF
  iapply (wp_drain d (cV i) (jV i) b fo q fx O W₀ (n' := 15) (by omega) rfl) $$ HF
  iintro HF
  iapply (wp_drain d (cV i) (jV i) b fo q fx O W₀ (n' := 16) (by omega) rfl) $$ HF
  iintro HF
  rw [wp_pure]; imodintro
  iapply Hk $$ HF

theorem part20 {Q : PUnit → sProp 𝕄} : Drain d (cV i) (jV i) b fo q fx O W₀ 16
    ⊢ iprop((Drain d (cV i) (jV i) b fo q fx O W₀ 18 -∗ Q ⟨⟩)
      -∗ wp frame (wpE (defs₀ (F := F)) 𝒱₀ (V d (cV i) (jV i)) none) Set.univ
        (k0_part20 i xV (Memref.isWhole_whole _) iV (Memref.isWhole_whole _) oV (Memref.isWhole_whole _) cc0_scratch0 sV (Memref.isWhole_whole _) cc0_scoped1 bV (Memref.isWhole_whole _) cc0_scoped3 cc0_scoped4 w8 w9 h3 h2) Q) := by
  rw [k0_part20_eq_skeleton]; unfold k0_part20_skel
  iintro HF Hk
  iapply (wp_drain d (cV i) (jV i) b fo q fx O W₀ (n' := 17) (by omega) rfl) $$ HF
  iintro HF
  iapply (wp_drain d (cV i) (jV i) b fo q fx O W₀ (n' := 18) (by omega) rfl) $$ HF
  iintro HF
  rw [wp_pure]; imodintro
  iapply Hk $$ HF

theorem part21 {Q : PUnit → sProp 𝕄} : Drain d (cV i) (jV i) b fo q fx O W₀ 18
    ⊢ iprop((Drain d (cV i) (jV i) b fo q fx O W₀ 21 -∗ Q ⟨⟩)
      -∗ wp frame (wpE (defs₀ (F := F)) 𝒱₀ (V d (cV i) (jV i)) none) Set.univ
        (k0_part21 i xV (Memref.isWhole_whole _) iV (Memref.isWhole_whole _) oV (Memref.isWhole_whole _) cc0_scratch0 sV (Memref.isWhole_whole _) cc0_scoped1 bV (Memref.isWhole_whole _) cc0_scoped3 cc0_scoped4 w8 w9 h3 h2) Q) := by
  rw [k0_part21_eq_skeleton]; unfold k0_part21_skel
  iintro HF Hk
  iapply (wp_drain d (cV i) (jV i) b fo q fx O W₀ (n' := 19) (by omega) rfl) $$ HF
  iintro HF
  iapply (wp_drain d (cV i) (jV i) b fo q fx O W₀ (n' := 20) (by omega) rfl) $$ HF
  iintro HF
  iapply (wp_drain d (cV i) (jV i) b fo q fx O W₀ (n' := 21) (by omega) rfl) $$ HF
  iintro HF
  rw [wp_pure]; imodintro
  iapply Hk $$ HF

theorem part22 {Q : PUnit → sProp 𝕄} : Drain d (cV i) (jV i) b fo q fx O W₀ 21
    ⊢ iprop((Drain d (cV i) (jV i) b fo q fx O W₀ 24 -∗ Q ⟨⟩)
      -∗ wp frame (wpE (defs₀ (F := F)) 𝒱₀ (V d (cV i) (jV i)) none) Set.univ
        (k0_part22 i xV (Memref.isWhole_whole _) iV (Memref.isWhole_whole _) oV (Memref.isWhole_whole _) cc0_scratch0 sV (Memref.isWhole_whole _) cc0_scoped1 bV (Memref.isWhole_whole _) cc0_scoped3 cc0_scoped4 w8 w9 h3 h2) Q) := by
  rw [k0_part22_eq_skeleton]; unfold k0_part22_skel
  iintro HF Hk
  iapply (wp_drain d (cV i) (jV i) b fo q fx O W₀ (n' := 22) (by omega) rfl) $$ HF
  iintro HF
  iapply (wp_drain d (cV i) (jV i) b fo q fx O W₀ (n' := 23) (by omega) rfl) $$ HF
  iintro HF
  iapply (wp_drain d (cV i) (jV i) b fo q fx O W₀ (n' := 24) (by omega) rfl) $$ HF
  iintro HF
  rw [wp_pure]; imodintro
  iapply Hk $$ HF

theorem part23 {Q : PUnit → sProp 𝕄} : Drain d (cV i) (jV i) b fo q fx O W₀ 24
    ⊢ iprop((Drain d (cV i) (jV i) b fo q fx O W₀ 27 -∗ Q ⟨⟩)
      -∗ wp frame (wpE (defs₀ (F := F)) 𝒱₀ (V d (cV i) (jV i)) none) Set.univ
        (k0_part23 i xV (Memref.isWhole_whole _) iV (Memref.isWhole_whole _) oV (Memref.isWhole_whole _) cc0_scratch0 sV (Memref.isWhole_whole _) cc0_scoped1 bV (Memref.isWhole_whole _) cc0_scoped3 cc0_scoped4 w8 w9 h3 h2) Q) := by
  rw [k0_part23_eq_skeleton]; unfold k0_part23_skel
  iintro HF Hk
  iapply (wp_drain d (cV i) (jV i) b fo q fx O W₀ (n' := 25) (by omega) rfl) $$ HF
  iintro HF
  iapply (wp_drain d (cV i) (jV i) b fo q fx O W₀ (n' := 26) (by omega) rfl) $$ HF
  iintro HF
  iapply (wp_drain d (cV i) (jV i) b fo q fx O W₀ (n' := 27) (by omega) rfl) $$ HF
  iintro HF
  rw [wp_pure]; imodintro
  iapply Hk $$ HF

theorem part24 {Q : PUnit → sProp 𝕄} : Drain d (cV i) (jV i) b fo q fx O W₀ 27
    ⊢ iprop((Drain d (cV i) (jV i) b fo q fx O W₀ 29 -∗ Q ⟨⟩)
      -∗ wp frame (wpE (defs₀ (F := F)) 𝒱₀ (V d (cV i) (jV i)) none) Set.univ
        (k0_part24 i xV (Memref.isWhole_whole _) iV (Memref.isWhole_whole _) oV (Memref.isWhole_whole _) cc0_scratch0 sV (Memref.isWhole_whole _) cc0_scoped1 bV (Memref.isWhole_whole _) cc0_scoped3 cc0_scoped4 w8 w9 h3 h2) Q) := by
  rw [k0_part24_eq_skeleton]; unfold k0_part24_skel
  iintro HF Hk
  iapply (wp_drain d (cV i) (jV i) b fo q fx O W₀ (n' := 28) (by omega) rfl) $$ HF
  iintro HF
  iapply (wp_drain d (cV i) (jV i) b fo q fx O W₀ (n' := 29) (by omega) rfl) $$ HF
  iintro HF
  rw [wp_pure]; imodintro
  iapply Hk $$ HF

end Cert.Proof.Gather

end
-- ==== Proof.Words.lean ====
/-
  The words the tile's loop carries, trip by trip, and what the printed offsets, conditions and side conditions are at them.
-/
module

public import proofs.«01_k».proof.Proof.Geometry

@[expose] public section

noncomputable section

namespace Cert.Proof.Gather

open Cert.Kernel Cert.Kernel.Gen
open Idealize.ShloMosaic Idealize.ShloMosaic.ValueIdx

/-- Which of the thirty-two tiles the coordinates name; its first word. -/
def tileNo (i : grid0.Coords) : ℕ := (i 1).val + 16 * (i 0).val
abbrev baseWord (i : grid0.Coords) : BitVec 32 :=
  Scalar.muli (Scalar.addi (Scalar.addi 0#32 (Scalar.muli (BitVec.ofNat 32 (i 1).val) 1#32)) (Scalar.muli (BitVec.ofNat 32 (i 0).val) 16#32)) 9#32

theorem tileNo_lt (i : grid0.Coords) : tileNo i < 32 := by
  have h0 : (i 0).val < 2 := (i 0).isLt
  have h1 : (i 1).val < 16 := (i 1).isLt
  unfold tileNo; omega

/-- The word counting the lists asked for, the one counting the blocks, and the block's number, before trip `k`. -/
def askedWord (k : ℕ) : BitVec 32 := BitVec.ofNat 32 (min (k + 1) 9)
def doneWord (k : ℕ) : BitVec 32 := BitVec.ofNat 32 k
def blockWord (k : ℕ) : BitVec 32 := BitVec.ofNat 32 (if k = 9 then 0 else k)

theorem trips_eq : k0_t1_loop.trips = 9 := by decide +kernel

theorem cond1_iff : ∀ (i : grid0.Coords) (t : Fin k0_t1_loop.trips), k0_cond1 i t (blockWord t.val) = 1#1 ↔ t.val < 8 := by decide +kernel
theorem cond2_true : ∀ (i : grid0.Coords) (t : Fin k0_t1_loop.trips), k0_cond2 i t (blockWord t.val) = 1#1 := by decide +kernel
theorem cond5_true : ∀ (i : grid0.Coords) (t : Fin k0_t1_loop.trips), k0_cond5 i t (blockWord t.val) = 1#1 := by decide +kernel

theorem off4_at : ∀ (t : Fin k0_t1_loop.trips), t.val < 8 → k0_off4 (askedWord t.val) = ![(t.val + 1) % 2, 0, 0] := by decide +kernel
theorem off5_at : ∀ (i : grid0.Coords) (t : Fin k0_t1_loop.trips), t.val < 8 → k0_off5 i (blockWord t.val) = ![0, 128 * (9 * tileNo i + (t.val + 1))] := by decide +kernel
theorem off6_at : ∀ (t : Fin k0_t1_loop.trips), t.val < 8 → k0_off6 (askedWord t.val) = ![(t.val + 1) % 2] := by decide +kernel
theorem off7_at : ∀ (t : Fin k0_t1_loop.trips), k0_off7 (doneWord t.val) = ![t.val % 2, 0, 0] := by decide +kernel
theorem off9_at : ∀ (t : Fin k0_t1_loop.trips), k0_off9 (doneWord t.val) = ![t.val % 2] := by decide +kernel
theorem off10_at : ∀ (t : Fin k0_t1_loop.trips), k0_off10 (doneWord t.val) = ![0, 0, 0] := by decide +kernel
theorem off11_at : ∀ (t : Fin k0_t1_loop.trips), k0_off11 (doneWord t.val) = ![t.val % 2, 0, 0] := by decide +kernel
theorem off12_at : ∀ (t : Fin k0_t1_loop.trips), k0_off12 (doneWord t.val) = ![0, 0, 0] := by decide +kernel
theorem off13_at : ∀ (i : grid0.Coords) (t : Fin k0_t1_loop.trips), k0_off13 i (blockWord t.val) = ![128 * (9 * tileNo i + t.val), 0] := by decide +kernel
theorem off2_at : ∀ (i : grid0.Coords), k0_off2 i = ![0, 128 * (9 * tileNo i)] := by decide +kernel

theorem chk1_at : ∀ (i : grid0.Coords) (t : Fin k0_t1_loop.trips), k0_chk1 i t (askedWord t.val) (doneWord t.val) (doneWord t.val) (blockWord t.val) := by decide +kernel
theorem chk2_at : ∀ (t : Fin k0_t1_loop.trips), k0_chk2 (doneWord t.val) := by decide +kernel
theorem chk3_at : ∀ (t : Fin k0_t1_loop.trips), k0_chk3 (doneWord t.val) := by decide +kernel

/-- The printed words of one trip. -/
abbrev w56 (t : ℕ) : BitVec 1 := Scalar.cmpi .eq (Scf.iv 0#32 1#32 t) 0#32
abbrev w57 (t : ℕ) : BitVec 1 := Scalar.cmpi .eq (Scf.iv 0#32 1#32 t) 8#32
abbrev w58 (i : grid0.Coords) (t : ℕ) : BitVec 32 := Scalar.addi (blockWord t) (baseWord i)
abbrev w63 (i : grid0.Coords) (t : ℕ) : BitVec 32 :=
  Scalar.addi (Scalar.select (Scalar.cmpi .eq (Scalar.select 1#1 (Scalar.subi (blockWord t) 1#32) (blockWord t)) 4294967295#32) 8#32
    (Scalar.select 1#1 (Scalar.subi (blockWord t) 1#32) (blockWord t))) (baseWord i)
abbrev w68 (i : grid0.Coords) (t : ℕ) : BitVec 32 :=
  Scalar.addi (Scalar.select (Scalar.cmpi .eq (Scalar.select 1#1 (Scalar.addi (blockWord t) 1#32) (blockWord t)) 9#32) 0#32
    (Scalar.select 1#1 (Scalar.addi (blockWord t) 1#32) (blockWord t))) (baseWord i)

theorem asked_next : ∀ (i : grid0.Coords) (t : Fin k0_t1_loop.trips),
    Scalar.select (Scalar.andi (Scalar.andi (Scalar.cmpi .ne (w58 i t.val) (w68 i t.val)) (Scalar.xori (Scalar.cmpi .sge (Scf.iv 0#32 1#32 t.val) 8#32) 1#1)) 1#1)
      (Scalar.addi (askedWord t.val) 1#32) (askedWord t.val) = askedWord (t.val + 1) := by decide +kernel
theorem written_next : ∀ (i : grid0.Coords) (t : Fin k0_t1_loop.trips),
    Scalar.select (Scalar.andi (Scalar.ori (Scalar.cmpi .ne (w58 i t.val) (w68 i t.val)) (w57 t.val)) 1#1)
      (Scalar.addi (doneWord t.val) 1#32) (doneWord t.val) = doneWord (t.val + 1) := by decide +kernel
theorem done_next : ∀ (i : grid0.Coords) (t : Fin k0_t1_loop.trips),
    Scalar.select (Scalar.ori (Scalar.cmpi .ne (w58 i t.val) (w68 i t.val)) (w57 t.val))
      (Scalar.addi (doneWord t.val) 1#32) (doneWord t.val) = doneWord (t.val + 1) := by decide +kernel
theorem block_next : ∀ (t : Fin k0_t1_loop.trips),
    Scalar.select (Scalar.cmpi .eq (Scalar.select 1#1 (Scalar.addi (blockWord t.val) 1#32) (blockWord t.val)) 9#32) 0#32
      (Scalar.select 1#1 (Scalar.addi (blockWord t.val) 1#32) (blockWord t.val)) = blockWord (t.val + 1) := by decide +kernel

/-- The cell a list slot's copy signals. -/
def listCell (b : Fin 2) : DmaSem sig := ⟨1 + b.val, by have := b.isLt; have h : (3 : ℕ) ≤ sig.nDmaSem := by decide
                                                        omega⟩
end Cert.Proof.Gather

end
-- ==== Proof.Slots.lean ====
/-
  The two list slots of a tile: a slot idle, a slot whose block of row numbers is in flight, the copy's issue and its wait;
  and the write-out of a gathered block.
-/
module

public import proofs.«01_k».proof.Proof.Block
public import proofs.«01_k».proof.Proof.Words

@[expose] public section

noncomputable section

namespace Cert.Proof.Gather

open Cert.Kernel Cert.Kernel.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem pos2 : 0 < 2 := by omega

/-- Entry `r` of the list of row numbers (the last, were `r` past it). -/
def listAt (fi : S1x36864.Idx → Elt F .i32) (r : ℕ) : BitVec 32 := fi (ix2 (0 : Fin 1) (⟨min r 36863, by omega⟩ : Fin 36864))

/-- A block of the list. -/
abbrev blockM (o : Fin 2 → ℕ) (h : ∀ a, o a + S1x128.size a ≤ S1x36864.size a) : Memref sig .scVector .hbm S1x128 .i32 :=
  iV.slice (Rect.unit (s := S1x36864) o S1x128.size h) (fun _ => rfl)

theorem block_emb {n : ℕ} {o : Fin 2 → ℕ} (e : o = ![0, 128 * n]) (h) (i : S1x128.Idx) :
    (blockM o h).view.emb i = (ix2 (0 : Fin 1) (⟨min (128 * n + (i 1).val) 36863, by omega⟩ : Fin 36864) : S1x36864.Idx) := by
  subst e
  have h1 : 128 * n + 128 ≤ 36864 := h 1
  have i0 : (i 0).val < 1 := (i 0).isLt
  have i1 : (i 1).val < 128 := (i 1).isLt
  funext a
  match a with
  | ⟨0, _⟩ => exact Fin.ext (show 0 + 1 * (i 0).val = 0 by omega)
  | ⟨1, _⟩ => exact Fin.ext (show 128 * n + 1 * (i 1).val = min (128 * n + (i 1).val) 36863 by omega)

theorem cell_eq (b : Fin 2) {o : Fin 1 → ℕ} (e : o = ![b.val]) (h : ∀ a, o a + S1.size a ≤ S2.size a) :
    ((cc0_scoped1.slice (Rect.unit (s := S2) o S1.size h)).squeeze S_ squeezes_S1_S_).sem = listCell b := by
  subst e
  revert h
  revert b
  decide

abbrev listUnits : ℕ := 4096
theorem listUnits_eq : (cc0_scoped0 : Ref sig .scVector).dmaCredit S1x128 .i32 = listUnits := by decide

section

variable (d : Dev nD) (u : Fin τ.nSC) (w : Fin τ.nSub)

/-- Slot `b` idle: any contents, its half of the share of the list, its cell at zero. -/
def Idle (b : Fin 2) (q : PosShare TreeShare) (fi : Buf (Elt F) (iV.view.loc (V d u w))) : sProp 𝕄 :=
  iprop((∃ fs, sV.view.loc (V d u w) ↦[slotSet b.val]{fullShare} fs)
    ∗ (iV.view.loc (V d u w) ↦[Finset.univ]{pieceOf q 2 pos2 b} fi) ∗ semVal (V d u w, .dma (listCell b)) 0)

/-- Slot `b` holding block `n` of the list. -/
def Holds (b : Fin 2) (fi : Buf (Elt F) (iV.view.loc (V d u w))) (n : ℕ) (fo : Buf (Elt F) (sV.view.loc (V d u w))) : Prop :=
  ∀ p : Fin 128, (fo (ix3 b (0 : Fin 1) p : S2x1x128.Idx) : BitVec 32) = listAt fi (128 * n + p.val)

/-- Slot `b` with block `n` of the list in flight to it. -/
def Asked (b : Fin 2) (q : PosShare TreeShare) (fi : Buf (Elt F) (iV.view.loc (V d u w))) (n : ℕ) : sProp 𝕄 :=
  iprop(∃ fo, ⌜Holds d u w b fi n fo⌝ ∗ ∃ Sr, Transfers.Flight EC (V d u w) (.dma (listCell b)) (default : HIx 1) listUnits
      iprop((sV.view.loc (V d u w) ↦[slotSet b.val]{fullShare} fo) ∗ (iV.view.loc (V d u w) ↦[Sr]{pieceOf q 2 pos2 b} fi))
    ∗ (iV.view.loc (V d u w) ↦[Finset.univ \ Sr]{pieceOf q 2 pos2 b} fi))

variable {Λ : Labels} {defs : Defs nD τ sig (Elt F) Λ} {bd : Option 𝒱₀.V}

theorem wp_ask (b : Fin 2) (q : PosShare TreeShare) (fi : Buf (Elt F) (iV.view.loc (V d u w))) (n : ℕ)
    {oI : Fin 2 → ℕ} (eI : oI = ![0, 128 * n]) {hI : ∀ a, oI a + S1x128.size a ≤ S1x36864.size a}
    {oS : Fin 3 → ℕ} (eS : oS = ![b.val, 0, 0]) {hS : ∀ a, oS a + S1x1x128.size a ≤ S2x1x128.size a}
    {oC : Fin 1 → ℕ} (eC : oC = ![b.val]) {hC : ∀ a, oC a + S1.size a ≤ S2.size a}
    {hsrc : (blockM oI hI).view.WordExact} {hdst : (slotM oS hS).view.WordExact}
    {hsem : DmaTarget.Typed (nD := nD) Space.hbm (.dma ((cc0_scoped1.slice (Rect.unit (s := S2) oC S1.size hC)).squeeze S_ squeezes_S1_S_).sem) (.here (slotM oS hS) : DmaTarget nD τ sig (V d u w).2 .vmem S1x128 .i32)}
    {α : Type} {kont : PUnit → Prog (TpuEff nD τ sig (Elt F) Λ (V d u w).2) α} {Q : α → sProp 𝕄} :
    Idle d u w b q fi
      ⊢ iprop((Asked d u w b q fi n -∗ wp frame (wpE defs 𝒱₀ (V d u w) bd) Set.univ (kont ⟨⟩) Q)
          -∗ wp frame (wpE defs 𝒱₀ (V d u w) bd) Set.univ
            (Prog.lift (.enqueueDma (blockM oI hI) (.here (slotM oS hS))
              (.dma ((cc0_scoped1.slice (Rect.unit (s := S2) oC S1.size hC)).squeeze S_ squeezes_S1_S_).sem) hsrc hdst hsem) >>= kont) Q) := by
  have hcell := cell_eq b eC hC
  generalize ((cc0_scoped1.slice (Rect.unit (s := S2) oC S1.size hC)).squeeze S_ squeezes_S1_S_).sem = cell at hcell hsem
  subst hcell
  unfold Idle Asked
  iintro ⟨⟨%fs, Hs⟩, Hi, Hv⟩ Hk
  ihave Hi' := (pointsTo_split_subset (Finset.subset_univ (blockM oI hI).view.set)).1 $$ Hi
  icases Hi' with ⟨Hi, Hrest⟩
  iapply (Transfers.wp_dmaLocal EC (defs := defs) 𝒱₀ (V d u w) bd (src := blockM oI hI) (via := .same) (dst := slotM oS hS) (sm := .dma (listCell b))
    (q := pieceOf q 2 pos2 b) (fs := fi) (Sd := slotSet b.val) (fd := fs)
    (default : HIx 1) listUnits listUnits_eq (by decide) (by rw [slot_set b.isLt eS hS])) $$ [Hs Hi Hv]
  · isplitl [Hi]; · iexact Hi
    isplitl [Hs] <;> iassumption
  iintro HF
  iapply Hk
  iexists ((slotM oS hS).view.write (Elt F) fs ((blockM oI hI).view.read (Elt F) fi) Finset.univ)
  isplitr
  · ipureintro
    intro p
    have he := slot_emb b.isLt eS hS (ix2 (0 : Fin 1) p)
    have hw := (View.write_emb_of_mem (v := (slotM oS hS).view) fs ((blockM oI hI).view.read (Elt F) fi)
      (Finset.mem_univ (ix2 (0 : Fin 1) p))).trans (cast_eq _ _)
    rw [he] at hw
    refine hw.trans ?_
    refine ((View.read_apply _ _).trans (cast_eq _ _)).trans ?_
    exact congrArg fi (block_emb eI hI (ix2 (0 : Fin 1) p))
  iexists (blockM oI hI).view.set
  isplitl [HF]; · iexact HF
  iexact Hrest

theorem wp_awaitList (b : Fin 2) (q : PosShare TreeShare) (fi : Buf (Elt F) (iV.view.loc (V d u w))) (n : ℕ)
    {oI : Fin 2 → ℕ} {hI : ∀ a, oI a + S1x128.size a ≤ S1x36864.size a}
    {oS : Fin 3 → ℕ} {hS : ∀ a, oS a + S1x1x128.size a ≤ S2x1x128.size a}
    {oC : Fin 1 → ℕ} (eC : oC = ![b.val]) {hC : ∀ a, oC a + S1.size a ≤ S2.size a}
    {hsrc : (blockM oI hI).view.WordExact} {hdst : (slotM oS hS).view.WordExact}
    {O : CellTallies nD τ sig (HIx 1)} {W : Waits sig (HIx 1)}
    {α : Type} {kont : PUnit → Prog (TpuEff nD τ sig (Elt F) Λ (V d u w).2) α} {Q : α → sProp 𝕄} :
    iprop(Asked d u w b q fi n ∗ owes (V d u w) O W ∗ Transfers.MayWaits (V d u w) (default : HIx 1) O)
      ⊢ iprop((∀ fo, iprop(⌜Holds d u w b fi n fo⌝ ∗ (sV.view.loc (V d u w) ↦[slotSet b.val]{fullShare} fo)
              ∗ (iV.view.loc (V d u w) ↦[Finset.univ]{pieceOf q 2 pos2 b} fi) ∗ semVal (V d u w, .dma (listCell b)) 0
              ∗ owes (V d u w) O (insert (SemLoc.dma (listCell b), (default : HIx 1)) W)) -∗ wp frame (wpE defs 𝒱₀ (V d u w) bd) Set.univ (kont ⟨⟩) Q)
          -∗ wp frame (wpE defs 𝒱₀ (V d u w) bd) Set.univ
            (Prog.lift (.waitDma2 ((cc0_scoped1.slice (Rect.unit (s := S2) oC S1.size hC)).squeeze S_ squeezes_S1_S_).sem
              (blockM oI hI) (slotM oS hS) hsrc hdst) >>= kont) Q) := by
  have hcell := cell_eq b eC hC
  generalize ((cc0_scoped1.slice (Rect.unit (s := S2) oC S1.size hC)).squeeze S_ squeezes_S1_S_).sem = cell at hcell
  subst hcell
  unfold Asked
  iintro ⟨⟨%fo, %hfo, %Sr, HF, Hrest⟩, HO, Hmw⟩ Hk
  iapply (Transfers.wp_waitLocalO EC (defs := defs) 𝒱₀ (V d u w) bd (srcw := blockM oI hI) (dstw := slotM oS hS) (default : HIx 1) listUnits_eq) $$ [HF HO Hmw]
  · isplitl [HF]; · iexact HF
    isplitl [HO]; · iexact HO
    iapply (Transfers.MayWaits.elim (SemLoc.dma (listCell b))) $$ Hmw
  iintro ⟨⟨Hs, Hi⟩, Hv, HO⟩
  iapply Hk $$ %fo
  isplitr; · ipureintro; exact hfo
  isplitl [Hs]; · iexact Hs
  isplitl [Hi Hrest]
  · iapply (pointsTo_split_subset (Finset.subset_univ Sr)).2
    isplitl [Hi] <;> iassumption
  isplitl [Hv] <;> iassumption

/-! ## The write-out -/

/-- The gathered array: row `r` is the row of the table entry `r` of the list names. -/
def gathered (fx : S16384x512.Idx → Elt F .i32) (fi : S1x36864.Idx → Elt F .i32) : S36864x512.Idx → Elt F .i32 :=
  fun y => pick (F := F) fx (listAt fi (y 0).val) (y 1)

/-- The rows of the output a tile writes. -/
def tileRows (t : ℕ) : Finset S36864x512.Idx := Finset.univ.filter fun y => (y 0).val / 1152 = t

/-- A tile's rows of the output, of which the first `k` blocks are written. -/
def Written (t : ℕ) (fx : Buf (Elt F) (xV.view.loc (V d u w))) (fi : Buf (Elt F) (iV.view.loc (V d u w))) (k : ℕ) : sProp 𝕄 :=
  iprop(∃ g : Buf (Elt F) (oV.view.loc (V d u w)), ⌜∀ y ∈ tileRows t, (y 0).val < 128 * (9 * t + k) → g y = gathered fx fi y⌝
    ∗ (oV.view.loc (V d u w) ↦[tileRows t]{fullShare} g))

/-- A block of rows of the output. -/
abbrev outM (o : Fin 2 → ℕ) (h : ∀ a, o a + S128x512.size a ≤ S36864x512.size a) : Memref sig .scVector .hbm S128x512 .i32 :=
  oV.slice (Rect.unit (s := S36864x512) o S128x512.size h) (fun _ => rfl)

theorem out_emb {n : ℕ} {o : Fin 2 → ℕ} (e : o = ![128 * n, 0]) (h) (i : S128x512.Idx) :
    (((outM o h).view.emb i) 0).val = 128 * n + (i 0).val ∧ ((outM o h).view.emb i) 1 = i 1 := by
  subst e
  exact ⟨show 128 * n + 1 * (i 0).val = _ by omega, Fin.ext (show 0 + 1 * (i 1).val = (i 1).val by omega)⟩

theorem out_set {t k : ℕ} (hk : k < 9) {o : Fin 2 → ℕ} (e : o = ![128 * (9 * t + k), 0]) (h) (y : S36864x512.Idx) :
    y ∈ (outM o h).view.set ↔ (y 0).val / 128 = 9 * t + k := by
  constructor
  · intro hy
    obtain ⟨i, -, rfl⟩ := Finset.mem_map.mp hy
    have := (out_emb e h i).1
    have hi : (i 0).val < 128 := (i 0).isLt
    show (((outM o h).view.emb i) 0).val / 128 = _
    omega
  · intro hy
    have h0 : (y 0).val < 36864 := (y 0).isLt
    refine Finset.mem_map.mpr ⟨ix2 (⟨(y 0).val % 128, Nat.mod_lt _ (by omega)⟩ : Fin 128) (y 1), Finset.mem_univ _, ?_⟩
    have he := out_emb e h (ix2 (⟨(y 0).val % 128, Nat.mod_lt _ (by omega)⟩ : Fin 128) (y 1))
    funext a
    match a with
    | ⟨0, _⟩ => exact Fin.ext (he.1.trans (by show 128 * (9 * t + k) + (y 0).val % 128 = (y 0).val; omega))
    | ⟨1, _⟩ => exact he.2

abbrev outUnits : ℕ := (main_v1_scv : Ref sig .scVector).dmaCredit S128x512 .i32

theorem wp_writeOut (b : Fin 2) (t k : ℕ) (hk : k < 9) (fo : Buf (Elt F) (sV.view.loc (V d u w)))
    (fx : Buf (Elt F) (xV.view.loc (V d u w))) (fi : Buf (Elt F) (iV.view.loc (V d u w))) (hfo : Holds d u w b fi (9 * t + k) fo)
    {oB : Fin 3 → ℕ} (eB : oB = ![0, 0, 0]) {hB hB' : ∀ a, oB a + S1x128x512.size a ≤ S1x128x512.size a}
    {oO : Fin 2 → ℕ} (eO : oO = ![128 * (9 * t + k), 0]) {hO hO' : ∀ a, oO a + S128x512.size a ≤ S36864x512.size a}
    {hsrc hsrc' : (rowsM oB hB).view.WordExact} {hdst hdst' : (outM oO hO).view.WordExact}
    {hsem : DmaTarget.Typed (nD := nD) Space.vmem (.dma cc0_scoped4.sem) (.here (outM oO hO) : DmaTarget nD τ sig (V d u w).2 .hbm S128x512 .i32)}
    {O : CellTallies nD τ sig (HIx 1)} {W : Waits sig (HIx 1)}
    {α : Type} {kont : PUnit → Prog (TpuEff nD τ sig (Elt F) Λ (V d u w).2) α} {Q : α → sProp 𝕄} :
    iprop((bV.view.loc (V d u w) ↦[Finset.univ]{fullShare} blockRows d u w b fo fx) ∗ Written d u w t fx fi k
        ∗ semVal (V d u w, .dma cc0_scoped4.sem) 0 ∗ owes (V d u w) O W ∗ Transfers.MayWaits (V d u w) (default : HIx 1) O)
      ⊢ iprop((iprop((bV.view.loc (V d u w) ↦[Finset.univ]{fullShare} blockRows d u w b fo fx) ∗ Written d u w t fx fi (k + 1)
              ∗ semVal (V d u w, .dma cc0_scoped4.sem) 0 ∗ owes (V d u w) O (insert (SemLoc.dma cc0_scoped4.sem, (default : HIx 1)) W))
            -∗ wp frame (wpE defs 𝒱₀ (V d u w) bd) Set.univ (kont ⟨⟩) Q)
          -∗ wp frame (wpE defs 𝒱₀ (V d u w) bd) Set.univ
            (Prog.lift (.enqueueDma (rowsM oB hB) (.here (outM oO hO)) (.dma cc0_scoped4.sem) hsrc hdst hsem) >>= fun _ =>
              Prog.lift (.waitDma2 cc0_scoped4.sem (rowsM oB hB') (outM oO hO') hsrc' hdst') >>= kont) Q) := by
  have hsub : (outM oO hO).view.set ⊆ tileRows t := fun y hy => Finset.mem_filter.mpr ⟨Finset.mem_univ _, by
    have := (out_set hk eO hO y).mp hy
    show (y 0).val / 1152 = t
    omega⟩
  iintro ⟨Hb, HW, Hv, HO, Hmw⟩ Hk
  unfold Written
  icases HW with ⟨%g, %hg, Hg⟩
  ihave Hb' := (Entails.of_eq (congrArg (fun S => (bV.view.loc (V d u w) ↦[S]{fullShare} blockRows d u w b fo fx : sProp 𝕄)) (rows_set eB hB).symm)) $$ Hb
  iapply (Transfers.wp_dmaLocal EC (defs := defs) 𝒱₀ (V d u w) bd (src := rowsM oB hB) (via := .same) (dst := outM oO hO) (sm := .dma cc0_scoped4.sem)
    (q := fullShare) (fs := blockRows d u w b fo fx) (Sd := tileRows t) (fd := g)
    (default : HIx 1) outUnits rfl (View.amount_pos (outM oO hO).view (.dma cc0_scoped4.sem) (by decide)) hsub) $$ [Hb' Hg Hv]
  · isplitl [Hb']; · iexact Hb'
    isplitl [Hg] <;> iassumption
  iintro HF
  iapply (Transfers.wp_waitLocalO EC (defs := defs) 𝒱₀ (V d u w) bd (srcw := rowsM oB hB') (dstw := outM oO hO') (N := outUnits) (default : HIx 1) rfl) $$ [HF HO Hmw]
  · isplitl [HF]; · iexact HF
    isplitl [HO]; · iexact HO
    iapply (Transfers.MayWaits.elim (SemLoc.dma cc0_scoped4.sem)) $$ Hmw
  iintro ⟨⟨Hg, Hb⟩, Hv, HO⟩
  iapply Hk
  isplitl [Hb]
  · iapply (Entails.of_eq (congrArg (fun S => (bV.view.loc (V d u w) ↦[S]{fullShare} blockRows d u w b fo fx : sProp 𝕄)) (rows_set eB hB))) $$ Hb
  isplitl [Hg]
  · iexists ((outM oO hO).view.write (Elt F) g ((rowsM oB hB).view.read (Elt F) (blockRows d u w b fo fx)) Finset.univ)
    isplitr
    · ipureintro
      intro y hy hlt
      by_cases hm : y ∈ (outM oO hO).view.set
      · obtain ⟨z, -, rfl⟩ := Finset.mem_map.mp hm
        refine ((View.write_emb_of_mem (v := (outM oO hO).view) g _ (Finset.mem_univ z)).trans (cast_eq _ _)).trans ?_
        refine ((View.read_apply _ _).trans (cast_eq _ _)).trans ?_
        rw [rows_emb eB hB]
        have he := out_emb eO hO z
        show pick (F := F) fx (fo (ix3 b (0 : Fin 1) (z 0) : S2x1x128.Idx)) (z 1) = pick (F := F) fx (listAt fi (((outM oO hO).view.emb z) 0).val) (((outM oO hO).view.emb z) 1)
        rw [hfo (z 0), he.1, he.2]
      · refine (View.write_of_not_mem _ _ _ hm).trans (hg y hy ?_)
        have hn : ¬ (y 0).val / 128 = 9 * t + k := fun h => hm ((out_set hk eO hO y).mpr h)
        have hy0 : (y 0).val / 1152 = t := (Finset.mem_filter.mp hy).2
        omega
    · iexact Hg
  isplitl [Hv] <;> iassumption

end

end Cert.Proof.Gather

end
-- ==== Proof.Trip.lean ====
/-
  One trip of the tile's loop: the next list asked for, this trip's list awaited, its 128 rows gathered and written out.
-/
module

public import proofs.«01_k».proof.Proof.Parts
public import proofs.«01_k».proof.Proof.Slots

@[expose] public section

noncomputable section

namespace Cert.Proof.Gather

open Cert.Kernel Cert.Kernel.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The slot trip `k` reads its list from. -/
def slotNo (k : ℕ) : Fin 2 := ⟨k % 2, Nat.mod_lt _ (by omega)⟩

variable [FloatOps F] (d : Dev nD) (i : grid0.Coords)

/-- The slot of trip `k` before it: its list in flight, or, past the last trip, the slot idle. -/
def SlotAt (q : PosShare TreeShare) (fi : Buf (Elt F) (iV.view.loc (V d (cV i) (jV i)))) (k : ℕ) : sProp 𝕄 :=
  if k < 9 then Asked d (cV i) (jV i) (slotNo k) q fi (9 * tileNo i + k) else Idle d (cV i) (jV i) (slotNo k) q fi

theorem part1 (q : PosShare TreeShare) (fi : Buf (Elt F) (iV.view.loc (V d (cV i) (jV i)))) (t : Fin k0_t1_loop.trips)
    {Q : (Σ' (k0_hw3 : k0_chk3 (doneWord t.val)) (k0_hw2 : k0_chk2 (doneWord t.val)) (k0_hw1 : k0_chk1 i t (askedWord t.val) (doneWord t.val) (doneWord t.val) (blockWord t.val))
      (arg6_r0 : BitVec 32) (v56_r0 : BitVec 1) (v57_r0 : BitVec 1) (v58_r0 : BitVec 32) (v63_r0 : BitVec 32) (v68_r0 : BitVec 32), BitVec 32) → sProp 𝕄} :
    Idle d (cV i) (jV i) (slotNo (t.val + 1)) q fi
    ⊢ iprop((SlotAt d i q fi (t.val + 1) -∗ Q ⟨chk3_at t, chk2_at t, chk1_at i t, Scf.iv 0#32 1#32 t.val, w56 t.val, w57 t.val, w58 i t.val, w63 i t.val, w68 i t.val, askedWord (t.val + 1)⟩)
      -∗ wp frame (wpE (defs₀ (F := F)) 𝒱₀ (V d (cV i) (jV i)) none) Set.univ
        (k0_part1 i xV (Memref.isWhole_whole _) iV (Memref.isWhole_whole _) oV (Memref.isWhole_whole _) cc0_scratch0 sV (Memref.isWhole_whole _) cc0_scoped1 bV (Memref.isWhole_whole _) cc0_scoped3 cc0_scoped4
          (baseWord i) 0#32 1#32 t (askedWord t.val) (doneWord t.val) (doneWord t.val) (blockWord t.val)) Q) := by
  rw [k0_part1_eq_skeleton]; unfold k0_part1_skel
  iintro HI Hk
  iapply (wp_assume 𝒱₀ (V d (cV i) (jV i)) none Set.univ (chk3_at t))
  iapply (wp_assume 𝒱₀ (V d (cV i) (jV i)) none Set.univ (chk2_at t))
  iapply (wp_assume 𝒱₀ (V d (cV i) (jV i)) none Set.univ (chk1_at i t))
  unfold SlotAt
  rcases Nat.lt_or_ge t.val 8 with h8 | h8
  · rw [if_pos (by omega)]
    have hc := (cond1_iff i t).mpr h8
    simp only [Prog.lift, Prog.bind, dif_pos hc]
    iapply (wp_ask d (cV i) (jV i) (slotNo (t.val + 1)) q fi (9 * tileNo i + (t.val + 1)) (off5_at i t h8) (off4_at t h8) (off6_at t h8)) $$ HI
    iintro HI
    rw [wp_pure]; imodintro
    rw [asked_next i t]
    iapply Hk $$ HI
  · have hc : ¬ k0_cond1 i t (blockWord t.val) = 1#1 := fun h => absurd ((cond1_iff i t).mp h) (by omega)
    rw [if_neg (by omega)]
    simp only [Prog.lift, Prog.bind, dif_neg hc]
    rw [wp_pure]; imodintro
    rw [asked_next i t]
    iapply Hk $$ HI

/-- The entries a slot holds are row numbers of the table, the whole list's being. -/
theorem holds_lt {u : Fin τ.nSC} {w : Fin τ.nSub} {b : Fin 2} {fi : Buf (Elt F) (iV.view.loc (V d u w))} {n : ℕ} {fo : Buf (Elt F) (sV.view.loc (V d u w))}
    (hfi : ∀ r, (listAt (F := F) fi r).toNat < 16384) (h : Holds d u w b fi n fo) (p : Fin 128) :
    (fo (ix3 b (0 : Fin 1) p : S2x1x128.Idx) : BitVec 32).toNat < 16384 := by
  rw [h p]; exact hfi _

theorem part2 (q : PosShare TreeShare) (fi : Buf (Elt F) (iV.view.loc (V d (cV i) (jV i)))) (hfi : ∀ r, (listAt (F := F) fi r).toNat < 16384)
    (qx : PosShare TreeShare) (fx : Buf (Elt F) (xV.view.loc (V d (cV i) (jV i)))) (f₀ : Buf (Elt F) (bV.view.loc (V d (cV i) (jV i))))
    (O : CellTallies nD τ sig (HIx 1)) (W : Waits sig (HIx 1)) (t : Fin k0_t1_loop.trips) {Q : PUnit → sProp 𝕄} :
    iprop(Asked d (cV i) (jV i) (slotNo t.val) q fi (9 * tileNo i + t.val) ∗ owes (V d (cV i) (jV i)) O W
        ∗ Transfers.MayWaits (V d (cV i) (jV i)) (default : HIx 1) O
        ∗ (bV.view.loc (V d (cV i) (jV i)) ↦[Finset.univ]{fullShare} f₀) ∗ (xV.view.loc (V d (cV i) (jV i)) ↦[Finset.univ]{qx} fx)
        ∗ semVal (V d (cV i) (jV i), .dma cc0_scratch0.sem) 0)
    ⊢ iprop((∀ fo, iprop(⌜Holds d (cV i) (jV i) (slotNo t.val) fi (9 * tileNo i + t.val) fo⌝
          ∗ Fill d (cV i) (jV i) (slotNo t.val) f₀ fo qx fx 16
          ∗ (iV.view.loc (V d (cV i) (jV i)) ↦[Finset.univ]{pieceOf q 2 pos2 (slotNo t.val)} fi) ∗ semVal (V d (cV i) (jV i), .dma (listCell (slotNo t.val))) 0
          ∗ owes (V d (cV i) (jV i)) O (insert (SemLoc.dma (listCell (slotNo t.val)), (default : HIx 1)) W)) -∗ Q ⟨⟩)
      -∗ wp frame (wpE (defs₀ (F := F)) 𝒱₀ (V d (cV i) (jV i)) none) Set.univ
        (k0_part2 i xV (Memref.isWhole_whole _) iV (Memref.isWhole_whole _) oV (Memref.isWhole_whole _) cc0_scratch0 sV (Memref.isWhole_whole _) cc0_scoped1 bV (Memref.isWhole_whole _) cc0_scoped3 cc0_scoped4
          t (askedWord t.val) (doneWord t.val) (doneWord t.val) (blockWord t.val) (chk3_at t) (chk2_at t) (chk1_at i t)
          (Scf.iv 0#32 1#32 t.val) (w56 t.val) (w58 i t.val) (w63 i t.val)) Q) := by
  rw [k0_part2_eq_skeleton]; unfold k0_part2_skel
  iintro ⟨HA, HO, Hmw, Hb, Hx, Hv⟩ Hk
  have hc := cond2_true i t
  simp only [Prog.lift, Prog.bind, dif_pos hc, ite_self]
  iapply (wp_awaitList d (cV i) (jV i) (slotNo t.val) q fi (9 * tileNo i + t.val) (off9_at t)) $$ [HA HO Hmw]
  · isplitl [HA]; · iexact HA
    isplitl [HO] <;> iassumption
  iintro %fo ⟨%hfo, Hs, Hi, Hc, HO⟩
  imod (fill_start d (cV i) (jV i) (slotNo t.val) f₀ fo qx fx) $$ [Hb Hs Hx Hv] with HF
  · isplitl [Hb]; · iexact Hb
    isplitl [Hs]; · iexact Hs
    isplitl [Hx] <;> iassumption
  iapply (wp_issue d (cV i) (jV i) (slotNo t.val) f₀ fo qx fx (holds_lt d hfi hfo) 0 0 (by omega) (by omega) (n := 0) (n' := 16) rfl rfl
    (off10_at t) rfl (off11_at t) rfl rfl rfl) $$ HF
  iintro HF
  rw [wp_pure]; imodintro
  iapply Hk
  isplitr; · ipureintro; exact hfo
  isplitl [HF]; · iexact HF
  isplitl [Hi]; · iexact Hi
  isplitl [Hc] <;> iassumption

theorem part25 (b : Fin 2) {w8 w9 : BitVec 32} (h3 : k0_chk3 w8) (h2 : k0_chk2 w9) (v57 : BitVec 1) (v58 v68 : BitVec 32)
    (fo : Buf (Elt F) (sV.view.loc (V d (cV i) (jV i)))) (qx : PosShare TreeShare) (fx : Buf (Elt F) (xV.view.loc (V d (cV i) (jV i))))
    (O : CellTallies nD τ sig (HIx 1)) (W₀ : Waits sig (HIx 1)) {Q : BitVec 1 → sProp 𝕄} :
    Drain d (cV i) (jV i) b fo qx fx O W₀ 29
    ⊢ iprop((Drain d (cV i) (jV i) b fo qx fx O W₀ 32 -∗ Q (Scalar.ori (Scalar.cmpi .ne v58 v68) v57))
      -∗ wp frame (wpE (defs₀ (F := F)) 𝒱₀ (V d (cV i) (jV i)) none) Set.univ
        (k0_part25 i xV (Memref.isWhole_whole _) iV (Memref.isWhole_whole _) oV (Memref.isWhole_whole _) cc0_scratch0 sV (Memref.isWhole_whole _) cc0_scoped1 bV (Memref.isWhole_whole _) cc0_scoped3 cc0_scoped4 w8 w9 h3 h2 v57 v58 v68) Q) := by
  rw [k0_part25_eq_skeleton]; unfold k0_part25_skel
  iintro HF Hk
  simp only [ite_self]
  iapply (wp_drain d (cV i) (jV i) b fo qx fx O W₀ (n' := 30) (by omega) rfl) $$ HF
  iintro HF
  iapply (wp_drain d (cV i) (jV i) b fo qx fx O W₀ (n' := 31) (by omega) rfl) $$ HF
  iintro HF
  iapply (wp_drain d (cV i) (jV i) b fo qx fx O W₀ (n' := 32) (by omega) rfl) $$ HF
  iintro HF
  rw [wp_pure]; imodintro
  iapply Hk $$ HF

/-- The state before trip `k`: the carried words; the slot of trip `k` asked for, the other idle; the row buffer; the cells
    at zero; the table's share; the first `k` blocks of the tile's rows written; what the tile owes. -/
def Inv (q : PosShare TreeShare) (fi : Buf (Elt F) (iV.view.loc (V d (cV i) (jV i)))) (qx : PosShare TreeShare)
    (fx : Buf (Elt F) (xV.view.loc (V d (cV i) (jV i)))) (O : CellTallies nD τ sig (HIx 1)) (W₀ : Waits sig (HIx 1))
    (k : ℕ) (acc : BitVec 32 × BitVec 32 × BitVec 32 × BitVec 32 × BitVec 32) : sProp 𝕄 :=
  iprop(∃ w10, ⌜acc = (askedWord k, doneWord k, doneWord k, w10, blockWord k)⌝ ∗ Transfers.MayWaits (V d (cV i) (jV i)) (default : HIx 1) O
    ∗ SlotAt d i q fi k ∗ Idle d (cV i) (jV i) (slotNo (k + 1)) q fi
    ∗ (∃ f, bV.view.loc (V d (cV i) (jV i)) ↦[Finset.univ]{fullShare} f)
    ∗ semVal (V d (cV i) (jV i), .dma cc0_scratch0.sem) 0 ∗ semVal (V d (cV i) (jV i), .dma cc0_scoped4.sem) 0
    ∗ (xV.view.loc (V d (cV i) (jV i)) ↦[Finset.univ]{qx} fx) ∗ Written d (cV i) (jV i) (tileNo i) fx fi k
    ∗ ∃ W, ⌜∀ p ∈ W, p ∈ W₀ ∨ p.2 = none⌝ ∗ owes (V d (cV i) (jV i)) O W)

set_option maxHeartbeats 2000000 in
theorem trip (q : PosShare TreeShare) (fi : Buf (Elt F) (iV.view.loc (V d (cV i) (jV i)))) (hfi : ∀ r, (listAt (F := F) fi r).toNat < 16384)
    (qx : PosShare TreeShare) (fx : Buf (Elt F) (xV.view.loc (V d (cV i) (jV i)))) (O : CellTallies nD τ sig (HIx 1)) (W₀ : Waits sig (HIx 1))
    (t : Fin k0_t1_loop.trips) (acc : BitVec 32 × BitVec 32 × BitVec 32 × BitVec 32 × BitVec 32) :
    Inv d i q fi qx fx O W₀ t.val acc
    ⊢ wp frame (wpE (defs₀ (F := F)) 𝒱₀ (V d (cV i) (jV i)) none) Set.univ
        (k0_t1_body i xV (Memref.isWhole_whole _) iV (Memref.isWhole_whole _) oV (Memref.isWhole_whole _) cc0_scratch0 sV (Memref.isWhole_whole _) cc0_scoped1 bV (Memref.isWhole_whole _) cc0_scoped3 cc0_scoped4 (baseWord i) t acc) (Inv d i q fi qx fx O W₀ (t.val + 1)) := by
  have ht : t.val < 9 := lt_of_lt_of_eq t.isLt trips_eq
  rw [show Inv d i q fi qx fx O W₀ t.val acc = _ from rfl]
  unfold Inv
  iintro ⟨%w10, %hacc, #Hmw, HA, HI, ⟨%f₀, Hb⟩, Hv, Hv4, Hx, HW, %W, %hW, HO⟩
  subst hacc
  unfold k0_t1_body
  rw [wp_bind, k0_part26_eq_skeleton]
  unfold k0_part26_skel
  rw [wp_bind]
  iapply (part1 d i q fi t) $$ HI
  iintro HN
  ihave HA := (Entails.of_eq (show SlotAt d i q fi t.val = Asked d (cV i) (jV i) (slotNo t.val) q fi (9 * tileNo i + t.val) from if_pos ht)) $$ HA
  rw [wp_bind]
  iapply (part2 d i q fi hfi qx fx f₀ O W t) $$ [HA HO Hb Hx Hv]
  · isplitl [HA]; · iexact HA
    isplitl [HO]; · iexact HO
    isplitr; · iexact Hmw
    isplitl [Hb]; · iexact Hb
    isplitl [Hx] <;> iassumption
  iintro %fo ⟨%hfo, HF, Hi, Hc, HO⟩
  rw [wp_bind]
  iapply (part3 d i (slotNo t.val) (off11_at t) (off10_at t) (chk3_at t) (chk2_at t) f₀ fo qx fx (holds_lt d hfi hfo)) $$ HF
  iintro HF
  rw [wp_bind]
  iapply (part4 d i (slotNo t.val) (off11_at t) (off10_at t) (chk3_at t) (chk2_at t) f₀ fo qx fx (holds_lt d hfi hfo)) $$ HF
  iintro HF
  rw [wp_bind]
  iapply (part5 d i (slotNo t.val) (off11_at t) (off10_at t) (chk3_at t) (chk2_at t) f₀ fo qx fx (holds_lt d hfi hfo)) $$ HF
  iintro HF
  rw [wp_bind]
  iapply (part6 d i (slotNo t.val) (off11_at t) (off10_at t) (chk3_at t) (chk2_at t) f₀ fo qx fx (holds_lt d hfi hfo)) $$ HF
  iintro HF
  rw [wp_bind]
  iapply (part7 d i (slotNo t.val) (off11_at t) (off10_at t) (chk3_at t) (chk2_at t) f₀ fo qx fx (holds_lt d hfi hfo)) $$ HF
  iintro HF
  rw [wp_bind]
  iapply (part8 d i (slotNo t.val) (off11_at t) (off10_at t) (chk3_at t) (chk2_at t) f₀ fo qx fx (holds_lt d hfi hfo)) $$ HF
  iintro HF
  rw [wp_bind]
  iapply (part9 d i (slotNo t.val) (off11_at t) (off10_at t) (chk3_at t) (chk2_at t) f₀ fo qx fx (holds_lt d hfi hfo)) $$ HF
  iintro HF
  rw [wp_bind]
  iapply (part10 d i (slotNo t.val) (off11_at t) (off10_at t) (chk3_at t) (chk2_at t) f₀ fo qx fx (holds_lt d hfi hfo)) $$ HF
  iintro HF
  rw [wp_bind]
  iapply (part11 d i (slotNo t.val) (off11_at t) (off10_at t) (chk3_at t) (chk2_at t) f₀ fo qx fx (holds_lt d hfi hfo)) $$ HF
  iintro HF
  rw [wp_bind]
  iapply (part12 d i (slotNo t.val) (off11_at t) (off10_at t) (chk3_at t) (chk2_at t) f₀ fo qx fx (holds_lt d hfi hfo)) $$ HF
  iintro HF
  rw [wp_bind]
  iapply (part13 d i (slotNo t.val) (off11_at t) (off10_at t) (chk3_at t) (chk2_at t) f₀ fo qx fx (holds_lt d hfi hfo)) $$ HF
  iintro HF
  rw [wp_bind]
  iapply (part14 d i (slotNo t.val) (off11_at t) (off10_at t) (chk3_at t) (chk2_at t) f₀ fo qx fx (holds_lt d hfi hfo) O
    (insert (SemLoc.dma (listCell (slotNo t.val)), (default : HIx 1)) W)) $$ [HF HO]
  · isplitl [HF]; · iexact HF
    isplitl [HO]; · iexact HO
    iexact Hmw
  iintro HF
  rw [wp_bind]
  iapply (part15 d i (slotNo t.val) (chk3_at t) (chk2_at t) fo qx fx O (insert (SemLoc.dma (listCell (slotNo t.val)), (default : HIx 1)) W)) $$ HF
  iintro HF
  rw [wp_bind]
  iapply (part16 d i (slotNo t.val) (chk3_at t) (chk2_at t) fo qx fx O (insert (SemLoc.dma (listCell (slotNo t.val)), (default : HIx 1)) W)) $$ HF
  iintro HF
  rw [wp_bind]
  iapply (part17 d i (slotNo t.val) (chk3_at t) (chk2_at t) fo qx fx O (insert (SemLoc.dma (listCell (slotNo t.val)), (default : HIx 1)) W)) $$ HF
  iintro HF
  rw [wp_bind]
  iapply (part18 d i (slotNo t.val) (chk3_at t) (chk2_at t) fo qx fx O (insert (SemLoc.dma (listCell (slotNo t.val)), (default : HIx 1)) W)) $$ HF
  iintro HF
  rw [wp_bind]
  iapply (part19 d i (slotNo t.val) (chk3_at t) (chk2_at t) fo qx fx O (insert (SemLoc.dma (listCell (slotNo t.val)), (default : HIx 1)) W)) $$ HF
  iintro HF
  rw [wp_bind]
  iapply (part20 d i (slotNo t.val) (chk3_at t) (chk2_at t) fo qx fx O (insert (SemLoc.dma (listCell (slotNo t.val)), (default : HIx 1)) W)) $$ HF
  iintro HF
  rw [wp_bind]
  iapply (part21 d i (slotNo t.val) (chk3_at t) (chk2_at t) fo qx fx O (insert (SemLoc.dma (listCell (slotNo t.val)), (default : HIx 1)) W)) $$ HF
  iintro HF
  rw [wp_bind]
  iapply (part22 d i (slotNo t.val) (chk3_at t) (chk2_at t) fo qx fx O (insert (SemLoc.dma (listCell (slotNo t.val)), (default : HIx 1)) W)) $$ HF
  iintro HF
  rw [wp_bind]
  iapply (part23 d i (slotNo t.val) (chk3_at t) (chk2_at t) fo qx fx O (insert (SemLoc.dma (listCell (slotNo t.val)), (default : HIx 1)) W)) $$ HF
  iintro HF
  rw [wp_bind]
  iapply (part24 d i (slotNo t.val) (chk3_at t) (chk2_at t) fo qx fx O (insert (SemLoc.dma (listCell (slotNo t.val)), (default : HIx 1)) W)) $$ HF
  iintro HF
  rw [wp_bind]
  iapply (part25 d i (slotNo t.val) (chk3_at t) (chk2_at t) _ _ _ fo qx fx O (insert (SemLoc.dma (listCell (slotNo t.val)), (default : HIx 1)) W)) $$ HF
  iintro HF
  imod (drain_done d (cV i) (jV i) (slotNo t.val) fo qx fx O (insert (SemLoc.dma (listCell (slotNo t.val)), (default : HIx 1)) W)) $$ HF with ⟨Hb, Hs, Hx, Hv, %W', %hW', HO⟩
  simp only [dif_pos (cond5_true i t), ite_self]
  iapply (wp_writeOut d (cV i) (jV i) (slotNo t.val) (tileNo i) t.val ht fo fx fi hfo (off12_at t) (off13_at i t)) $$ [Hb HW Hv4 HO]
  · isplitl [Hb]; · iexact Hb
    isplitl [HW]; · iexact HW
    isplitl [Hv4]; · iexact Hv4
    isplitl [HO]; · iexact HO
    iexact Hmw
  iintro ⟨Hb, HW, Hv4, HO⟩
  rw [wp_pure]; imodintro
  rw [wp_pure]; imodintro
  iexists _
  isplitr
  · ipureintro
    rw [written_next i t, block_next t]
    exact congrArg (fun w => (askedWord (t.val + 1), w, doneWord (t.val + 1), _, blockWord (t.val + 1))) (done_next i t)
  isplitr; · iexact Hmw
  isplitl [HN]; · iexact HN
  isplitl [Hs Hi Hc]
  · rw [show slotNo (t.val + 1 + 1) = slotNo t.val from Fin.ext (by show (t.val + 1 + 1) % 2 = t.val % 2; omega)]
    unfold Idle
    isplitl [Hs]; · iexists fo; iexact Hs
    isplitl [Hi] <;> iassumption
  isplitl [Hb]; · iexists _; iexact Hb
  isplitl [Hv]; · iexact Hv
  isplitl [Hv4]; · iexact Hv4
  isplitl [Hx]; · iexact Hx
  isplitl [HW]; · iexact HW
  iexists (insert (SemLoc.dma cc0_scoped4.sem, (default : HIx 1)) W')
  isplitr [HO]
  · ipureintro
    intro p hp
    rcases Finset.mem_insert.mp hp with hp | hp
    · exact .inr (hp ▸ rfl)
    rcases hW' p hp with hp | hp
    · rcases Finset.mem_insert.mp hp with hp | hp
      · exact .inr (hp ▸ rfl)
      · exact hW p hp
    · exact .inr hp
  · iexact HO

end Cert.Proof.Gather

end
-- ==== Proof.Tile.lean ====
/-
  The tile's task: the first list asked for, nine trips of the loop, and what its buffers and cells are before and after.
-/
module

public import proofs.«01_k».proof.Proof.Trip

@[expose] public section

noncomputable section

namespace Cert.Proof.Gather

open Cert.Kernel Cert.Kernel.Gen
open Idealize.ShloMosaic Idealize.ShloMosaic.ValueIdx
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The slots, the rows -/

theorem slots_split : (Finset.univ : Finset S2x1x128.Idx) \ slotSet 0 = slotSet 1 := by
  ext y
  have h : (y 0).val < 2 := (y 0).isLt
  simp only [slotSet, Finset.mem_sdiff, Finset.mem_univ, true_and, Finset.mem_filter]
  omega

theorem bigSep_two {PROP : Fin 2 → sProp 𝕄} : (bigSep Finset.univ PROP) = iprop(PROP 0 ∗ PROP 1) := by
  rw [show (Finset.univ : Finset (Fin 2)) = {0, 1} by decide, SparseCore.bigSep_insert' (by decide), bigSep_singleton]

/-- The first slot's words of one content, the second's of another. -/
def both (f0 f1 : S2x1x128.Idx → Elt F .i32) : S2x1x128.Idx → Elt F .i32 := fun y => if (y 0).val = 0 then f0 y else f1 y

theorem both_zero {f0 f1 : S2x1x128.Idx → Elt F .i32} : ∀ y ∈ slotSet 0, f0 y = both f0 f1 y := fun _ hy =>
  (if_pos (Finset.mem_filter.mp hy).2).symm

theorem both_one {f0 f1 : S2x1x128.Idx → Elt F .i32} : ∀ y ∈ slotSet 1, f1 y = both f0 f1 y := fun y hy =>
  (if_neg fun h => by
    have h1 : (y 0).val = 1 := (Finset.mem_filter.mp hy).2
    omega).symm

section

variable (d : Dev nD) (u : Fin τ.nSC) (w : Fin τ.nSub)

/-- The slot buffer, a share of the list and the two cells at zero are the two slots idle, -/
theorem idle_start (q : PosShare TreeShare) (fi : Buf (Elt F) (iV.view.loc (V d u w))) (fs : Buf (Elt F) (sV.view.loc (V d u w))) :
    iprop((sV.view.loc (V d u w) ↦[Finset.univ]{fullShare} fs) ∗ (iV.view.loc (V d u w) ↦[Finset.univ]{q} fi)
        ∗ semVal (V d u w, .dma (listCell 0)) 0 ∗ semVal (V d u w, .dma (listCell 1)) 0)
      ⊢ iprop(Idle d u w 0 q fi ∗ Idle d u w 1 q fi) := by
  unfold Idle
  rw [pointsTo_piecesOf Finset.univ fi pos2 q, bigSep_two]
  iintro ⟨Hs, ⟨Hi0, Hi1⟩, Hc0, Hc1⟩
  ihave Hs' := (pointsTo_split_subset (Finset.subset_univ (slotSet 0))).1 $$ Hs
  icases Hs' with ⟨Hs0, Hs1⟩
  isplitl [Hs0 Hi0 Hc0]
  · isplitl [Hs0]; · iexists fs; iexact Hs0
    isplitl [Hi0] <;> iassumption
  · isplitl [Hs1]
    · iexists fs
      iapply (Entails.of_eq (congrArg (fun S => (sV.view.loc (V d u w) ↦[S]{fullShare} fs : sProp 𝕄)) slots_split)) $$ Hs1
    isplitl [Hi1] <;> iassumption

/-- and the other way round. -/
theorem idle_end (q : PosShare TreeShare) (fi : Buf (Elt F) (iV.view.loc (V d u w))) :
    iprop(Idle d u w 0 q fi ∗ Idle d u w 1 q fi)
      ⊢ iprop((∃ fs, sV.view.loc (V d u w) ↦[Finset.univ]{fullShare} fs) ∗ (iV.view.loc (V d u w) ↦[Finset.univ]{q} fi)
        ∗ semVal (V d u w, .dma (listCell 0)) 0 ∗ semVal (V d u w, .dma (listCell 1)) 0) := by
  unfold Idle
  rw [pointsTo_piecesOf Finset.univ fi pos2 q, bigSep_two]
  iintro ⟨⟨⟨%f0, Hs0⟩, Hi0, Hc0⟩, ⟨%f1, Hs1⟩, Hi1, Hc1⟩
  isplitl [Hs0 Hs1]
  · iexists both f0 f1
    iapply (pointsTo_split_subset (Finset.subset_univ (slotSet 0))).2
    isplitl [Hs0]
    · iapply (Entails.of_eq (pointsTo_congr (nD := nD) (τ := τ) (sig := sig) (Ix := HIx 1) (Val := Elt F) (Name := ℕ) (U := UU) (Lvl := ℕ)
        (ℓ := sV.view.loc (V d u w)) (q := fullShare) (I := slotSet (0 : Fin 2).val) (f := f0) (g := both f0 f1) both_zero)) $$ Hs0
    · rw [show (Finset.univ : Finset (Idx (sV.view.loc (V d u w)))) \ slotSet 0 = slotSet 1 from slots_split]
      iapply (Entails.of_eq (pointsTo_congr (nD := nD) (τ := τ) (sig := sig) (Ix := HIx 1) (Val := Elt F) (Name := ℕ) (U := UU) (Lvl := ℕ)
        (ℓ := sV.view.loc (V d u w)) (q := fullShare) (I := slotSet (1 : Fin 2).val) (f := f1) (g := both f0 f1) both_one)) $$ Hs1
  isplitl [Hi0 Hi1]
  · isplitl [Hi0] <;> iassumption
  isplitl [Hc0] <;> iassumption

/-- Before the first trip no row of the tile is written, -/
theorem written_start (t : ℕ) (fx : Buf (Elt F) (xV.view.loc (V d u w))) (fi : Buf (Elt F) (iV.view.loc (V d u w))) (g : Buf (Elt F) (oV.view.loc (V d u w))) :
    (oV.view.loc (V d u w) ↦[tileRows t]{fullShare} g) ⊢ Written d u w t fx fi 0 := by
  unfold Written
  iintro H
  iexists g
  isplitr
  · ipureintro
    intro y hy hlt
    have hy0 : (y 0).val / 1152 = t := (Finset.mem_filter.mp hy).2
    omega
  · iexact H

/-- after the last all are. -/
theorem written_end (t : ℕ) (fx : Buf (Elt F) (xV.view.loc (V d u w))) (fi : Buf (Elt F) (iV.view.loc (V d u w))) :
    Written d u w t fx fi 9 ⊢ (oV.view.loc (V d u w) ↦[tileRows t]{fullShare} gathered fx fi) := by
  unfold Written
  iintro ⟨%g, %hg, H⟩
  iapply (Entails.of_eq (pointsTo_congr (nD := nD) (τ := τ) (sig := sig) (Ix := HIx 1) (Val := Elt F) (Name := ℕ) (U := UU) (Lvl := ℕ)
    (ℓ := oV.view.loc (V d u w)) (q := fullShare) (fun y hy => hg y hy (by
      have hy0 : (y 0).val / 1152 = t := (Finset.mem_filter.mp hy).2
      show (y 0).val < _
      omega)))) $$ H

end

/-! ## The subcore's own buffers and cells -/

section Own

variable (d : Dev nD) (u : Fin τ.nSC) (w : Fin τ.nSub)

/-- A cell of the subcore. -/
abbrev cell (s : DmaSem sig) : GSem nD τ sig := (V d u w, .dma s)

theorem cell_ne {s s' : DmaSem sig} (h : s ≠ s') : cell d u w s ≠ cell d u w s' := fun e =>
  h (SemLoc.dma.inj (Prod.mk.inj e).2)

theorem cell_own {s : DmaSem sig} (h : (SemLoc.dma s : SemLoc sig).isScoped .scVector = true) : cell d u w s ∈ ownCells (V d u w) :=
  mem_ownCells.mpr ⟨rfl, h⟩

theorem ownSems0_V :
    (ownSems0 (V d u w) : sProp 𝕄)
      = iprop(semVal (cell d u w cc0_scratch0.sem) 0 ∗ semVal (cell d u w (listCell 0)) 0 ∗ semVal (cell d u w (listCell 1)) 0 ∗ semVal (cell d u w cc0_scoped4.sem) 0
          ∗ bigSep (((((ownCells (V d u w)).erase (cell d u w cc0_scratch0.sem)).erase (cell d u w (listCell 0))).erase (cell d u w (listCell 1))).erase
              (cell d u w cc0_scoped4.sem)) fun g => semVal g 0) := by
  have e01 := cell_ne d u w (show (listCell 0 : DmaSem sig) ≠ cc0_scratch0.sem by decide)
  have e02 := cell_ne d u w (show (listCell 1 : DmaSem sig) ≠ cc0_scratch0.sem by decide)
  have e12 := cell_ne d u w (show (listCell 1 : DmaSem sig) ≠ listCell 0 by decide)
  have e03 := cell_ne d u w (show (cc0_scoped4.sem : DmaSem sig) ≠ cc0_scratch0.sem by decide)
  have e13 := cell_ne d u w (show (cc0_scoped4.sem : DmaSem sig) ≠ listCell 0 by decide)
  have e23 := cell_ne d u w (show (cc0_scoped4.sem : DmaSem sig) ≠ listCell 1 by decide)
  unfold SparseCore.Cfg.ownSems0
  rw [SparseCore.bigSep_erase' (cell_own d u w (s := cc0_scratch0.sem) (by decide)),
    SparseCore.bigSep_erase' (Finset.mem_erase.mpr ⟨e01, cell_own d u w (s := listCell 0) (by decide)⟩),
    SparseCore.bigSep_erase' (Finset.mem_erase.mpr ⟨e12, Finset.mem_erase.mpr ⟨e02, cell_own d u w (s := listCell 1) (by decide)⟩⟩),
    SparseCore.bigSep_erase' (Finset.mem_erase.mpr ⟨e23, Finset.mem_erase.mpr ⟨e13, Finset.mem_erase.mpr ⟨e03, cell_own d u w (s := cc0_scoped4.sem) (by decide)⟩⟩⟩)]

theorem ownBufs_V :
    (ownBufs (V d u w) : sProp 𝕄)
      = iprop((∃ f, (V d u w).loc cc0_scoped0 ↦{fullShare} f) ∗ (∃ f, (V d u w).loc cc0_scoped2 ↦{fullShare} f)
          ∗ bigSep (((ownRefs (τ := τ) (.scVector u w)).erase ((Proc.scVector u w).devRef cc0_scoped0)).erase ((Proc.scVector u w).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector u w) (b := (Proc.scVector u w).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector u w) (b := (Proc.scVector u w).devRef cc0_scoped2) rfl⟩)]

end Own

/-! ## The task -/

abbrev ΛP : Labels := Pipeline.Sig Λ₀ (Fin 0) fun p => (pcfgs (F := F) p).Adm
abbrev K : SparseCore.Cfg τ sig (ΛP (F := F)) 1 := sc (F := F)

variable [FloatOps F] (d : Dev nD) (i : grid0.Coords)

omit [FloatOps F] in
theorem slotAt_first (q : PosShare TreeShare) (fi : Buf (Elt F) (iV.view.loc (V d (cV i) (jV i)))) :
    SlotAt d i q fi 0 = Asked d (cV i) (jV i) 0 q fi (9 * tileNo i) := if_pos (by decide)

omit [FloatOps F] in
theorem slotAt_last (q : PosShare TreeShare) (fi : Buf (Elt F) (iV.view.loc (V d (cV i) (jV i)))) :
    SlotAt d i q fi 9 = Idle d (cV i) (jV i) 1 q fi := if_neg (by decide)

set_option maxHeartbeats 1000000 in
theorem tile_body (hF : (K (F := F)).Facts) (q qx : PosShare TreeShare) (fi : Buf (Elt F) (iV.view.loc (V d (cV i) (jV i))))
    (hfi : ∀ r, (listAt (F := F) fi r).toNat < 16384) (fx : Buf (Elt F) (xV.view.loc (V d (cV i) (jV i)))) (g : Buf (Elt F) (oV.view.loc (V d (cV i) (jV i))))
    (O : CellTallies nD τ sig (HIx 1)) (W : Waits sig (HIx 1)) (hO : ∀ g, O g none = 0) :
    (iprop(levAts (K (F := F)).L (K (F := F)).lev ∗ emp
        ∗ ((iV.view.loc (V d (cV i) (jV i)) ↦[Finset.univ]{q} fi) ∗ (xV.view.loc (V d (cV i) (jV i)) ↦[Finset.univ]{qx} fx)
          ∗ (oV.view.loc (V d (cV i) (jV i)) ↦[tileRows (tileNo i)]{fullShare} g))
        ∗ scopedBufs (V d (cV i) (jV i)) ∗ scopedSems0 (V d (cV i) (jV i)) ∗ owes (V d (cV i) (jV i)) O W) : sProp 𝕄)
      ⊢ wp frame (wpE (defs₀ (F := F)) 𝒱₀ (V d (cV i) (jV i)) none) Set.univ
          (cc0_gather_kernel i xV (Memref.isWhole_whole _) iV (Memref.isWhole_whole _) oV (Memref.isWhole_whole _) cc0_scratch0 sV (Memref.isWhole_whole _) cc0_scoped1 bV (Memref.isWhole_whole _) cc0_scoped3 cc0_scoped4)
          fun _ => iprop(((iV.view.loc (V d (cV i) (jV i)) ↦[Finset.univ]{q} fi) ∗ (xV.view.loc (V d (cV i) (jV i)) ↦[Finset.univ]{qx} fx)
              ∗ (oV.view.loc (V d (cV i) (jV i)) ↦[tileRows (tileNo i)]{fullShare} gathered fx fi))
            ∗ scopedBufs (V d (cV i) (jV i)) ∗ scopedSems0 (V d (cV i) (jV i))
            ∗ ∃ W', ⌜∀ p ∈ W', p ∈ W ∨ p.2 = none⌝ ∗ owes (V d (cV i) (jV i)) O W') := by
  rw [cc0_gather_kernel_eq_skeleton]; unfold cc0_gather_kernel_skel
  rw [(K (F := F)).scopedBufs_V hF d (cV i) (jV i), SparseCore.Cfg.scopedSems0_V (Val := Elt F) d (cV i) (jV i), ownSems0_V, ownBufs_V]
  iintro ⟨#Hlv, -, ⟨Hi, Hx, Ho⟩, ⟨⟨%fs, Hs⟩, ⟨%fb, Hb⟩, Hbufs⟩, ⟨Hv, Hc0, Hc1, Hv4, Hsems⟩, HO⟩
  ihave #Hmw := (show levAts (K (F := F)).L (K (F := F)).lev ⊢ Transfers.MayWaits (V d (cV i) (jV i)) (default : HIx 1) O from
    (K (F := F)).mayWaits_none (thr := V d (cV i) (jV i)) hO) $$ Hlv
  ihave HI := (idle_start d (cV i) (jV i) q fi fs) $$ [Hs Hi Hc0 Hc1]
  · isplitl [Hs]; · iexact Hs
    isplitl [Hi]; · iexact Hi
    isplitl [Hc0] <;> iassumption
  icases HI with ⟨HI0, HI1⟩
  ihave HW := (written_start d (cV i) (jV i) (tileNo i) fx fi g) $$ Ho
  rw [wp_bind, k0_part27_eq_skeleton]; unfold k0_part27_skel
  iapply (wp_ask d (cV i) (jV i) 0 q fi (9 * tileNo i) (off2_at i) (show k0_off1 = ![0, 0, 0] from k0_off1_eq) (show k0_off3 = ![0] from k0_off3_eq)) $$ HI0
  iintro HA
  rw [wp_pure]; imodintro
  unfold Scf.Loop.for
  iapply (Scf.wp_for_bind frame (wpE (defs₀ (F := F)) 𝒱₀ (V d (cV i) (jV i)) none) Set.univ k0_t1_loop.lb k0_t1_loop.ub k0_t1_loop.st k0_t1_ok _ _
    (Inv d i q fi qx fx O W) (trip d i q fi hfi qx fx O W)) $$ [HA HI1 Hb Hv Hv4 Hx HW HO]
  · unfold Inv
    iexists 0#32
    isplitr; · ipureintro; rfl
    isplitr; · iexact Hmw
    isplitl [HA]; · iapply (Entails.of_eq (slotAt_first d i q fi).symm) $$ HA
    isplitl [HI1]; · iexact HI1
    isplitl [Hb]; · iexists fb; iexact Hb
    isplitl [Hv]; · iexact Hv
    isplitl [Hv4]; · iexact Hv4
    isplitl [Hx]; · iexact Hx
    isplitl [HW]; · iexact HW
    iexists W
    isplitr; · ipureintro; exact fun p hp => .inl hp
    iexact HO
  iintro %acc HI
  rw [show (Scf.trips k0_t1_loop.lb k0_t1_loop.ub k0_t1_loop.st) = 9 from trips_eq]
  unfold Inv
  icases HI with ⟨%w10, -, -, HI1, HI0, ⟨%fb', Hb⟩, Hv, Hv4, Hx, HW, HO⟩
  ihave HI := (idle_end d (cV i) (jV i) q fi) $$ [HI0 HI1]
  · isplitl [HI0]; · iexact HI0
    iapply (Entails.of_eq (slotAt_last d i q fi)) $$ HI1
  icases HI with ⟨⟨%fs', Hs⟩, Hi, Hc0, Hc1⟩
  ihave Ho := (written_end d (cV i) (jV i) (tileNo i) fx fi) $$ HW
  rw [wp_pure]; imodintro
  isplitl [Hi Hx Ho]
  · isplitl [Hi]; · iexact Hi
    isplitl [Hx] <;> iassumption
  isplitl [Hs Hb Hbufs]
  · isplitl [Hs]; · iexists fs'; iexact Hs
    isplitl [Hb]; · iexists fb'; iexact Hb
    iexact Hbufs
  isplitl [Hv Hc0 Hc1 Hv4 Hsems]
  · isplitl [Hv]; · iexact Hv
    isplitl [Hc0]; · iexact Hc0
    isplitl [Hc1]; · iexact Hc1
    isplitl [Hv4] <;> iassumption
  iexact HO

end Cert.Proof.Gather

end
-- ==== Proof.Launch.lean ====
/-
  The call on its thirty-two tiles and @main around it: the list reshaped, dealt out with the table and the output's rows,
  and the output joined again.
-/
module

public import proofs.«01_k».proof.Proof.Tile
public import Idealize.ShloMosaic.Lib.SparseCore.Quiescent
public import Idealize.ShloMosaic.Lib.StableHlo.Run
public import Idealize.ShloMosaic.Lib.ValueLayout

@[expose] public section

noncomputable section

namespace Cert.Proof.Gather

open Cert.Kernel Cert.Kernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

local notation "𝕄" => MT nD τ sig (HIx 1) (Elt F) ℕ UU ℕ

theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-! ## The arrays -/

variable (m : (ℓ : Loc nD τ sig) → Buf (Elt F) ℓ) (ρ : Dev nD → PrngReg)

abbrev xLoc (d : Dev nD) : Loc nD τ sig := (SparseCore.T d).loc main_arg0
abbrev nLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1

/-- The list as the call takes it: one row. -/
def listRow (v : S36864.Idx → Elt F .i32) : S1x36864.Idx → Elt F .i32 := shapeCast S1x36864 v shapeCasts_S36864_S1x36864

theorem listAt_row (v : S36864.Idx → Elt F .i32) (r : Fin 36864) : listAt (F := F) (listRow v) r.val = v (ix1 r) := by
  have h : (⟨min r.val 36863, by omega⟩ : Fin 36864) = r := Fin.ext (by have := r.isLt; show min r.val 36863 = r.val; omega)
  unfold listAt listRow
  rw [h]
  exact shapeCast_a_1a_apply v shapeCasts_S36864_S1x36864 _ r

/-- Every entry names a row of the table. -/
def RowsNamed (v : S36864.Idx → Elt F .i32) : Prop := ∀ j, (v j : BitVec 32).toNat < 16384

theorem listAt_named {v : S36864.Idx → Elt F .i32} (h : RowsNamed v) (r : ℕ) : (listAt (F := F) (listRow v) r : BitVec 32).toNat < 16384 := by
  have e : listAt (F := F) (listRow v) r = listAt (F := F) (listRow v) (⟨min r 36863, by omega⟩ : Fin 36864).val := by
    unfold listAt
    refine congrArg _ (congrArg _ (Fin.ext ?_))
    show min r 36863 = min (min r 36863) 36863
    omega
  rw [e, listAt_row]
  exact h _

abbrev NamedAll : Prop := ∀ d : Dev nD, RowsNamed (F := F) (m (nLoc d))

/-- The list as the call finds it; the output as the call leaves it. -/
abbrev L1 (d : Dev nD) : Buf (Elt F) (iLoc d) := listRow (F := F) (m (nLoc d))
abbrev O1 (d : Dev nD) : Buf (Elt F) (oLoc d) := gathered (F := F) (m (xLoc d)) (L1 m d)

/-! ## What each core, and each tile, is handed -/

/-- The rows of the output a core's sixteen tiles write. -/
def coreRows (c : ℕ) : Finset S36864x512.Idx := Finset.univ.filter fun y => (y 0).val / 18432 = c

theorem pos16' : 0 < 16 := by omega

/-- A core's share, and a tile's, of an array all of them read. -/
abbrev coreQ (c : Fin 2) : PosShare TreeShare := pieceOf fullShare 2 pos2 c
abbrev tileQ (c : Fin 2) (i : Fin 16) : PosShare TreeShare := pieceOf (coreQ c) 16 pos16' i

abbrev corePay (d : Dev nD) (c : Fin 2) (g : Buf (Elt F) (oLoc d)) : sProp 𝕄 :=
  iprop((iLoc d ↦{coreQ c} L1 m d) ∗ (xLoc d ↦{coreQ c} m (xLoc d)) ∗ (oLoc d ↦[coreRows c.val]{fullShare} g))
abbrev tilePay (d : Dev nD) (c : Fin 2) (i : Fin 16) (g : Buf (Elt F) (oLoc d)) : sProp 𝕄 :=
  iprop((iLoc d ↦{tileQ c i} L1 m d) ∗ (xLoc d ↦{tileQ c i} m (xLoc d)) ∗ (oLoc d ↦[tileRows (i.val + 16 * c.val)]{fullShare} g))

def P : (K (F := F)).Pay (nD := nD) (Val := Elt F) (Name := ℕ) (U := UU) where
  st := fun q d c => match q with | 0 => corePay m d (Fin.cast nCore_zero c) (m (oLoc d))
  dn := fun q d c => match q with | 0 => corePay m d (Fin.cast nCore_zero c) (O1 m d)
  go := fun q d c i => match q with | 0 => tilePay m d (Fin.cast nCore_zero c) (Fin.cast nSub_zero i) (m (oLoc d))
  td := fun q d c i => match q with | 0 => tilePay m d (Fin.cast nCore_zero c) (Fin.cast nSub_zero i) (O1 m d)
  x := fun _ _ => iprop(emp)

instance P_storable : (P (F := F) m).IsStorable where
  st q d c := match q with | 0 => (inferInstance : BI.Storable (upEmb : UEmb _ 𝕄) (corePay m d (Fin.cast nCore_zero c) (m (oLoc d))))
  dn q d c := match q with | 0 => (inferInstance : BI.Storable (upEmb : UEmb _ 𝕄) (corePay m d (Fin.cast nCore_zero c) (O1 m d)))
  go q d c i := match q with
    | 0 => (inferInstance : BI.Storable (upEmb : UEmb _ 𝕄) (tilePay m d (Fin.cast nCore_zero c) (Fin.cast nSub_zero i) (m (oLoc d))))
  td q d c i := match q with
    | 0 => (inferInstance : BI.Storable (upEmb : UEmb _ 𝕄) (tilePay m d (Fin.cast nCore_zero c) (Fin.cast nSub_zero i) (O1 m d)))

/-! ## The tiles of a core -/

theorem tiles_disjoint (c : ℕ) : ∀ i ∈ (Finset.univ : Finset (Fin 16)), ∀ j ∈ (Finset.univ : Finset (Fin 16)), i ≠ j →
    Disjoint (tileRows (i.val + 16 * c)) (tileRows (j.val + 16 * c)) := by
  intro i _ j _ hij
  rw [Finset.disjoint_left]
  intro y hi hj
  have h1 := (Finset.mem_filter.mp hi).2
  have h2 := (Finset.mem_filter.mp hj).2
  exact hij (Fin.ext (by omega))

theorem tiles_cover (c : ℕ) : (Finset.univ : Finset (Fin 16)).biUnion (fun i => tileRows (i.val + 16 * c)) = coreRows c := by
  ext y
  simp only [Finset.mem_biUnion, Finset.mem_univ, true_and, tileRows, coreRows, Finset.mem_filter]
  constructor
  · rintro ⟨i, hi⟩
    have := i.isLt
    omega
  · intro h
    exact ⟨⟨(y 0).val / 1152 - 16 * c, by omega⟩, by show (y 0).val / 1152 = (y 0).val / 1152 - 16 * c + 16 * c; omega⟩

theorem cores_disjoint : ∀ i ∈ (Finset.univ : Finset (Fin 2)), ∀ j ∈ (Finset.univ : Finset (Fin 2)), i ≠ j →
    Disjoint (coreRows i.val) (coreRows j.val) := by
  intro i _ j _ hij
  rw [Finset.disjoint_left]
  intro y hi hj
  have h1 := (Finset.mem_filter.mp hi).2
  have h2 := (Finset.mem_filter.mp hj).2
  exact hij (Fin.ext (by omega))

theorem cores_cover : (Finset.univ : Finset (Fin 2)).biUnion (fun c => coreRows c.val) = Finset.univ := by
  ext y
  have hy : (y 0).val < 36864 := (y 0).isLt
  simp only [Finset.mem_biUnion, Finset.mem_univ, true_and, coreRows, Finset.mem_filter, iff_true]
  exact ⟨⟨(y 0).val / 18432, by omega⟩, rfl⟩

/-- A core's part of the arrays is its sixteen tiles', -/
theorem corePay_tiles (d : Dev nD) (c : Fin 2) (g : Buf (Elt F) (oLoc d)) :
    corePay m d c g = bigSep Finset.univ fun i : Fin 16 => tilePay m d c i g := by
  unfold corePay tilePay
  rw [bigSep_sep', bigSep_sep', ← pointsTo_piecesOf, ← pointsTo_piecesOf, ← pointsTo_biUnion Finset.univ (ℓ := oLoc d) _ (tiles_disjoint c.val), tiles_cover]

/-- and the whole arrays are the two cores'. -/
theorem cores_whole (d : Dev nD) (g : Buf (Elt F) (oLoc d)) :
    (bigSep Finset.univ fun c : Fin 2 => corePay m d c g)
      = iprop((iLoc d ↦{fullShare} L1 m d) ∗ (xLoc d ↦{fullShare} m (xLoc d)) ∗ (oLoc d ↦{fullShare} g)) := by
  unfold corePay
  rw [bigSep_sep', bigSep_sep', ← pointsTo_piecesOf, ← pointsTo_piecesOf, ← pointsTo_biUnion Finset.univ (ℓ := oLoc d) _ cores_disjoint, cores_cover]

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show corePay m d (Fin.cast nCore_zero c) (m (oLoc d)) ⊢ |={Set.univ}=> iprop(
      (bigSep Finset.univ fun i : Fin ((K (F := F)).nSub 0) => tilePay m d (Fin.cast nCore_zero c) (Fin.cast nSub_zero i) (m (oLoc d)))
      ∗ ((bigSep Finset.univ fun i : Fin ((K (F := F)).nSub 0) => tilePay m d (Fin.cast nCore_zero c) (Fin.cast nSub_zero i) (O1 m d))
          -∗ corePay m d (Fin.cast nCore_zero c) (O1 m d)))
  rw [bigSep_tasks (F := F) (fun i => tilePay m d (Fin.cast nCore_zero c) i (m (oLoc d))),
    bigSep_tasks (F := F) (fun i => tilePay m d (Fin.cast nCore_zero c) i (O1 m d)), corePay_tiles, corePay_tiles]
  iintro H; imodintro
  isplitl [H]; · iexact H
  iintro H; iexact H

/-! ## The tiles' obligation -/

def coordsV (c : Fin (grid0.bound 0)) (s : Fin (grid0.bound 1)) : grid0.Coords :=
  fun | 0 => c | 1 => s | ⟨_ + 2, h⟩ => absurd h (Nat.not_lt.2 (Nat.le_add_left _ _))

section Obl

variable [FloatOps F]

theorem defs₀_vector (c : Fin τ.nSC) (s : Fin τ.nSub) :
    defs₀ (F := F) (.scVector c s) 0 ()
      = SparseCore.onTile hcore0 hsub0 (fun c s => cc0_gather_kernel (coordsV c s) xV (Memref.isWhole_whole _) iV (Memref.isWhole_whole _) oV (Memref.isWhole_whole _)
          cc0_scratch0 sV (Memref.isWhole_whole _) cc0_scoped1 bV (Memref.isWhole_whole _) cc0_scoped3 cc0_scoped4) ⟨⟩ c s := rfl

omit [FloatOps F] in
theorem waits_more {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hm : NamedAll m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (tileQ (Fin.cast nCore_zero c) (Fin.cast nSub_zero i)) (tileQ (Fin.cast nCore_zero c) (Fin.cast nSub_zero i))
    (L1 m d) (fun r => listAt_named (hm d) r) (m (xLoc d)) (m (oLoc d)) O W hO).trans (wp_mono frame _ _ fun _ => waits_more)

end Obl

/-! ## The ghost state at the launch -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main -/

abbrev xR : DevRef τ sig := Proc.devRef .tc (main_arg0 : Ref sig .tc)
abbrev nR : DevRef τ sig := Proc.devRef .tc (main_arg1 : Ref sig .tc)
abbrev iR : DevRef τ sig := Proc.devRef .tc (main_v0 : Ref sig .tc)
abbrev oR : DevRef τ sig := Proc.devRef .tc (main_v1 : Ref sig .tc)
abbrev opRow : HloOp τ sig (Elt F) := StableHlo.reshape main_arg1 main_v0 (rfl : (.i32 : EltTy) = .i32) shapeCasts_S36864_S1x36864
abbrev S4 : Finset (DevRef τ sig) := {xR, nR, iR, oR}

theorem held_S4 (d : Dev nD) (W : Valuation τ sig (Elt F)) :
    (held (T d) S4 W : sProp 𝕄)
      = iprop((xLoc d ↦{fullShare} W xR) ∗ (nLoc d ↦{fullShare} W nR) ∗ (iLoc d ↦{fullShare} W iR) ∗ (oLoc d ↦{fullShare} W oR)) := by
  unfold held S4
  rw [SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((xLoc d ↦{fullShare} W main_arg0) ∗ (nLoc d ↦{fullShare} W main_arg1) ∗ (iLoc d ↦{fullShare} W main_v0) ∗ (oLoc d ↦{fullShare} W main_v1)) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The arrays as launched. -/
def V0 (d : Dev nD) : Valuation τ sig (Elt F) := fun b => m (d, b)

theorem unscoped_held (d : Dev nD) : (unscopedBufs d (fun b => m ((SparseCore.T d).loc b)) : sProp 𝕄) = held (T d) S4 (V0 m d) := by
  rw [unscopedBufs_eq, held_S4]; rfl

/-- After the reshape the call's list is the one row; the other arrays are as launched. -/
theorem held_row (d : Dev nD) :
    (held (T d) S4 ((opRow (F := F)).result (V0 m d)) : sProp 𝕄)
      = iprop((xLoc d ↦{fullShare} m (xLoc d)) ∗ (nLoc d ↦{fullShare} m (nLoc d)) ∗ (iLoc d ↦{fullShare} L1 m d) ∗ (oLoc d ↦{fullShare} m (oLoc d))) := by
  rw [held_S4, (opRow (F := F)).result_of_not_mem (V0 m d) (b := xR) (show xR ∉ ({iR} : Finset (DevRef τ sig)) by decide),
    (opRow (F := F)).result_of_not_mem (V0 m d) (b := nR) (show nR ∉ ({iR} : Finset (DevRef τ sig)) by decide),
    (opRow (F := F)).result_of_not_mem (V0 m d) (b := oR) (show oR ∉ ({iR} : Finset (DevRef τ sig)) by decide),
    StableHlo.reshape_result main_arg1 main_v0 (rfl : (.i32 : EltTy) = .i32) shapeCasts_S36864_S1x36864 (by exact ⟨by decide, rfl⟩) (by exact ⟨by decide, rfl⟩) (V0 m d)]
  rfl

theorem st0_eq (d : Dev nD) : (bigSep Finset.univ fun c : Fin ((K (F := F)).nCore 0) => (P m).st 0 d c)
    = iprop((iLoc d ↦{fullShare} L1 m d) ∗ (xLoc d ↦{fullShare} m (xLoc d)) ∗ (oLoc d ↦{fullShare} m (oLoc d))) :=
  (bigSep_cores (F := F) (fun c => corePay m d c (m (oLoc d)))).trans (cores_whole m d _)
theorem dn0_eq (d : Dev nD) : (bigSep Finset.univ fun c : Fin ((K (F := F)).nCore 0) => (P m).dn 0 d c)
    = iprop((iLoc d ↦{fullShare} L1 m d) ∗ (xLoc d ↦{fullShare} m (xLoc d)) ∗ (oLoc d ↦{fullShare} O1 m d)) :=
  (bigSep_cores (F := F) (fun c => corePay m d c (O1 m d))).trans (cores_whole m d _)

variable [FloatOps F]

abbrev FIN (d : Dev nD) : sProp 𝕄 :=
  iprop((xLoc d ↦{fullShare} m (xLoc d)) ∗ (nLoc d ↦{fullShare} m (nLoc d)) ∗ (oLoc d ↦{fullShare} O1 m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opRow) (S := S4) (show ({nR, iR} : Finset (DevRef τ sig)) ⊆ S4 by decide) (V := V0 m d)) $$ [Hb Hheld]
  · isplitl [Hb] <;> iassumption
  iintro ⟨Hb, Hheld⟩
  rw [wp_ret]; imodintro
  ihave Hh := (Entails.of_eq (held_row (F := F) m d)) $$ Hheld
  icases Hh with ⟨Hx, Hn, Hi, Ho⟩
  iapply ((K (F := F)).wp_run (D (F := F)) 𝒱 (EH := EH) (P := P m) κ d 0) $$ [Hst Hi Hx Ho Hn Hb Hts]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq m d)) $$ Hdn
  icases Hdn' with ⟨-, Hx, Ho⟩
  imodintro
  isplitl [Hst]; · iexact Hst
  isplitr [Hb Hts]
  · isplitl [Hx]; · iexact Hx
    isplitl [Hn] <;> iassumption
  isplitl [Hb] <;> iassumption

/-! ## The run -/

def fq (d : Dev nD) (s' : Phys nD τ sig (Elt F)) : Prop :=
  s'.mem.mem (oLoc d) = O1 m d ∧ s'.mem.mem (xLoc d) = m (xLoc d) ∧ s'.mem.mem (nLoc d) = m (nLoc d)

omit [FloatOps F] in
set_option maxRecDepth 16384 in
theorem hfin (d : Dev nD) (s' : Phys nD τ sig (Elt F)) : iprop(FIN m d ∗ SI s') ⊢ (⌜fq m d s'⌝ : sProp 𝕄) := by
  iintro ⟨⟨Hx, Hn, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := nLoc d) (I := Finset.univ) (q := fullShare) (f := m (nLoc d)))) $$ [HSI Hn]
  · isplitl [HSI] <;> iassumption
  icases H with ⟨%h2, HSI, -⟩
  ihave H := (SI_pointsTo_agree (st := s') (ℓ := oLoc d) (I := Finset.univ) (q := fullShare) (f := O1 m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

def QC : PUnit × MemSt nD τ sig (Elt F) → Prop := fun r =>
  (∀ c : Dev nD, r.2.mem (oLoc c) = O1 m c ∧ r.2.mem (xLoc c) = m (xLoc c) ∧ r.2.mem (nLoc c) = m (nLoc c)) ∧ r.2.sem = fun _ => 0

/-- Every execution ends, with the output gathered, the two arguments as they were and every semaphore at zero. -/
theorem run_main [∀ e, Nonempty (Elt F e)] (hm : NamedAll m) :
    θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hm)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Gather

end
-- ==== Proof.Value.lean ====
/-
  The gathered array is the reference's, and the claims about the call.
-/
module

public import proofs.«01_k».proof.Proof.Launch
public import proofs.«01_k».proof.Defs
public import proofs.«01_k».proof.Proof.Gen.KernelIdeal
public import proofs.«01_k».proof.Proof.Gen.Reference
public import proofs.«01_k».proof.Proof.Gen.Reference.Run
public import proofs.«01_k».proof.Proof.Gen.ReferenceIdeal
public import proofs.«01_k».proof.Proof.Gen.ReferenceIdeal.Run
public import proofs.«01_k».proof.Proof.Gen.Pre_row_indices
public import Idealize.ShloMosaic.Lib.Routing.Ops
public import Idealize.ShloMosaic.Lib.Pipeline.Value
public import Idealize.ShloMosaic.Adequacy
public import Idealize.ShloMosaic.Init

@[expose] public section

noncomputable section

namespace Cert.Proof.Gather

open Idealize.ShloMosaic Idealize.ShloMosaic.ValueIdx Idealize.SL.Sem

/-! ## The precondition -/

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by cases p <;> decide

/-- A word at least zero and below 16384 as a signed number is below 16384. -/
theorem row_of_word (v : BitVec 32) (e : IntOp.andi (IntOp.cmpi .sge v 0#32) (IntOp.cmpi .slt v 16384#32) = 1#1) : v.toNat < 16384 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem named_of_pre {F : FTy → Type} [FloatOps F] (x : IVec Cert.Pre_row_indices.S16384x512 32) (v : IVec Cert.Pre_row_indices.S36864 32)
    (h : Cert.Pre_row_indices.fn (F := F) x v = fun _ => 1#1) : RowsNamed (F := F) v := fun j => by
  have e := congrFun h j
  simp only [Cert.Pre_row_indices.fn, andi, cmpi, broadcastInDim, constantI] at e
  exact row_of_word _ e

/-! ## The value -/

open Cert.Reference in
theorem reference_eq {F : FTy → Type} (x : IVec S16384x512 32) (v : IVec S36864 32) (hv : RowsNamed (F := F) v) :
    Host.gather (gather_S16384x512_S36864x1_S36864x512_1_0_n_n_0_1_1512) x (broadcastInDim S36864x1 ![0] Gen.bcast_S36864_S36864x1_0 v)
      = gathered (F := F) x (listRow (F := F) v) := by
  funext y
  obtain ⟨r, c, rfl⟩ : ∃ (r : Fin 36864) (c : Fin 512), y = ix2 r c := ⟨y 0, y 1, by funext a; match a with | ⟨0, _⟩ => rfl | ⟨1, _⟩ => rfl⟩
  have hr : (v (ix1 r)).toNat < 16384 := hv (ix1 r)
  refine (Routing.gather_row gather_S16384x512_S36864x1_S36864x512_1_0_n_n_0_1_1512 rfl rfl rfl rfl rfl x _ r c ⟨(v (ix1 r)).toNat, hr⟩ ?_ (by omega)).trans ?_
  · refine (broadcastInDim_apply _ _ v _ (ix1 r) ?_).trans (BitVec.ofNat_toNat _ _ |>.trans (BitVec.setWidth_eq _)).symm
    intro a
    match a with
    | ⟨0, _⟩ => rfl
  · show x _ = x _
    refine congrArg x (congrArg (fun n => ix2 n c) (Fin.ext ?_))
    show (v (ix1 r)).toNat = min (listAt (F := F) (listRow (F := F) v) r.val : BitVec 32).toNat 16383
    rw [listAt_row]
    show (v (ix1 r)).toNat = min (v (ix1 r)).toNat 16383
    omega

/-! ## The claims -/

theorem frame_kernel : Cert.quiescent_Kernel := fun m ρ hp =>
  (θ_run Cert.Kernel.defs _ _).mono (fun _ h => ⟨fun c => (h.1 c).2, h.2⟩) (run_main (F := Bits) m ρ fun d => named_of_pre (F := Bits) _ _ (hp d))

theorem frame_ideal : Cert.quiescent_KernelIdeal := fun m ρ hp =>
  (θ_run Cert.KernelIdeal.defs _ _).mono (fun _ h => ⟨fun c => (h.1 c).2, h.2⟩) (run_main (F := Ideal) m ρ fun d => named_of_pre (F := Ideal) _ _ (hp d))

theorem frame_reference : Cert.quiescent_Reference := fun m ρ _ =>
  (θ_run Cert.Reference.defs _ _).mono (fun r h => ⟨fun c => (h c).2, sem_eq_zero_of_no_sems (by decide) r.2⟩) (Cert.Reference.Value.run (F := Bits) m ρ)

theorem frame_referenceIdeal : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

theorem bitexact : Cert.bitexact_Kernel_Reference := by
  intro m g m' g' hp hag
  refine ⟨fun c => O1 (F := Bits) m c, (θ_run Cert.Kernel.defs _ _).mono (fun _ h => h.1) (run_main (F := Bits) m g fun d => named_of_pre (F := Bits) _ _ (hp d)), ?_⟩
  refine (θ_run Cert.Reference.defs _ _).mono (fun r h c => ⟨(h c).1.trans ?_, (h c).2⟩) (Cert.Reference.Value.run (F := Bits) m' g')
  rw [(hag c).1, (hag c).2]
  exact reference_eq (F := Bits) _ _ (named_of_pre (F := Bits) _ _ (hp c))

theorem algebraic : Cert.algebraic_KernelIdeal_ReferenceIdeal := by
  intro m g m' g' hp hag
  refine ⟨fun c => O1 (F := Ideal) m c, (θ_run Cert.KernelIdeal.defs _ _).mono (fun _ h => h.1) (run_main (F := Ideal) m g fun d => named_of_pre (F := Ideal) _ _ (hp d)), ?_⟩
  refine (θ_run Cert.ReferenceIdeal.defs _ _).mono (fun r h c => ⟨(h c).1.trans ?_, (h c).2⟩) (Cert.ReferenceIdeal.Value.run (F := Ideal) m' g')
  rw [(hag c).1, (hag c).2]
  exact reference_eq (F := Ideal) _ _ (named_of_pre (F := Ideal) _ _ (hp c))

end Cert.Proof.Gather

end
-- ==== Proof.MoeOk.lean ====
/-
  The experts' call: where every entry of the table of experts is below eight, the weights' index maps stay inside
  their arrays.
-/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Pre_experts
public import Idealize.ShloMosaic.Lib.Affine

@[expose] public section

set_option maxRecDepth 16384

noncomputable section

namespace Cert.Proof.Moe

open Idealize.ShloMosaic Idealize.ShloMosaic.TcCoe Idealize.SL.Sem
open Cert.Kernel2Ideal Cert.Kernel2Ideal.Gen

variable {F : FTy → Type} [FloatOps F]

/-- Every entry of the table names one of the eight experts. -/
abbrev Named (te : IVec S72 32) : Prop := ∀ j, (te j).toNat < 8

/-- The half of the hidden columns a point takes is 0 or 1. -/
theorem half_lt (i : grid0.Coords) (b : BitVec 1) : (Scalar.select b (BitVec.ofNat 32 (i 1).val) 1#32).toNat < 2 := by
  have h : (i 1).val < 2 := (i 1).isLt
  unfold Scalar.select
  split
  · rw [BitVec.toNat_ofNat]; omega
  · decide

/-- An index map over a table that names experts: the weights' blocks lie in their arrays and are whole words. -/
theorem ok_of_named (pf : pre0.Contents (Elt F)) (h : ∀ j, (pf 0 j : BitVec 32).toNat < 8) : ok0 (F := F) pf := by
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  all_goals
    have hE := h ((Rect.unit (s := S72) ![(Scalar.indexCast (BitVec.ofNat 32 (i 0).val)).toNat] S1.size (k0_off1_inb i)).emb
      (Shape.Idx.first (numel1_S1.symm ▸ Nat.one_pos)))
    have hF := half_lt i (Scalar.cmpi .slt (BitVec.ofNat 32 (i 0).val) (pf.at 1 (Rect.unit (s := S1) ![0] S1.size inb_S1_S1_0) numel1_S1))
  · match a with
    | ⟨0, _⟩ => show (_ + 1) * 1 ≤ 8; rw [Nat.mul_one]; exact hE
    | ⟨1, _⟩ => show (0 + 1) * 1024 ≤ 1024; decide
    | ⟨2, _⟩ => exact (Nat.mul_le_mul_right 1792 hF : _ ≤ 2 * 1792)
  · match a with
    | ⟨0, _⟩ => show (_ + 1) * 1 ≤ 8; rw [Nat.mul_one]; exact hE
    | ⟨1, _⟩ => show (0 + 1) * 1024 ≤ 1024; decide
    | ⟨2, _⟩ => exact (Nat.mul_le_mul_right 1792 hF : _ ≤ 2 * 1792)
  · match a with
    | ⟨0, _⟩ => show (_ + 1) * 1 ≤ 8; rw [Nat.mul_one]; exact hE
    | ⟨1, _⟩ => exact (Nat.mul_le_mul_right 1792 hF : _ ≤ 2 * 1792)
    | ⟨2, _⟩ => show (0 + 1) * 1024 ≤ 1024; decide

/-- The same of the program as printed. -/
theorem ok_of_named_printed (pf : Cert.Kernel2.pre0.Contents (Elt F)) (h : ∀ j, (pf 0 j : BitVec 32).toNat < 8) : Cert.Kernel2.ok0 (F := F) pf := by
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  all_goals
    have hE := h ((Rect.unit (s := S72) ![(Scalar.indexCast (BitVec.ofNat 32 (i 0).val)).toNat] S1.size (Cert.Kernel2.Gen.k0_off1_inb i)).emb
      (Shape.Idx.first (Cert.Kernel2.Gen.numel1_S1.symm ▸ Nat.one_pos)))
    have hF := half_lt i (Scalar.cmpi .slt (BitVec.ofNat 32 (i 0).val) (pf.at 1 (Rect.unit (s := S1) ![0] S1.size Cert.Kernel2.Gen.inb_S1_S1_0) Cert.Kernel2.Gen.numel1_S1))
  · match a with
    | ⟨0, _⟩ => show (_ + 1) * 1 ≤ 8; rw [Nat.mul_one]; exact hE
    | ⟨1, _⟩ => show (0 + 1) * 1024 ≤ 1024; decide
    | ⟨2, _⟩ => exact (Nat.mul_le_mul_right 1792 hF : _ ≤ 2 * 1792)
  · match a with
    | ⟨0, _⟩ => show (_ + 1) * 1 ≤ 8; rw [Nat.mul_one]; exact hE
    | ⟨1, _⟩ => show (0 + 1) * 1024 ≤ 1024; decide
    | ⟨2, _⟩ => exact (Nat.mul_le_mul_right 1792 hF : _ ≤ 2 * 1792)
  · match a with
    | ⟨0, _⟩ => show (_ + 1) * 1 ≤ 8; rw [Nat.mul_one]; exact hE
    | ⟨1, _⟩ => exact (Nat.mul_le_mul_right 1792 hF : _ ≤ 2 * 1792)
    | ⟨2, _⟩ => show (0 + 1) * 1024 ≤ 1024; decide

theorem ok_of_table (m : (ℓ : Loc nD τ sig) → Buf (Elt F) ℓ) (h : ∀ j, (m ((0 : Dev nD), main_arg0) j : BitVec 32).toNat < 8) : Ok m := by
  refine ok_of_named _ fun j => ?_
  show (V m (0 : Dev nD) main_arg0 j : BitVec 32).toNat < 8
  rw [V_main_arg0]
  exact h j

theorem ok_of_table_printed (m : (ℓ : Loc Cert.Kernel2.nD Cert.Kernel2.τ Cert.Kernel2.sig) → Buf (Elt F) ℓ)
    (h : ∀ j, (m ((0 : Dev Cert.Kernel2.nD), Cert.Kernel2.main_arg0) j : BitVec 32).toNat < 8) : Cert.Kernel2.Gen.Ok m := by
  refine ok_of_named_printed _ fun j => ?_
  show (Cert.Kernel2.Gen.V m (0 : Dev Cert.Kernel2.nD) Cert.Kernel2.main_arg0 j : BitVec 32).toNat < 8
  rw [Cert.Kernel2.Gen.V_main_arg0]
  exact h j

/-! ## The precondition -/

theorem and_ofBool (p q : Bool) : IntOp.andi (BitVec.ofBool p) (BitVec.ofBool q) = BitVec.ofBool (p && q) := by
  cases p <;> cases q <;> decide

theorem ofBool_one (p : Bool) : (BitVec.ofBool p = 1#1) ↔ p = true := by cases p <;> decide

/-- A word at least zero and below eight as a signed number is below eight. -/
theorem expert_of_word (v : BitVec 32) (e : IntOp.andi (IntOp.cmpi .sge v 0#32) (IntOp.cmpi .slt v 8#32) = 1#1) : v.toNat < 8 := by
  simp only [IntOp.cmpi, and_ofBool, ofBool_one, Bool.and_eq_true, BitVec.sle_eq_decide, BitVec.slt_eq_decide,
    decide_eq_true_eq, BitVec.toInt_eq_toNat_cond, BitVec.toNat_ofNat, Nat.reducePow, Nat.reduceMod] at e
  omega

theorem named_of_pre (a0 : IVec S72 32) (a1 : IVec S1 32) (a2 : IVec S36864x512 32) (a3 a4 : FVec F S8x1024x3584 .f32)
    (a5 : FVec F S8x3584x1024 .f32) (h : Cert.Pre_experts.fn (F := F) a0 a1 a2 a3 a4 a5 = fun _ => 1#1) : Named a0 := fun j => by
  have e := congrFun h j
  simp only [Cert.Pre_experts.fn, andi, cmpi, broadcastInDim, constantI] at e
  exact expert_of_word _ e

theorem frame_kernel2Ideal : Cert.quiescent_Kernel2Ideal := fun m ρ hp =>
  Cert.Kernel2Ideal.Gen.frame m ρ (ok_of_table m (named_of_pre _ _ _ _ _ _ (hp 0)))

theorem frame_kernel2 : Cert.quiescent_Kernel2 := fun m ρ hp =>
  Cert.Kernel2.Gen.frame m ρ (ok_of_table_printed m (named_of_pre _ _ _ _ _ _ (hp 0)))

end Cert.Proof.Moe

end
-- ==== Proof.MoeBlock.lean ====
/-
  What one grid point of the experts' call leaves: the scratch holds the sum over the halves of the hidden columns taken so
  far, the output's block the sum at the last half.
-/
module

public import proofs.«01_k».proof.Proof.Gen.Kernel2Ideal
public import proofs.«01_k».proof.Proof.Gen.Kernel2Ideal.Frame
public import Idealize.ShloMosaic.Lib.Pipeline.Value
public import Idealize.ShloMosaic.Lib.Tactic

@[expose] public section

set_option maxRecDepth 16384

noncomputable section

namespace Cert.Proof.Moe

open Idealize.ShloMosaic Idealize.ShloMosaic.TcCoe Idealize.SL.Sem
open Cert.Kernel2Ideal Cert.Kernel2Ideal.Gen

variable {F : FTy → Type} [FloatOps F]

theorem zero2 : (![0, 0] : Fin 2 → Nat) = fun _ => 0 := funext fun a => by fin_cases a <;> rfl

theorem zero3 : (![0, 0, 0] : Fin 3 → Nat) = fun _ => 0 := funext fun a => by fin_cases a <;> rfl

section Cases

variable (c : Dev nD) (i : grid0.Coords) (a4 : Memref sig .tc .vmem S512x512 .i32) (h4 : a4.IsWhole)
  (a5 : Memref sig .tc .vmem S1x1024x1792 .bf16) (h5 : a5.IsWhole) (a6 : Memref sig .tc .vmem S1x1024x1792 .bf16) (h6 : a6.IsWhole)
  (a7 : Memref sig .tc .vmem S1x1792x1024 .bf16) (h7 : a7.IsWhole) (a8 : Memref sig .tc .vmem S512x1024 .bf16) (h8 : a8.IsWhole)
  (h9 : scM0_0.IsWhole)
  (x0 : Vec F S512x512 .i32) (x1 x2 : Vec F S1x1024x1792 .bf16) (x3 : Vec F S1x1792x1024 .bf16)
  (xt0 : TbBuf0 (F := F) c tbM0_0) (xt1 : TbBuf0 (F := F) c tbM0_1) (xs : Vec F S512x1024 .f32)

/-- At the first half of a valid tile the scratch is the first half's product over zeros. -/
theorem scratch_first (hc0 hc2 hc1) :
    sout0_A_0 c i a4 h4 a5 h5 a6 h6 a7 h7 a8 h8 scM0_0 h9 hc0 hc2 x0 x1 x2 x3 xt0 xt1 hc1 = k0_pay2 x0 x1 x2 k0_pay1 x3 := by
  unfold sout0_A_0
  rw [View.read_writes_eq_canon _ _ _ (scover0_A_0 c i a4 h4 a5 h5 a6 h6 a7 h7 a8 h8 scM0_0 h9 hc0 hc2 x0 x1 x2 x3 xt0 xt1 hc1)]
  unfold kernelRun0_A
  dsimp only
  sl_unfold_words
  rw [View.canon_cons_unit_zero (S := S512x1024) zero2, View.readCov_unit_zero (S := S512x1024) _ zero2]
  simp only [View.readAt_eq_ld, h4.read_unread, h5.read_unread, h6.read_unread, h7.read_unread, View.ld_unit_zero (S := S512x512) zero2,
    View.ld_unit_zero (S := S1x1024x1792) zero3, View.ld_unit_zero (S := S1x1792x1024) zero3]

/-- At the first half of an unused tile it is zeros. -/
theorem scratch_unused (hc0 hc2 hc1) :
    sout0_B_0 c i a4 h4 a5 h5 a6 h6 a7 h7 a8 h8 scM0_0 h9 hc0 hc2 x0 x1 x2 x3 xt0 xt1 hc1 = k0_pay1 := by
  unfold sout0_B_0
  rw [View.read_writes_eq_canon _ _ _ (scover0_B_0 c i a4 h4 a5 h5 a6 h6 a7 h7 a8 h8 scM0_0 h9 hc0 hc2 x0 x1 x2 x3 xt0 xt1 hc1)]
  unfold kernelRun0_B
  dsimp only
  sl_unfold_words
  rw [View.canon_unit_zero (S := S512x1024) zero2]

/-- At the last half of a valid tile the output's block is the scratch and the last half's product, rounded. -/
theorem block_last (hc0 hc2 hc1) :
    out0_C_4 c i a4 h4 a5 h5 a6 h6 a7 h7 a8 h8 scM0_0 h9 hc0 hc2 x0 x1 x2 x3 xt0 xt1 xs hc1 = k0_pay3 (k0_pay2 x0 x1 x2 xs x3) := by
  unfold out0_C_4
  rw [View.read_writes_eq_canon _ _ _ (cover0_C_4 c i a4 h4 a5 h5 a6 h6 a7 h7 a8 h8 scM0_0 h9 hc0 hc2 x0 x1 x2 x3 xt0 xt1 xs hc1)]
  unfold kernelRun0_C
  dsimp only
  sl_unfold_words
  rw [View.canon_unit_zero (S := S512x1024) zero2, View.readCov_unit_zero (S := S512x1024) _ zero2]
  simp only [View.readAt_eq_ld, h4.read_unread, h5.read_unread, h6.read_unread, h7.read_unread, h9.read_unread,
    View.ld_unit_zero (S := S512x512) zero2, View.ld_unit_zero (S := S512x1024) zero2,
    View.ld_unit_zero (S := S1x1024x1792) zero3, View.ld_unit_zero (S := S1x1792x1024) zero3]

/-- At the last half of an unused tile it is the scratch, rounded. -/
theorem block_unused (hc0 hc2 hc1) :
    out0_D_4 c i a4 h4 a5 h5 a6 h6 a7 h7 a8 h8 scM0_0 h9 hc0 hc2 x0 x1 x2 x3 xt0 xt1 xs hc1 = k0_pay3 xs := by
  unfold out0_D_4
  rw [View.read_writes_eq_canon _ _ _ (cover0_D_4 c i a4 h4 a5 h5 a6 h6 a7 h7 a8 h8 scM0_0 h9 hc0 hc2 x0 x1 x2 x3 xt0 xt1 xs hc1)]
  unfold kernelRun0_D
  dsimp only
  sl_unfold_words
  rw [View.canon_unit_zero (S := S512x1024) zero2]
  simp only [View.readAt_eq_ld, h9.read_unread, View.ld_unit_zero (S := S512x1024) zero2]

end Cases

end Cert.Proof.Moe

end
-- ==== Proof.MoeSum.lean ====
/-
  One row of the experts' call over the extended reals: the packed row opened, its hidden columns, and the products of a half
  and of all the hidden columns.
-/
module

public import proofs.«01_k».proof.Proof.Gen.Kernel2Ideal
public import proofs.«01_k».proof.Proof.Gen.Kernel2Ideal.Skeleton
public import Idealize.ShloMosaic.Lib.Pointwise

@[expose] public section

set_option maxRecDepth 16384

noncomputable section

namespace Cert.Proof.Moe

open Idealize.ShloMosaic
open Cert.Kernel2Ideal Cert.Kernel2Ideal.Gen

/-- Column `d` of a packed row: the low half-words first, then the high ones, each as the high half of a 32-bit word. -/
def opened (w : Fin 512 → BitVec 32) (d : Fin 1024) : EReal :=
  if h : d.val < 512 then FloatOps.ofBits (F := Ideal) .f32 (IntOp.shli .vector (w ⟨d.val, h⟩) 16#32)
  else FloatOps.ofBits (F := Ideal) .f32 (IntOp.andi (w ⟨d.val - 512, by omega⟩) 4294901760#32)

/-- A hidden column from a row and the two weights' columns. -/
def hidden (x u v : Fin 1024 → EReal) : EReal :=
  (∑ d, x d * u d) * Ideal.logistic (∑ d, x d * u d) * ∑ d, x d * v d

theorem zeros_apply (j : S512x1024.Idx) : (k0_pay1 (F := Ideal)) j = (0 : EReal) := by
  idx_vars j
  pointwise [k0_pay1]

theorem rounded (x : Vec Ideal S512x1024 .f32) : k0_pay3 x = x := by
  funext j
  idx_vars j
  pointwise [k0_pay3]

theorem half_apply (x0 : Vec Ideal S512x512 .i32) (x1 x2 : Vec Ideal S1x1024x1792 .bf16) (acc : Vec Ideal S512x1024 .f32)
    (x3 : Vec Ideal S1x1792x1024 .bf16) (r : Fin 512) (c : Fin 1024) :
    k0_pay2 x0 x1 x2 acc x3 (ix2 r c) = (acc (ix2 r c) : EReal)
      + ∑ k : Fin 1792, hidden (opened fun q => x0 (ix2 r q)) (fun d => x1 (ix3 0 d k)) (fun d => x2 (ix3 0 d k)) * x3 (ix3 0 k c) := by
  have hx : ∀ d : Fin 1024, (concatenate S512x1024 1 [⟨S512x512, (bitcastToFloat (F := Ideal) .f32 (shli x0 (broadcast S512x512 16#32)) : FVec Ideal S512x512 .f32)⟩,
      ⟨S512x512, bitcastToFloat .f32 (andi x0 (broadcast S512x512 4294901760#32))⟩] concatenates_S512x512_S512x512_S512x1024_d1) (ix2 r d)
      = opened (fun q => x0 (ix2 r q)) d := by
    intro d
    pointwise [opened]
  unfold k0_pay2
  generalize concatenate S512x1024 1 _ _ = X at hx ⊢
  pointwise
  simp only [hx, hidden]

end Cert.Proof.Moe

end
-- ==== Proof.MoeTile.lean ====
/-
  The blocks a grid point of the experts' call reads, and what it finds in the tables.
-/
module

public import proofs.«01_k».proof.Proof.MoeBlock
public import proofs.«01_k».proof.Proof.MoeSum
public import Idealize.ShloMosaic.Lib.StableHlo.RunRead
public import Idealize.ShloMosaic.Lib.Tactic.CleanTypes
public import Idealize.ShloMosaic.Lib.Pipeline.ValueKit.Geometry

@[expose] public section

set_option maxRecDepth 16384

noncomputable section

namespace Cert.Proof.Moe

open Idealize.ShloMosaic Idealize.ShloMosaic.TcCoe Idealize.SL.Sem
open Cert.Kernel2Ideal Cert.Kernel2Ideal.Gen

/-- The expert the table gives a tile. -/
def expertOf (te : IVec S72 32) (i : Fin 72) : Fin 8 := ⟨(te (ix1 i)).toNat % 8, Nat.mod_lt _ (by decide)⟩

/-- Whether a tile is among the used ones. -/
abbrev Used (nv : IVec S1 32) (i : Fin 72) : Prop := IntOp.cmpi .slt (BitVec.ofNat 32 i.val) (nv (ix1 0)) = 1#1

variable {F : FTy → Type} [FloatOps F]

/-! ## The index maps -/

/-- The table's entry at a point. -/
theorem entry_eq (te : (⟨S72, .i32⟩ : BufTy).Contents (Elt F)) (i : grid0.Coords) :
    te ((Rect.unit (s := S72) ![(Scalar.indexCast (BitVec.ofNat 32 (i 0).val)).toNat] S1.size (k0_off1_inb i)).emb
      (Shape.Idx.first (numel1_S1.symm ▸ Nat.one_pos))) = te (ix1 (i 0)) := by
  have h : (i 0).val < 72 := (i 0).isLt
  congr 1
  funext a
  match a with
  | ⟨0, _⟩ =>
    apply Fin.ext
    show (Scalar.indexCast (BitVec.ofNat 32 (i 0).val)).toNat + 1 * 0 = (i 0).val
    show (BitVec.ofNat 32 (i 0).val).toNat + 1 * 0 = (i 0).val
    rw [BitVec.toNat_ofNat]
    omega

/-- The number of used tiles is the second table's one entry. -/
theorem count_eq (nv : (⟨S1, .i32⟩ : BufTy).Contents (Elt F)) :
    nv ((Rect.unit (s := S1) ![0] S1.size inb_S1_S1_0).emb (Shape.Idx.first (numel1_S1.symm ▸ Nat.one_pos))) = nv (ix1 0) := by
  congr 1
  funext a
  match a with
  | ⟨0, _⟩ => rfl

/-- The half of the hidden columns a used tile's point takes. -/
theorem half_eq (nv : (⟨S1, .i32⟩ : BufTy).Contents (Elt F)) (i : grid0.Coords) (hu : Used nv (i 0)) :
    (Scalar.select (Scalar.cmpi .slt (BitVec.ofNat 32 (i 0).val)
      (nv ((Rect.unit (s := S1) ![0] S1.size inb_S1_S1_0).emb (Shape.Idx.first (numel1_S1.symm ▸ Nat.one_pos)))))
      (BitVec.ofNat 32 (i 1).val) 1#32).toNat = (i 1).val := by
  have h : (i 1).val < 2 := (i 1).isLt
  rw [count_eq (F := F) nv]
  unfold Scalar.select Scalar.cmpi
  refine (congrArg BitVec.toNat (if_pos hu)).trans ?_
  rw [BitVec.toNat_ofNat]
  omega

/-- The gate's weights at a point of a used tile. -/
theorem map_gate (pf : pre0.Contents (Elt F)) (i : grid0.Coords) (hu : Used (pf 1) (i 0)) :
    cc0_transform_1 k0_off1_inb numel1_S1 inb_S1_S1_0 pf i = ![(pf 0 (ix1 (i 0)) : BitVec 32).toNat, 0, (i 1).val] := funext fun a =>
  match a with
  | ⟨0, _⟩ => congrArg BitVec.toNat (entry_eq (F := F) (pf 0) i)
  | ⟨1, _⟩ => rfl
  | ⟨2, _⟩ => half_eq (F := F) (pf 1) i hu

/-- The up projection's. -/
theorem map_up (pf : pre0.Contents (Elt F)) (i : grid0.Coords) (hu : Used (pf 1) (i 0)) :
    cc0_transform_2 k0_off1_inb numel1_S1 inb_S1_S1_0 pf i = ![(pf 0 (ix1 (i 0)) : BitVec 32).toNat, 0, (i 1).val] := funext fun a =>
  match a with
  | ⟨0, _⟩ => congrArg BitVec.toNat (entry_eq (F := F) (pf 0) i)
  | ⟨1, _⟩ => rfl
  | ⟨2, _⟩ => half_eq (F := F) (pf 1) i hu

/-- The down projection's. -/
theorem map_down (pf : pre0.Contents (Elt F)) (i : grid0.Coords) (hu : Used (pf 1) (i 0)) :
    cc0_transform_3 k0_off1_inb numel1_S1 inb_S1_S1_0 pf i = ![(pf 0 (ix1 (i 0)) : BitVec 32).toNat, (i 1).val, 0] := funext fun a =>
  match a with
  | ⟨0, _⟩ => congrArg BitVec.toNat (entry_eq (F := F) (pf 0) i)
  | ⟨1, _⟩ => half_eq (F := F) (pf 1) i hu
  | ⟨2, _⟩ => rfl

/-! ## The weights as the call finds them -/

theorem V_gate (m : (ℓ : Loc nD τ sig) → Buf (Elt F) ℓ) (c : Dev nD) :
    V m c main_v0 = (truncf .bf16 (m ((c : Thread nD τ).loc main_arg3)) bitsLt_bf16_f32 : FVec F S8x1024x3584 .bf16) := by
  show StableHlo.after hostOps0 _ (Proc.devRef .tc main_v0) = _
  after_reads_simp

theorem V_up (m : (ℓ : Loc nD τ sig) → Buf (Elt F) ℓ) (c : Dev nD) :
    V m c main_v1 = (truncf .bf16 (m ((c : Thread nD τ).loc main_arg4)) bitsLt_bf16_f32 : FVec F S8x1024x3584 .bf16) := by
  show StableHlo.after hostOps0 _ (Proc.devRef .tc main_v1) = _
  after_reads_simp

theorem V_down (m : (ℓ : Loc nD τ sig) → Buf (Elt F) ℓ) (c : Dev nD) :
    V m c main_v2 = (truncf .bf16 (m ((c : Thread nD τ).loc main_arg5)) bitsLt_bf16_f32 : FVec F S8x3584x1024 .bf16) := by
  show StableHlo.after hostOps0 _ (Proc.devRef .tc main_v2) = _
  after_reads_simp

/-! ## The blocks -/

variable (m : (ℓ : Loc nD τ sig) → Buf (Elt Ideal) ℓ)

theorem coord_tile (t : Fin grid0.N) : (grid0.coords t 0).val = t.val / 2 := by
  have e : (grid0.coords t 0).val = t.val / 2 % 72 := Pipeline.Grid.coords_val t 0 (by decide) rfl
  have h : t.val < 144 := lt_of_lt_of_eq t.isLt N_0
  omega

theorem coord_half (t : Fin grid0.N) : (grid0.coords t 1).val = t.val % 2 := by
  have e : (grid0.coords t 1).val = t.val / 1 % 2 := Pipeline.Grid.coords_val t 1 (by decide) rfl
  omega

/-- The rows' block index at a point. -/
theorem map_rows (i : grid0.Coords) : cc0_transform_0 i = ![(i 0).val, 0] := funext fun a =>
  match a with
  | ⟨0, _⟩ => by
    have h : (i 0).val < 72 := (i 0).isLt
    show (BitVec.ofNat 32 (i 0).val).toNat = (i 0).val
    rw [BitVec.toNat_ofNat]; omega
  | ⟨1, _⟩ => rfl

theorem rows_index (hO : Ok m) (t : Fin (cfgM m hO).N) :
    ((cfgM m hO).win 0).index t = ![(grid0.coords t 0).val, 0] := map_rows _

theorem rows_apply (hO : Ok m) (c : Dev nD) (t : Fin (cfgM m hO).N) (r : Fin 512) (q : Fin 512) :
    (iblk m hO c 0 t : Vec Ideal S512x512 .i32) (ix2 r q)
      = m ((c : Thread nD τ).loc main_arg2) (ix2 ⟨512 * (t.val / 2) + r.val, by
          have h : t.val < 144 := lt_of_lt_of_eq t.isLt N_0; omega⟩ q) := by
  unfold iblk
  refine (View.read_apply ..).trans ?_
  show V m c main_arg2 _ = _
  rw [V_main_arg2]
  congr 1
  funext a
  apply Fin.ext
  match a with
  | ⟨0, _⟩ =>
    refine (ValueKit.view_emb_slice_whole_unit_val main_arg2 _ _ _ (ix2 r q) 0).trans ?_
    refine (congrArg (fun f : Fin 2 → Nat => f 0 * 512 + r.val) (rows_index m hO t)).trans ?_
    refine (congrArg (fun n : Nat => n * 512 + r.val) (coord_tile t)).trans ?_
    exact congrArg (· + r.val) (Nat.mul_comm (t.val / 2) 512)
  | ⟨1, _⟩ =>
    refine (ValueKit.view_emb_slice_whole_unit_val main_arg2 _ _ _ (ix2 r q) 1).trans ?_
    refine (congrArg (fun f : Fin 2 → Nat => f 1 * 512 + q.val) (rows_index m hO t)).trans ?_
    exact Nat.zero_add _

/-! ## The weights' blocks at a used tile -/

/-- The tile of a point. -/
abbrev tile (t : Fin grid0.N) : Fin 72 := grid0.coords t 0

theorem gate_index (hO : Ok m) (t : Fin (cfgM m hO).N) (hu : Used (tbl m 1) (tile t)) :
    ((cfgM m hO).win 1).index t = ![(tbl m 0 (ix1 (tile t)) : BitVec 32).toNat, 0, (grid0.coords t 1).val] :=
  map_gate (tbl m) _ hu

theorem up_index (hO : Ok m) (t : Fin (cfgM m hO).N) (hu : Used (tbl m 1) (tile t)) :
    ((cfgM m hO).win 2).index t = ![(tbl m 0 (ix1 (tile t)) : BitVec 32).toNat, 0, (grid0.coords t 1).val] :=
  map_up (tbl m) _ hu

theorem down_index (hO : Ok m) (t : Fin (cfgM m hO).N) (hu : Used (tbl m 1) (tile t)) :
    ((cfgM m hO).win 3).index t = ![(tbl m 0 (ix1 (tile t)) : BitVec 32).toNat, (grid0.coords t 1).val, 0] :=
  map_down (tbl m) _ hu

/-- An entry below eight is the expert itself. -/
theorem expert_val (te : IVec S72 32) (i : Fin 72) (h : (te (ix1 i)).toNat < 8) : (te (ix1 i)).toNat = (expertOf te i).val :=
  (Nat.mod_eq_of_lt h).symm

theorem gate_apply (hO : Ok m) (c : Dev nD) (t : Fin (cfgM m hO).N) (hu : Used (tbl m 1) (tile t))
    (hn : (tbl m 0 (ix1 (tile t)) : BitVec 32).toNat < 8) (d : Fin 1024) (k : Fin 1792) :
    (iblk m hO c 1 t : Vec Ideal S1x1024x1792 .bf16) (ix3 0 d k)
      = (m ((c : Thread nD τ).loc main_arg3) : FVec Ideal S8x1024x3584 .f32)
          (ix3 (expertOf (tbl m 0) (tile t)) d ⟨1792 * (t.val % 2) + k.val, by omega⟩) := by
  unfold iblk
  refine (View.read_apply ..).trans ?_
  show V m c main_v0 _ = _
  rw [V_gate]
  show (m ((c : Thread nD τ).loc main_arg3) : FVec Ideal S8x1024x3584 .f32) _ = _
  congr 1
  funext a
  apply Fin.ext
  match a with
  | ⟨0, _⟩ =>
    refine (ValueKit.view_emb_slice_whole_unit_val main_v0 _ _ _ (ix3 0 d k) 0).trans ?_
    refine (congrArg (fun f : Fin 3 → Nat => f 0 * 1 + 0) (gate_index m hO t hu)).trans ?_
    exact (Nat.mul_one _).trans (expert_val (tbl m 0) (tile t) hn)
  | ⟨1, _⟩ =>
    refine (ValueKit.view_emb_slice_whole_unit_val main_v0 _ _ _ (ix3 0 d k) 1).trans ?_
    refine (congrArg (fun f : Fin 3 → Nat => f 1 * 1024 + d.val) (gate_index m hO t hu)).trans ?_
    exact (congrArg (· + d.val) (Nat.zero_mul 1024)).trans (Nat.zero_add _)
  | ⟨2, _⟩ =>
    refine (ValueKit.view_emb_slice_whole_unit_val main_v0 _ _ _ (ix3 0 d k) 2).trans ?_
    refine (congrArg (fun f : Fin 3 → Nat => f 2 * 1792 + k.val) (gate_index m hO t hu)).trans ?_
    refine (congrArg (fun n : Nat => n * 1792 + k.val) (coord_half t)).trans ?_
    exact congrArg (· + k.val) (Nat.mul_comm (t.val % 2) 1792)

theorem up_apply (hO : Ok m) (c : Dev nD) (t : Fin (cfgM m hO).N) (hu : Used (tbl m 1) (tile t))
    (hn : (tbl m 0 (ix1 (tile t)) : BitVec 32).toNat < 8) (d : Fin 1024) (k : Fin 1792) :
    (iblk m hO c 2 t : Vec Ideal S1x1024x1792 .bf16) (ix3 0 d k)
      = (m ((c : Thread nD τ).loc main_arg4) : FVec Ideal S8x1024x3584 .f32)
          (ix3 (expertOf (tbl m 0) (tile t)) d ⟨1792 * (t.val % 2) + k.val, by omega⟩) := by
  unfold iblk
  refine (View.read_apply ..).trans ?_
  show V m c main_v1 _ = _
  rw [V_up]
  show (m ((c : Thread nD τ).loc main_arg4) : FVec Ideal S8x1024x3584 .f32) _ = _
  congr 1
  funext a
  apply Fin.ext
  match a with
  | ⟨0, _⟩ =>
    refine (ValueKit.view_emb_slice_whole_unit_val main_v1 _ _ _ (ix3 0 d k) 0).trans ?_
    refine (congrArg (fun f : Fin 3 → Nat => f 0 * 1 + 0) (up_index m hO t hu)).trans ?_
    exact (Nat.mul_one _).trans (expert_val (tbl m 0) (tile t) hn)
  | ⟨1, _⟩ =>
    refine (ValueKit.view_emb_slice_whole_unit_val main_v1 _ _ _ (ix3 0 d k) 1).trans ?_
    refine (congrArg (fun f : Fin 3 → Nat => f 1 * 1024 + d.val) (up_index m hO t hu)).trans ?_
    exact (congrArg (· + d.val) (Nat.zero_mul 1024)).trans (Nat.zero_add _)
  | ⟨2, _⟩ =>
    refine (ValueKit.view_emb_slice_whole_unit_val main_v1 _ _ _ (ix3 0 d k) 2).trans ?_
    refine (congrArg (fun f : Fin 3 → Nat => f 2 * 1792 + k.val) (up_index m hO t hu)).trans ?_
    refine (congrArg (fun n : Nat => n * 1792 + k.val) (coord_half t)).trans ?_
    exact congrArg (· + k.val) (Nat.mul_comm (t.val % 2) 1792)

theorem down_apply (hO : Ok m) (c : Dev nD) (t : Fin (cfgM m hO).N) (hu : Used (tbl m 1) (tile t))
    (hn : (tbl m 0 (ix1 (tile t)) : BitVec 32).toNat < 8) (k : Fin 1792) (e : Fin 1024) :
    (iblk m hO c 3 t : Vec Ideal S1x1792x1024 .bf16) (ix3 0 k e)
      = (m ((c : Thread nD τ).loc main_arg5) : FVec Ideal S8x3584x1024 .f32)
          (ix3 (expertOf (tbl m 0) (tile t)) ⟨1792 * (t.val % 2) + k.val, by omega⟩ e) := by
  unfold iblk
  refine (View.read_apply ..).trans ?_
  show V m c main_v2 _ = _
  rw [V_down]
  show (m ((c : Thread nD τ).loc main_arg5) : FVec Ideal S8x3584x1024 .f32) _ = _
  congr 1
  funext a
  apply Fin.ext
  match a with
  | ⟨0, _⟩ =>
    refine (ValueKit.view_emb_slice_whole_unit_val main_v2 _ _ _ (ix3 0 k e) 0).trans ?_
    refine (congrArg (fun f : Fin 3 → Nat => f 0 * 1 + 0) (down_index m hO t hu)).trans ?_
    exact (Nat.mul_one _).trans (expert_val (tbl m 0) (tile t) hn)
  | ⟨1, _⟩ =>
    refine (ValueKit.view_emb_slice_whole_unit_val main_v2 _ _ _ (ix3 0 k e) 1).trans ?_
    refine (congrArg (fun f : Fin 3 → Nat => f 1 * 1792 + k.val) (down_index m hO t hu)).trans ?_
    refine (congrArg (fun n : Nat => n * 1792 + k.val) (coord_half t)).trans ?_
    exact congrArg (· + k.val) (Nat.mul_comm (t.val % 2) 1792)
  | ⟨2, _⟩ =>
    refine (ValueKit.view_emb_slice_whole_unit_val main_v2 _ _ _ (ix3 0 k e) 2).trans ?_
    refine (congrArg (fun f : Fin 3 → Nat => f 2 * 1024 + e.val) (down_index m hO t hu)).trans ?_
    exact (congrArg (· + e.val) (Nat.zero_mul 1024)).trans (Nat.zero_add _)

/-- The body's test at a point: whether its tile is used. -/
theorem used_iff (t : Fin grid0.N) :
    cond0_1 (grid0.coords t) (tbM0_1.view.readAt (Elt Ideal) (Rect.unit (s := S1) ![0] S1.size inb_S1_S1_0).toLoadRect (tbl m 1)
      (Shape.Idx.first (numel1_S1.symm ▸ Nat.one_pos))) ↔ Used (tbl m 1) (tile t) := by
  refine Iff.trans (Eq.to_iff (congrArg (cond0_1 (grid0.coords t)) (count_eq (F := Ideal) (tbl m 1)))) ?_
  show (Scalar.cmpi .ne (Scalar.extui (IntOp.cmpi .slt (BitVec.ofNat 32 (grid0.coords t 0).val) ((tbl m 1 (ix1 0) : BitVec 32)))) 0#32) = 1#1
    ↔ IntOp.cmpi .slt (BitVec.ofNat 32 (grid0.coords t 0).val) ((tbl m 1 (ix1 0) : BitVec 32)) = 1#1
  generalize IntOp.cmpi .slt (BitVec.ofNat 32 (grid0.coords t 0).val) ((tbl m 1 (ix1 0) : BitVec 32)) = b
  revert b
  decide

end Cert.Proof.Moe

end
-- ==== Proof.MoeArray.lean ====
/-
  What the experts' call leaves in its output, element by element.
-/
module

public import proofs.«01_k».proof.Proof.MoeTile
public import proofs.«01_k».proof.Proof.Gen.Kernel2Ideal.Points

@[expose] public section

set_option maxRecDepth 16384

noncomputable section

namespace Cert.Proof.Moe

open Idealize.ShloMosaic Idealize.ShloMosaic.TcCoe Idealize.SL.Sem
open Cert.Kernel2Ideal Cert.Kernel2Ideal.Gen

/-- The tile a packed row lies in. -/
def tileOf (r : Fin 36864) : Fin 72 := ⟨r.val / 512, by omega⟩

section Spec

variable (te : IVec S72 32) (nv : IVec S1 32) (xs : IVec S36864x512 32)
  (w1 w3 : FVec Ideal S8x1024x3584 .f32) (w2 : FVec Ideal S8x3584x1024 .f32)

/-- A hidden column's share of an element of a row that goes through expert `g`. -/
def share (g : Fin 8) (r : Fin 36864) (e : Fin 1024) (k : Fin 3584) : EReal :=
  hidden (opened fun q => xs (ix2 r q)) (fun d => w1 (ix3 g d k)) (fun d => w3 (ix3 g d k)) * w2 (ix3 g k e)

/-- An element of the output: the row through its tile's expert, zero where the tile isn't used. -/
def moeAt (r : Fin 36864) (e : Fin 1024) : EReal :=
  if Used nv (tileOf r) then ∑ k : Fin 3584, share xs w1 w3 w2 (expertOf te (tileOf r)) r e k else 0

end Spec

variable (m : (ℓ : Loc nD τ sig) → Buf (Elt Ideal) ℓ)

/-- The row of the output a point's block row is. -/
def rowOf (t : Fin grid0.N) (r : Fin 512) : Fin 36864 :=
  ⟨512 * (t.val / 2) + r.val, by have h : t.val < 144 := lt_of_lt_of_eq t.isLt N_0; omega⟩

theorem tileOf_rowOf (t : Fin grid0.N) (r : Fin 512) : tileOf (rowOf t r) = tile t := by
  apply Fin.ext
  show (512 * (t.val / 2) + r.val) / 512 = (grid0.coords t 0).val
  rw [coord_tile]; omega

/-- A used tile's point adds its half of the hidden columns to what the scratch holds. -/
theorem point_half (hO : Ok m) (c : Dev nD) (t : Fin (cfgM m hO).N) (hu : Used (tbl m 1) (tile t))
    (hn : (tbl m 0 (ix1 (tile t)) : BitVec 32).toNat < 8) (acc : FVec Ideal S512x1024 .f32) (r : Fin 512) (e : Fin 1024) :
    (k0_pay2 (F := Ideal) (iblk m hO c 0 t) (iblk m hO c 1 t) (iblk m hO c 2 t) acc (iblk m hO c 3 t)) (ix2 r e)
      = acc (ix2 r e) + ∑ k : Fin 1792, share (m ((c : Thread nD τ).loc main_arg2)) (m ((c : Thread nD τ).loc main_arg3))
          (m ((c : Thread nD τ).loc main_arg4)) (m ((c : Thread nD τ).loc main_arg5)) (expertOf (tbl m 0) (tile t)) (rowOf t r) e
          ⟨1792 * (t.val % 2) + k.val, by omega⟩ := by
  refine (half_apply (iblk m hO c 0 t) (iblk m hO c 1 t) (iblk m hO c 2 t) acc (iblk m hO c 3 t) r e).trans ?_
  refine congrArg (acc (ix2 r e) + ·) (Finset.sum_congr rfl fun k _ => ?_)
  unfold share
  refine congrArg₂ (· * ·) ?_ (down_apply m hO c t hu hn k e)
  refine congr (congrArg₂ hidden (congrArg opened (funext fun q => rows_apply m hO c t r q))
    (funext fun d => gate_apply m hO c t hu hn d k)) (funext fun d => up_apply m hO c t hu hn d k)

/-- The point before, of the same tile. -/
abbrev before (t : Fin grid0.N) : Fin grid0.N := ⟨t.val - 1, Nat.lt_of_le_of_lt (Nat.sub_le _ _) t.isLt⟩

theorem tile_before (t : Fin grid0.N) (h : t.val % 2 = 1) : tile (before t) = tile t := by
  apply Fin.ext
  show (grid0.coords (before t) 0).val = (grid0.coords t 0).val
  rw [coord_tile, coord_tile]
  show (t.val - 1) / 2 = t.val / 2
  omega

theorem rowOf_before (t : Fin grid0.N) (h : t.val % 2 = 1) (r : Fin 512) : rowOf (before t) r = rowOf t r := by
  apply Fin.ext
  show 512 * ((t.val - 1) / 2) + r.val = 512 * (t.val / 2) + r.val
  omega

section Points

variable {F : FTy → Type} [FloatOps F] (mm : (ℓ : Loc nD τ sig) → Buf (Elt F) ℓ)

/-- The test of a point's tile. -/
abbrev Tests (t : Fin grid0.N) : Prop :=
  cond0_1 (grid0.coords t) (tbM0_1.view.readAt (Elt F) (Rect.unit (s := S1) ![0] S1.size inb_S1_S1_0).toLoadRect (tbl mm 1)
    (Shape.Idx.first (numel1_S1.symm ▸ Nat.one_pos)))

theorem first_used (hO : Ok mm) (c : Dev nD) (t : Fin (cfgM mm hO).N) (h0 : t.val % 2 = 0) (h1 : Tests mm t) (h2 : ¬t.val % 2 = 1) :
    (outsAt0 mm hO c t.val t.isLt).2
      = k0_pay2 (iblk mm hO c 0 t) (iblk mm hO c 1 t) (iblk mm hO c 2 t) k0_pay1 (iblk mm hO c 3 t) := by
  rw [outsAt0_A mm hO c t h0 h1 h2]
  dsimp only
  have e := scratch_first (F := F) c (grid0.coords t) (ms0_0 mm hO t) (hs0_0 mm hO t) (ms0_1 mm hO t) (hs0_1 mm hO t) (ms0_2 mm hO t) (hs0_2 mm hO t) (ms0_3 mm hO t) (hs0_3 mm hO t) (ms0_4 mm hO t) (hs0_4 mm hO t) (Memref.isWhole_whole _) (iblk mm hO c 0 t) (iblk mm hO c 1 t)
    (iblk mm hO c 2 t) (iblk mm hO c 3 t) (tbl mm 0) (tbl mm 1)
    ((hcond0_0 t).mpr h0) (fun h => h2 ((hcond0_2 t).mp h)) h1
  exact e

theorem first_unused (hO : Ok mm) (c : Dev nD) (t : Fin (cfgM mm hO).N) (h0 : t.val % 2 = 0) (h1 : ¬Tests mm t) (h2 : ¬t.val % 2 = 1) :
    (outsAt0 mm hO c t.val t.isLt).2 = k0_pay1 := by
  rw [outsAt0_B mm hO c t h0 h1 h2]
  dsimp only
  have e := scratch_unused (F := F) c (grid0.coords t) (ms0_0 mm hO t) (hs0_0 mm hO t) (ms0_1 mm hO t) (hs0_1 mm hO t) (ms0_2 mm hO t) (hs0_2 mm hO t) (ms0_3 mm hO t) (hs0_3 mm hO t) (ms0_4 mm hO t) (hs0_4 mm hO t) (Memref.isWhole_whole _) (iblk mm hO c 0 t) (iblk mm hO c 1 t)
    (iblk mm hO c 2 t) (iblk mm hO c 3 t) (tbl mm 0) (tbl mm 1)
    ((hcond0_0 t).mpr h0) (fun h => h2 ((hcond0_2 t).mp h)) h1
  exact e

theorem last_used (hO : Ok mm) (c : Dev nD) (t : Fin (cfgM mm hO).N) (h0 : ¬t.val % 2 = 0) (h1 : Tests mm t) (h2 : t.val % 2 = 1) :
    (outsAt0 mm hO c t.val t.isLt).1
      = k0_pay3 (k0_pay2 (iblk mm hO c 0 t) (iblk mm hO c 1 t) (iblk mm hO c 2 t)
          (outsAt0 mm hO c (t.val - 1) (Nat.lt_of_le_of_lt (Nat.sub_le _ _) t.isLt)).2 (iblk mm hO c 3 t)) := by
  rw [outsAt0_C mm hO c t h0 h1 h2]
  dsimp only
  have e := block_last (F := F) c (grid0.coords t) (ms0_0 mm hO t) (hs0_0 mm hO t) (ms0_1 mm hO t) (hs0_1 mm hO t) (ms0_2 mm hO t) (hs0_2 mm hO t) (ms0_3 mm hO t) (hs0_3 mm hO t) (ms0_4 mm hO t) (hs0_4 mm hO t) (Memref.isWhole_whole _) (iblk mm hO c 0 t) (iblk mm hO c 1 t)
    (iblk mm hO c 2 t) (iblk mm hO c 3 t) (tbl mm 0) (tbl mm 1)
    (outsAt0 mm hO c (t.val - 1) (Nat.lt_of_le_of_lt (Nat.sub_le _ _) t.isLt)).2 (fun h => h0 ((hcond0_0 t).mp h)) ((hcond0_2 t).mpr h2) h1
  exact e

theorem last_unused (hO : Ok mm) (c : Dev nD) (t : Fin (cfgM mm hO).N) (h0 : ¬t.val % 2 = 0) (h1 : ¬Tests mm t) (h2 : t.val % 2 = 1) :
    (outsAt0 mm hO c t.val t.isLt).1
      = k0_pay3 (outsAt0 mm hO c (t.val - 1) (Nat.lt_of_le_of_lt (Nat.sub_le _ _) t.isLt)).2 := by
  rw [outsAt0_D mm hO c t h0 h1 h2]
  dsimp only
  have e := block_unused (F := F) c (grid0.coords t) (ms0_0 mm hO t) (hs0_0 mm hO t) (ms0_1 mm hO t) (hs0_1 mm hO t) (ms0_2 mm hO t) (hs0_2 mm hO t) (ms0_3 mm hO t) (hs0_3 mm hO t) (ms0_4 mm hO t) (hs0_4 mm hO t) (Memref.isWhole_whole _) (iblk mm hO c 0 t) (iblk mm hO c 1 t)
    (iblk mm hO c 2 t) (iblk mm hO c 3 t) (tbl mm 0) (tbl mm 1)
    (outsAt0 mm hO c (t.val - 1) (Nat.lt_of_le_of_lt (Nat.sub_le _ _) t.isLt)).2 (fun h => h0 ((hcond0_0 t).mp h)) ((hcond0_2 t).mpr h2) h1
  exact e

end Points

/-- The block a tile's last point leaves. -/
theorem block_apply (hO : Ok m) (hn : ∀ j, (tbl m 0 j : BitVec 32).toNat < 8) (c : Dev nD) (t : Fin (cfgM m hO).N)
    (h : t.val % 2 = 1) (r : Fin 512) (e : Fin 1024) :
    ((outsAt0 m hO c t.val t.isLt).1 : FVec Ideal S512x1024 .bf16) (ix2 r e)
      = moeAt (tbl m 0) (tbl m 1) (m ((c : Thread nD τ).loc main_arg2)) (m ((c : Thread nD τ).loc main_arg3))
          (m ((c : Thread nD τ).loc main_arg4)) (m ((c : Thread nD τ).loc main_arg5)) (rowOf t r) e := by
  have h0 : ¬t.val % 2 = 0 := by omega
  have g0 : (before t).val % 2 = 0 := by show (t.val - 1) % 2 = 0; omega
  have g2 : ¬(before t).val % 2 = 1 := by omega
  unfold moeAt
  rw [tileOf_rowOf]
  by_cases hu : Used (tbl m 1) (tile t)
  · rw [if_pos hu, last_used m hO c t h0 ((used_iff m t).mpr hu) h]
    have hu' : Used (tbl m 1) (tile (before t)) := by rw [tile_before t h]; exact hu
    have e1 := first_used m hO c (before t) g0 ((used_iff m (before t)).mpr hu') g2
    refine (congrFun (rounded _) _).trans ?_
    refine (point_half m hO c t hu (hn _) _ r e).trans ?_
    refine (congrArg (· + _) ((congrFun e1 (ix2 r e)).trans (point_half m hO c (before t) hu' (hn _) _ r e))).trans ?_
    rw [zeros_apply, zero_add, tile_before t h, rowOf_before t h, Fin.sum_univ_two_halves 1792 1792 rfl]
    refine congrArg₂ (· + ·) (Finset.sum_congr rfl fun k _ => congrArg _ (Fin.ext ?_)) (Finset.sum_congr rfl fun k _ => congrArg _ (Fin.ext ?_))
    · show 1792 * ((t.val - 1) % 2) + k.val = k.val
      omega
    · show 1792 * (t.val % 2) + k.val = 1792 + k.val
      omega
  · rw [if_neg hu, last_unused m hO c t h0 (fun q => hu ((used_iff m t).mp q)) h]
    have hu' : ¬Used (tbl m 1) (tile (before t)) := by rw [tile_before t h]; exact hu
    have e1 := first_unused m hO c (before t) g0 (fun q => hu' ((used_iff m (before t)).mp q)) g2
    refine (congrFun (rounded _) _).trans ?_
    exact (congrFun e1 (ix2 r e)).trans (zeros_apply _)

/-- What the call leaves in its output. -/
def outArray (c : Dev nD) : FVec Ideal S36864x1024 .bf16 := fun j =>
  moeAt (tbl m 0) (tbl m 1) (m ((c : Thread nD τ).loc main_arg2)) (m ((c : Thread nD τ).loc main_arg3))
    (m ((c : Thread nD τ).loc main_arg4)) (m ((c : Thread nD τ).loc main_arg5)) (j 0) (j 1)

theorem out_index (hO : Ok m) (t : Fin (cfgM m hO).N) :
    ((cfgM m hO).win 4).index t = ![(grid0.coords t 0).val, 0] := map_rows _

theorem out_covers (hO : Ok m) : ((cfgM m hO).win 4).Covers := by
  refine ⟨fun a => ?_, fun β => ?_⟩
  · match a with
    | ⟨0, _⟩ => exact (by decide : 0 < 512)
    | ⟨1, _⟩ => exact (by decide : 0 < 1024)
  · have b0 : (β (0 : Fin 2)).val < 72 := lt_of_lt_of_eq (β (0 : Fin 2)).isLt (show (36864 + 512 - 1) / 512 = 72 from rfl)
    have b1 : (β (1 : Fin 2)).val < 1 := lt_of_lt_of_eq (β (1 : Fin 2)).isLt (show (1024 + 1024 - 1) / 1024 = 1 from rfl)
    let t : Fin (cfgM m hO).N := ⟨2 * (β (0 : Fin 2)).val + 1, lt_of_lt_of_eq (by omega) N_0.symm⟩
    have ht : t.val = 2 * (β (0 : Fin 2)).val + 1 := rfl
    refine ⟨t, (flush0_4 _ t).mpr (by omega), fun a => ⟨(congrFun (out_index m hO t) a).trans ?_, Or.inl rfl⟩⟩
    match a with
    | ⟨0, _⟩ => exact (coord_tile t).trans (show (2 * (β (0 : Fin 2)).val + 1) / 2 = (β (0 : Fin 2)).val by omega)
    | ⟨1, _⟩ => exact (show 0 = (β (1 : Fin 2)).val by omega)

theorem array_eq (hO : Ok m) (hn : ∀ j, (tbl m 0 j : BitVec 32).toNat < 8) (c : Dev nD) :
    (dats m hO 0 c).arrAt 4 (cfgM m hO).N = outArray m c := by
  refine (dats m hO 0 c).arrAt_eq_of_covers 4 (outArray m c) (out_covers m hO) fun t hf y => ?_
  have h : t.val % 2 = 1 := (flush0_4 _ t).mp hf
  refine (congrFun (after0_4 m hO c t) y).trans ?_
  obtain ⟨r, e, rfl⟩ : ∃ (r : Fin 512) (e : Fin 1024), y = ix2 r e := ⟨y (0 : Fin 2), y (1 : Fin 2), funext fun a => match a with | ⟨0, _⟩ => rfl | ⟨1, _⟩ => rfl⟩
  refine (block_apply m hO hn c t h r e).trans ?_
  unfold outArray
  refine congrArg₂ (moeAt _ _ _ _ _ _) (Fin.ext ?_) (Fin.ext ?_)
  · refine Eq.symm ((ValueKit.view_emb_slice_whole_unit_val main_v3 _ _ _ (ix2 r e) 0).trans ?_)
    refine (congrArg (fun f : Fin 2 → Nat => f 0 * 512 + r.val) (out_index m hO t)).trans ?_
    refine (congrArg (fun n : Nat => n * 512 + r.val) (coord_tile t)).trans ?_
    exact congrArg (· + r.val) (Nat.mul_comm (t.val / 2) 512)
  · refine Eq.symm ((ValueKit.view_emb_slice_whole_unit_val main_v3 _ _ _ (ix2 r e) 1).trans ?_)
    refine (congrArg (fun f : Fin 2 → Nat => f 1 * 1024 + e.val) (out_index m hO t)).trans ?_
    exact (congrArg (· + e.val) (Nat.zero_mul 1024)).trans (Nat.zero_add _)

end Cert.Proof.Moe

end
-- ==== Proof.MoeReference.lean ====
/-
  The reference's experts, element by element.
-/
module

public import proofs.«01_k».proof.Proof.MoeArray
public import proofs.«01_k».proof.Proof.Gen.Reference2Ideal
public import proofs.«01_k».proof.Proof.Gen.Reference2Ideal.Run
public import Idealize.ShloMosaic.Lib.Routing.OpsSearch

@[expose] public section

set_option maxRecDepth 16384

noncomputable section

namespace Cert.Proof.Moe

open Idealize.ShloMosaic Idealize.ShloMosaic.TcCoe Idealize.SL.Sem
open Cert.Reference2Ideal Cert.Reference2Ideal.Gen

/-! ## The parts -/

/-- The tile of each row, as the host divides. -/
def tiles : IVec S36864 32 :=
  select (andi (cmpi .ne (signi (iotaInDim S36864 32 0)) (broadcastInDim S36864 ![] bcast_S_S36864 (signi (id (constantI S_ 32 512#32)))))
      (cmpi .ne (Host.remsi (iotaInDim S36864 32 0) (broadcastInDim S36864 ![] bcast_S_S36864 (id (constantI S_ 32 512#32))))
        (broadcastInDim S36864 ![] bcast_S_S36864 (constantI S_ 32 0#32))))
    (subi (Host.divsi (iotaInDim S36864 32 0) (broadcastInDim S36864 ![] bcast_S_S36864 (id (constantI S_ 32 512#32))))
      (broadcastInDim S36864 ![] bcast_S_S36864 (constantI S_ 32 1#32)))
    (Host.divsi (iotaInDim S36864 32 0) (broadcastInDim S36864 ![] bcast_S_S36864 (id (constantI S_ 32 512#32))))

/-- The tile as a place in the table: no tile is negative, but the host allows for it. -/
def places : IVec S36864 32 :=
  select (cmpi .slt tiles (broadcastInDim S36864 ![] bcast_S_S36864 (constantI S_ 32 0#32)))
    (addi tiles (broadcastInDim S36864 ![] bcast_S_S36864 (constantI S_ 32 72#32))) tiles

/-- The table's entry for each row. -/
def entries (te : IVec S72 32) : IVec S36864 32 :=
  Host.gather gather_S72_S36864x1_S36864_n_0_n_n_0_1_1 te (broadcastInDim S36864x1 ![0] bcast_S36864_S36864x1_0 places)

/-- Each row's expert, eight for a row of an unused tile. -/
def experts (te : IVec S72 32) (nv : IVec S1 32) : IVec S36864 32 :=
  select (cmpi .slt tiles (broadcastInDim S36864 ![] bcast_S_S36864 (shapeCast S_ nv shapeCasts_S1_S_))) (entries te)
    (broadcastInDim S36864 ![] bcast_S_S36864 (id (constantI S_ 32 8#32)))

/-- The experts one-hot. -/
def gates (te : IVec S72 32) (nv : IVec S1 32) : FVec Ideal S36864x8 .f32 :=
  uitofp .f32 (cmpi .eq (broadcastInDim S36864x8 ![0, 1] bcast_S36864x1_S36864x8_0_1 (broadcastInDim S36864x1 ![0] bcast_S36864_S36864x1_0 (experts te nv)))
    (broadcastInDim S36864x8 ![0, 1] bcast_S1x8_S36864x8_0_1 (iotaInDim S1x8 32 1)))

/-- The packed rows opened. -/
def rows (xs : IVec S36864x512 32) : FVec Ideal S36864x1024 .f32 :=
  concatenate S36864x1024 1 [⟨S36864x512, (bitcastToFloat (F := Ideal) .f32 (Host.shli xs (broadcastInDim S36864x512 ![] bcast_S_S36864x512 (constantI S_ 32 16#32))))⟩,
    ⟨S36864x512, (bitcastToFloat (F := Ideal) .f32 (andi xs (broadcastInDim S36864x512 ![] bcast_S_S36864x512 (constantI S_ 32 4294901760#32))))⟩] concatenates_S36864x512_S36864x512_S36864x1024_d1

/-- The rows through every expert's gate or up projection. -/
def projected (w : FVec Ideal S8x1024x3584 .f32) (x : FVec Ideal S36864x1024 .f32) : FVec Ideal S8x36864x3584 .f32 :=
  transpose S8x36864x3584 [0, 2, 1] (Host.dotGeneral dot_S8x1024x3584_S36864x1024_S8x3584x36864_1_1_02_0_n_n none w x) transposes_S8x3584x36864_S8x36864x3584_0_2_1

/-- The hidden columns. -/
def activated (a b : FVec Ideal S8x36864x3584 .f32) : FVec Ideal S8x36864x3584 .f32 :=
  mulf (mulf a (Host.divf (broadcastInDim S8x36864x3584 ![] bcast_S_S8x36864x3584 (constant S_ .f32 0x3F800000#32))
    (addf (broadcastInDim S8x36864x3584 ![] bcast_S_S8x36864x3584 (constant S_ .f32 0x3F800000#32)) (Host.exp (Host.negf a))))) b

/-- The rows through every expert. -/
def through (xs : IVec S36864x512 32) (w1 w3 : FVec Ideal S8x1024x3584 .f32) (w2 : FVec Ideal S8x3584x1024 .f32) : FVec Ideal S8x36864x1024 .f32 :=
  Host.dotGeneral dot_S8x36864x3584_S8x3584x1024_S8x36864x1024_2_1_1_2_0_0 none (activated (projected w1 (rows xs)) (projected w3 (rows xs))) w2

/-- The sum over the experts. -/
def summed (g : FVec Ideal S36864x8 .f32) (y : FVec Ideal S8x36864x1024 .f32) : FVec Ideal S36864x1024 .bf16 :=
  truncf .bf16 (Host.reduceAdd (mulf (broadcastInDim S8x36864x1024 ![0, 1, 2] bcast_S8x36864x1_S8x36864x1024_0_1_2
    (broadcastInDim S8x36864x1 ![0, 1] bcast_S8x36864_S8x36864x1_0_1 (transpose S8x36864 [1, 0] g transposes_S36864x8_S8x36864_1_0))) y)
    (constant S_ .f32 0x00000000#32) reducesTo_S8x36864x1024_S36864x1024_d0 h_S_) bitsLt_bf16_f32

theorem res_eq (m : (ℓ : Loc nD τ sig) → Buf (Elt Ideal) ℓ) (c : Dev nD) :
    Value.res_main_v33 m c = summed (gates (m ((c.tc : Thread nD τ).loc main_arg0)) (m ((c.tc : Thread nD τ).loc main_arg1)))
      (through (m ((c.tc : Thread nD τ).loc main_arg2)) (m ((c.tc : Thread nD τ).loc main_arg3)) (m ((c.tc : Thread nD τ).loc main_arg4)) (m ((c.tc : Thread nD τ).loc main_arg5))) := rfl

/-! ## The parts at an index -/

theorem tiles_apply (r : Fin 36864) : tiles (ix1 r) = BitVec.ofNat 32 (r.val / 512) := by
  exact Routing.pyDiv_ap (s := S36864) bcast_S_S36864 (iotaInDim S36864 32 0) (constantI S_ 32 512#32) (ix1 r) rfl rfl
    (by have := r.isLt; omega) (by decide) (by decide)

theorem rows_open (xs : IVec S36864x512 32) (r : Fin 36864) (d : Fin 1024) : rows xs (ix2 r d) = opened (fun q => xs (ix2 r q)) d := by
  have hs : ∀ v : BitVec 32, IntOp.shli ArithUnit.host v 16#32 = IntOp.shli ArithUnit.vector v 16#32 := fun v => rfl
  pointwise [rows, opened]
  simp only [hs]

theorem through_apply (xs : IVec S36864x512 32) (w1 w3 : FVec Ideal S8x1024x3584 .f32) (w2 : FVec Ideal S8x3584x1024 .f32)
    (g : Fin 8) (r : Fin 36864) (e : Fin 1024) : through xs w1 w3 w2 (ix3 g r e) = ∑ k : Fin 3584, share xs w1 w3 w2 g r e k := by
  have hx := rows_open xs r
  unfold through
  generalize rows xs = X at hx ⊢
  pointwise [activated, projected]
  simp only [hx, share, hidden, Ideal.logistic, mul_comm (w1 _), mul_comm (w3 _)]

theorem summed_apply (g : FVec Ideal S36864x8 .f32) (y : FVec Ideal S8x36864x1024 .f32) (r : Fin 36864) (e : Fin 1024) :
    summed g y (ix2 r e) = ∑ k : Fin 8, g (ix2 r k) * (y (ix3 k r e) : EReal) := by
  pointwise [summed]

theorem gates_apply (te : IVec S72 32) (nv : IVec S1 32) (r : Fin 36864) (k : Fin 8) :
    gates te nv (ix2 r k) = if experts te nv (ix1 r) = BitVec.ofNat 32 k.val then 1 else 0 := by
  pointwise [gates]
  by_cases h : experts te nv (ix1 r) = BitVec.ofNat 32 k.val
  · rw [if_pos h, h]
    have e : IntOp.cmpi CmpIPredicate.eq (BitVec.ofNat 32 k.val) (BitVec.ofNat 32 k.val) = 1#1 := by simp [IntOp.cmpi]
    rw [e]
    show (((1#1 : BitVec 1).toNat : ℝ) : EReal) = 1
    simp
  · have e : IntOp.cmpi CmpIPredicate.eq (experts te nv (ix1 r)) (BitVec.ofNat 32 k.val) = 0#1 := by
      show BitVec.ofBool (experts te nv (ix1 r) == BitVec.ofNat 32 k.val) = 0#1
      rw [beq_eq_false_iff_ne.mpr h]
      rfl
    rw [if_neg h, e]
    show (((0#1 : BitVec 1).toNat : ℝ) : EReal) = 0
    simp

theorem places_apply (r : Fin 36864) : places (ix1 r) = BitVec.ofNat 32 (r.val / 512) := by
  have h : IntOp.cmpi CmpIPredicate.slt (BitVec.ofNat 32 (r.val / 512)) 0#32 = 0#1 := by
    have hr := r.isLt
    have e : (BitVec.ofNat 32 (r.val / 512)).slt 0#32 = false := by
      rw [BitVec.slt_eq_decide, decide_eq_false_iff_not, BitVec.toInt_eq_toNat_cond, BitVec.toNat_ofNat]
      simp only [BitVec.toInt_zero, Nat.reducePow]
      omega
    simp [IntOp.cmpi, e]
  pointwise [places]
  rw [tiles_apply, h]
  rfl

theorem entries_apply (te : IVec S72 32) (r : Fin 36864) : entries te (ix1 r) = te (ix1 (tileOf r)) := by
  have hr := r.isLt
  refine Routing.take_ap gather_S72_S36864x1_S36864_n_0_n_n_0_1_1 rfl rfl rfl rfl te _ r (k := r.val / 512) (by omega) (by omega) ?_
  refine Eq.trans ?_ (places_apply r)
  pointwise

theorem experts_apply (te : IVec S72 32) (nv : IVec S1 32) (r : Fin 36864) :
    experts te nv (ix1 r) = if Used nv (tileOf r) then te (ix1 (tileOf r)) else 8#32 := by
  pointwise [experts]
  rw [tiles_apply, entries_apply]
  rfl

/-- The reference's element is the kernel's. -/
theorem reference_apply (te : IVec S72 32) (nv : IVec S1 32) (xs : IVec S36864x512 32) (w1 w3 : FVec Ideal S8x1024x3584 .f32)
    (w2 : FVec Ideal S8x3584x1024 .f32) (hn : ∀ j, (te j).toNat < 8) (r : Fin 36864) (e : Fin 1024) :
    summed (gates te nv) (through xs w1 w3 w2) (ix2 r e) = moeAt te nv xs w1 w3 w2 r e := by
  rw [summed_apply]
  simp only [gates_apply, through_apply, experts_apply, moeAt, ite_mul, one_mul, zero_mul]
  by_cases hu : Used nv (tileOf r)
  · rw [if_pos hu]
    simp only [if_pos hu]
    have hE : ∀ k : Fin 8, te (ix1 (tileOf r)) = BitVec.ofNat 32 k.val ↔ expertOf te (tileOf r) = k := fun k => by
      have h8 := hn (ix1 (tileOf r))
      have hk := k.isLt
      have ev := expert_val te (tileOf r) h8
      constructor
      · intro h
        apply Fin.ext
        rw [← ev, h, BitVec.toNat_ofNat]
        omega
      · intro h
        rw [← h, ← ev, BitVec.ofNat_toNat, BitVec.setWidth_eq]
    simp only [hE]
    exact Finset.sum_ite_eq ..  |>.trans (if_pos (Finset.mem_univ _))
  · rw [if_neg hu]
    simp only [if_neg hu]
    refine Finset.sum_eq_zero fun k _ => if_neg fun h => ?_
    have hk := k.isLt
    have := congrArg BitVec.toNat h
    simp only [BitVec.toNat_ofNat] at this
    omega

end Cert.Proof.Moe

end
-- ==== Proof.MoeValue.lean ====
/-
  The experts' call leaves what the reference computes, and the claims about the call.
-/
module

public import proofs.«01_k».proof.Proof.MoeOk
public import proofs.«01_k».proof.Proof.MoeReference
public import proofs.«01_k».proof.Proof.Gen.Kernel2Ideal.Launch
public import Idealize.ShloMosaic.Lib.Pipeline.Value
public import Idealize.ShloMosaic.Adequacy
public import Idealize.ShloMosaic.Init

@[expose] public section

set_option maxRecDepth 16384

noncomputable section

namespace Cert.Proof.Moe

open Idealize.ShloMosaic Idealize.ShloMosaic.TcCoe Idealize.SL.Sem
open Cert.Kernel2Ideal Cert.Kernel2Ideal.Gen

theorem frame_reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The call's output from its arguments. -/
def expected (m : (ℓ : Loc nD τ sig) → Buf (Elt Ideal) ℓ) (c : Dev nD) : FVec Ideal S36864x1024 .bf16 := fun j =>
  moeAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (j 0) (j 1)

theorem outArray_eq (m : (ℓ : Loc nD τ sig) → Buf (Elt Ideal) ℓ) (c : Dev nD) : outArray m c = expected m c := by
  have e0 : tbl m 0 = m ((c : Thread nD τ).loc main_arg0) := (V_pre m c 0).symm.trans (V_main_arg0 m c)
  have e1 : tbl m 1 = m ((c : Thread nD τ).loc main_arg1) := (V_pre m c 1).symm.trans (V_main_arg1 m c)
  unfold outArray expected
  rw [e0, e1]

theorem run_value (m : (ℓ : Loc nD τ sig) → Buf (Elt Ideal) ℓ) (ρ : Dev nD → PrngReg)
    (hn : ∀ j, (m ((0 : Dev nD), main_arg0) j : BitVec 32).toNat < 8) :
    θ_run defs (onTc (τ := τ) (main (F := Ideal))) ⟨m, fun _ => 0, ρ⟩ (fun r => ∀ c : Dev nD,
      r.2.mem ((c.tc : Thread nD τ).loc main_v3) = expected m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have hO : Ok m := ok_of_table m hn
  have hn' : ∀ j, (tbl m 0 j : BitVec 32).toNat < 8 := by
    have e0 : tbl m 0 = m ((0 : Dev nD), main_arg0) := (V_pre m 0 0).symm.trans (V_main_arg0 m 0)
    rw [e0]; exact hn
  refine (θ_run defs _ _).mono (fun r h c => ?_) (run_main m ρ hO)
  exact ⟨((h c).1 4).trans ((array_eq m hO hn' c).trans (outArray_eq m c)),
    ((h c).2 main_arg0 (by decide : main_arg0 ∈ Pipeline.restRefs sig spec0)).trans (V_main_arg0 m c),
    ((h c).2 main_arg1 (by decide : main_arg1 ∈ Pipeline.restRefs sig spec0)).trans (V_main_arg1 m c),
    ((h c).1 0).trans (((dats m hO 0 c).arrAt_in 0 rfl _).trans ((A_eq m hO c 0).trans (V_main_arg2 m c))),
    ((h c).2 main_arg3 (by decide : main_arg3 ∈ Pipeline.restRefs sig spec0)).trans (V_main_arg3 m c),
    ((h c).2 main_arg4 (by decide : main_arg4 ∈ Pipeline.restRefs sig spec0)).trans (V_main_arg4 m c),
    ((h c).2 main_arg5 (by decide : main_arg5 ∈ Pipeline.restRefs sig spec0)).trans (V_main_arg5 m c)⟩

theorem algebraic : Cert.algebraic_Kernel2Ideal_Reference2Ideal := by
  intro m g m' g' hp hag
  have hn : ∀ c : Dev nD, ∀ j, (m ((c : Thread nD τ).loc main_arg0) j : BitVec 32).toNat < 8 :=
    fun c => named_of_pre _ _ _ _ _ _ (hp c)
  refine ⟨fun c => expected m c, run_value m g (hn 0), ?_⟩
  refine (θ_run Cert.Reference2Ideal.defs _ _).mono (fun r h c => ⟨(h c).1.trans ?_, (h c).2⟩)
    (Cert.Reference2Ideal.Value.run (F := Ideal) m' g')
  obtain ⟨a0, a1, a2, a3, a4, a5⟩ := hag c
  rw [res_eq, a0, a1, a2, a3, a4, a5]
  funext j
  obtain ⟨r, e, rfl⟩ : ∃ (r : Fin 36864) (e : Fin 1024), j = ix2 r e := ⟨j 0, j 1, funext fun a => match a with | ⟨0, _⟩ => rfl | ⟨1, _⟩ => rfl⟩
  exact reference_apply _ _ _ _ _ _ (hn c) r e

end Cert.Proof.Moe

end
-- ==== Proof.CombineBody.lean ====
/-
  What one block of the combine call computes, element by element.
-/
module

public import proofs.«01_k».proof.Proof.Gen.Kernel3Ideal
public import proofs.«01_k».proof.Proof.Gen.Kernel3Ideal.Skeleton
public import Idealize.ShloMosaic.Lib.Pointwise

@[expose] public section

set_option maxRecDepth 16384

noncomputable section

namespace Cert.Proof.Combine

open Idealize.ShloMosaic
open Cert.Kernel3Ideal Cert.Kernel3Ideal.Gen

/-- The row a position names, the last row for a position past the end, the first for a negative one. -/
def named (w : BitVec 32) : Fin 36864 := ⟨min w.toInt.toNat 36863, by omega⟩

/-! ## The rows by position -/

theorem gather_rows (ys : FVec Ideal S36864x1024 .bf16) (idx : IVec S16384x1 32) (r : Fin 16384) (e : Fin 1024) :
    Host.gather gather_S36864x1024_S16384x1_S16384x1024_1_0_n_n_0_1_11024 ys idx (ix2 r e) = ys (ix2 (named (idx (ix2 r 0))) e) := by
  unfold Host.gather
  refine congrArg ys (funext fun a => Fin.ext ?_)
  match a with
  | ⟨0, _⟩ =>
    show GatherDims.start gather_S36864x1024_S16384x1_S16384x1024_1_0_n_n_0_1_11024 (ix2 r e) idx (0 : Fin 2)
      + GatherDims.batchCoord gather_S36864x1024_S16384x1_S16384x1024_1_0_n_n_0_1_11024 (ix2 r e) (0 : Fin 2)
      + GatherDims.offCoord gather_S36864x1024_S16384x1_S16384x1024_1_0_n_n_0_1_11024 (ix2 r e) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S36864x1024_S16384x1_S16384x1024_1_0_n_n_0_1_11024.startIndexMap from List.mem_singleton.mpr rfl)]
    have hs : GatherDims.siIdx gather_S36864x1024_S16384x1_S16384x1024_1_0_n_n_0_1_11024 (ix2 r e)
        ⟨List.idxOf (0 : Fin 2) gather_S36864x1024_S16384x1_S16384x1024_1_0_n_n_0_1_11024.startIndexMap,
          List.idxOf_lt_length_iff.2 (List.mem_singleton.mpr rfl)⟩ = ix2 r 0 := by
      funext b
      apply Fin.ext
      match b with
      | ⟨0, _⟩ => rfl
      | ⟨1, _⟩ => rfl
    rw [hs]
    rfl
  | ⟨1, _⟩ =>
    show GatherDims.start gather_S36864x1024_S16384x1_S16384x1024_1_0_n_n_0_1_11024 (ix2 r e) idx (1 : Fin 2)
      + GatherDims.batchCoord gather_S36864x1024_S16384x1_S16384x1024_1_0_n_n_0_1_11024 (ix2 r e) (1 : Fin 2)
      + GatherDims.offCoord gather_S36864x1024_S16384x1_S16384x1024_1_0_n_n_0_1_11024 (ix2 r e) (1 : Fin 2) = e.val
    rw [GatherDims.batchCoord_eq_zero _ _ _ List.not_mem_nil, Nat.add_zero]
    unfold GatherDims.start GatherDims.offCoord
    rw [dif_neg (show (1 : Fin 2) ∉ gather_S36864x1024_S16384x1_S16384x1024_1_0_n_n_0_1_11024.startIndexMap from
        fun h => absurd (List.mem_singleton.mp h) (by decide)),
      dif_pos ((GatherDims.mem_sKept _ _).mpr ⟨fun h => absurd (List.mem_singleton.mp h) (by decide), List.not_mem_nil⟩), Nat.zero_add]
    rfl

/-! ## The combined row -/

/-- An element of the output: the residual stream's and, by the gate, the two experts' outputs by their weights. -/
def combineAt (x : FVec Ideal S16384x1024 .f32) (md : FVec Ideal S8x6144 .f32) (ew : FVec Ideal S16384x128 .f32)
    (ys : FVec Ideal S36864x1024 .bf16) (pos : IVec S32768 32) (r : Fin 16384) (e : Fin 1024) : EReal :=
  x (ix2 r e) + md (ix2 0 ⟨5120 + e.val, by omega⟩)
    * (ew (ix2 r 0) * ys (ix2 (named (pos (ix1 ⟨r.val, by omega⟩))) e) + ew (ix2 r 1) * ys (ix2 (named (pos (ix1 ⟨16384 + r.val, by omega⟩))) e))

theorem body_apply (w : FVec Ideal S512x128 .f32) (ya yb : FVec Ideal S512x1024 .bf16) (x : FVec Ideal S512x1024 .f32)
    (q : FVec Ideal S1x1024 .f32) (r : Fin 512) (e : Fin 1024) :
    (k0_pay1 (F := Ideal) w ya yb x q : FVec Ideal S512x1024 .f32) (ix2 r e)
      = x (ix2 r e) + q (ix2 0 e) * (w (ix2 r 0) * ya (ix2 r e) + w (ix2 r 1) * yb (ix2 r e)) := by
  pointwise [k0_pay1]

end Cert.Proof.Combine

end
-- ==== Proof.CombineTile.lean ====
/-
  The blocks a grid point of the combine call reads, and the array the call leaves.
-/
module

public import proofs.«01_k».proof.Proof.CombineBody
public import proofs.«01_k».proof.Proof.Gen.Kernel3Ideal.Frame
public import proofs.«01_k».proof.Proof.Gen.Kernel3Ideal.Points
public import Idealize.ShloMosaic.Lib.StableHlo.RunRead
public import Idealize.ShloMosaic.Lib.Tactic.CleanTypes
public import Idealize.ShloMosaic.Lib.Pipeline.Value
public import Idealize.ShloMosaic.Lib.Pipeline.ValueKit.Geometry
public import Idealize.ShloMosaic.Lib.Pipeline.ValueKit.Tiles

@[expose] public section

set_option maxRecDepth 16384

noncomputable section

namespace Cert.Proof.Combine

open Idealize.ShloMosaic Idealize.ShloMosaic.TcCoe Idealize.SL.Sem
open Cert.Kernel3Ideal Cert.Kernel3Ideal.Gen

/-! ## The arrays as the call finds them -/

section Arrays

variable {F : FTy → Type} [FloatOps F] (m : (ℓ : Loc nD τ sig) → Buf (Elt F) ℓ) (c : Dev nD)

/-- The rows the first half of the positions names, and the second half. -/
def firstRows (ys : FVec F S36864x1024 .bf16) (pos : IVec S32768 32) : FVec F S16384x1024 .bf16 :=
  Host.gather gather_S36864x1024_S16384x1_S16384x1024_1_0_n_n_0_1_11024 ys
    (broadcastInDim S16384x1 ![0] bcast_S16384_S16384x1_0 (extractStridedSlice S16384 ![0] pos slices_S32768_S16384_0))

def secondRows (ys : FVec F S36864x1024 .bf16) (pos : IVec S32768 32) : FVec F S16384x1024 .bf16 :=
  Host.gather gather_S36864x1024_S16384x1_S16384x1024_1_0_n_n_0_1_11024 ys
    (broadcastInDim S16384x1 ![0] bcast_S16384_S16384x1_0 (extractStridedSlice S16384 ![16384] pos slices_S32768_S16384_16384))

theorem V_first : V m c main_v1 = firstRows (m ((c : Thread nD τ).loc main_arg3)) (m ((c : Thread nD τ).loc main_arg4)) := by
  show StableHlo.after (List.flatten [hostOps0, hostOps0_1, hostOps0_2, hostOps0_3]) _ (Proc.devRef .tc main_v1) = _
  simp only [hostOps0, hostOps0_1, hostOps0_2, hostOps0_3, List.flatten_cons, List.flatten_nil, List.append_nil, List.cons_append,
    List.nil_append, StableHlo.TRef.binary, StableHlo.TRef.unary, StableHlo.TRef.toBuf, StableHlo.TRef.ofBuf, cast_eq]
  after_reads_simp
  rfl

theorem V_second : V m c main_v3 = secondRows (m ((c : Thread nD τ).loc main_arg3)) (m ((c : Thread nD τ).loc main_arg4)) := by
  show StableHlo.after (List.flatten [hostOps0, hostOps0_1, hostOps0_2, hostOps0_3]) _ (Proc.devRef .tc main_v3) = _
  simp only [hostOps0, hostOps0_1, hostOps0_2, hostOps0_3, List.flatten_cons, List.flatten_nil, List.append_nil, List.cons_append,
    List.nil_append, StableHlo.TRef.binary, StableHlo.TRef.unary, StableHlo.TRef.toBuf, StableHlo.TRef.ofBuf, cast_eq]
  after_reads_simp
  rfl

/-- The output with a leading axis. -/
def shaped (y : FVec F S16384x1024 .f32) : FVec F S1x16384x1024 .f32 :=
  broadcastInDim S1x16384x1024 ![1, 2] bcast_S16384x1024_S1x16384x1024_1_2 y

/-- The line after the call shapes the call's output. -/
theorem W_out : Pipeline.afterTail₀ cfgs (dats m) 0 (V0 m) [hostOps1] c main_v5 = shaped ((dats m 0 c).arrAt 5 cfg0.N) := by
  unfold Pipeline.afterTail₀
  show StableHlo.after hostOps1 _ (Proc.devRef .tc main_v5) = _
  after_reads_simp
  exact congrArg shaped (Pipeline.withArrays_arr spec0 (by decide) c (V0 m c) (fun w => (dats m 0 c).arrAt w cfg0.N) 5)

end Arrays

theorem first_position (pos : IVec S32768 32) (r : Fin 16384) :
    (broadcastInDim S16384x1 ![0] bcast_S16384_S16384x1_0 (extractStridedSlice S16384 ![0] pos slices_S32768_S16384_0) : IVec S16384x1 32) (ix2 r 0)
      = pos (ix1 ⟨r.val, by omega⟩) := by
  pointwise

theorem second_position (pos : IVec S32768 32) (r : Fin 16384) :
    (broadcastInDim S16384x1 ![0] bcast_S16384_S16384x1_0 (extractStridedSlice S16384 ![16384] pos slices_S32768_S16384_16384) : IVec S16384x1 32) (ix2 r 0)
      = pos (ix1 ⟨16384 + r.val, by omega⟩) := by
  pointwise

theorem first_apply (ys : FVec Ideal S36864x1024 .bf16) (pos : IVec S32768 32) (r : Fin 16384) (e : Fin 1024) :
    firstRows ys pos (ix2 r e) = ys (ix2 (named (pos (ix1 ⟨r.val, by omega⟩))) e) := by
  unfold firstRows
  rw [gather_rows, first_position]

theorem second_apply (ys : FVec Ideal S36864x1024 .bf16) (pos : IVec S32768 32) (r : Fin 16384) (e : Fin 1024) :
    secondRows ys pos (ix2 r e) = ys (ix2 (named (pos (ix1 ⟨16384 + r.val, by omega⟩))) e) := by
  unfold secondRows
  rw [gather_rows, second_position]

/-! ## The blocks -/

variable (m : (ℓ : Loc nD τ sig) → Buf (Elt Ideal) ℓ) (c : Dev nD)

theorem coord_tile (t : Fin grid0.N) : (grid0.coords t 0).val = t.val := by
  have e : (grid0.coords t 0).val = t.val / 1 % 32 := Pipeline.Grid.coords_val t 0 (by decide) rfl
  have h : t.val < 32 := lt_of_lt_of_eq t.isLt N_0
  omega

theorem map_rows (i : grid0.Coords) : cc0_transform_0 i = ![(i 0).val, 0] := funext fun a =>
  match a with
  | ⟨0, _⟩ => by
    have h : (i 0).val < 32 := (i 0).isLt
    show (BitVec.ofNat 32 (i 0).val).toNat = (i 0).val
    rw [BitVec.toNat_ofNat]; omega
  | ⟨1, _⟩ => rfl

theorem map_whole (i : grid0.Coords) : cc0_transform_1 i = ![0, 0] := funext fun a =>
  match a with
  | ⟨0, _⟩ => rfl
  | ⟨1, _⟩ => rfl

/-- The row of the residual stream a block's row at a point is. -/
def rowOf (t : Fin grid0.N) (r : Fin 512) : Fin 16384 :=
  ⟨512 * t.val + r.val, by have h : t.val < 32 := lt_of_lt_of_eq t.isLt N_0; omega⟩

theorem stream_apply (t : Fin cfg0.N) (r : Fin 512) (d : Fin 1024) :
    (iblk m c 0 t : Vec Ideal S512x1024 .f32) (ix2 r d) = m ((c : Thread nD τ).loc main_arg0) (ix2 (rowOf t r) d) := by
  unfold iblk
  refine (View.read_apply ..).trans ?_
  show V m c main_arg0 _ = _
  rw [V_main_arg0]
  congr 1
  funext a
  apply Fin.ext
  match a with
  | ⟨0, _⟩ =>
    refine (ValueKit.view_emb_slice_whole_unit_val main_arg0 _ _ _ (ix2 r d) 0).trans ?_
    refine (congrArg (fun f : Fin 2 → Nat => f 0 * 512 + r.val) (map_rows (grid0.coords t))).trans ?_
    refine (congrArg (fun n : Nat => n * 512 + r.val) (coord_tile t)).trans ?_
    exact congrArg (· + r.val) (Nat.mul_comm t.val 512)
  | ⟨1, _⟩ =>
    refine (ValueKit.view_emb_slice_whole_unit_val main_arg0 _ _ _ (ix2 r d) 1).trans ?_
    refine (congrArg (fun f : Fin 2 → Nat => f 1 * 1024 + d.val) (map_rows (grid0.coords t))).trans ?_
    exact (congrArg (· + d.val) (Nat.zero_mul 1024)).trans (Nat.zero_add _)

theorem mod_apply (t : Fin cfg0.N) (r : Fin 8) (d : Fin 6144) :
    (iblk m c 1 t : Vec Ideal S8x6144 .f32) (ix2 r d) = m ((c : Thread nD τ).loc main_arg1) (ix2 r d) := by
  unfold iblk
  refine (View.read_apply ..).trans ?_
  show V m c main_arg1 _ = _
  rw [V_main_arg1]
  congr 1
  funext a
  apply Fin.ext
  match a with
  | ⟨0, _⟩ =>
    refine (ValueKit.view_emb_slice_whole_unit_val main_arg1 _ _ _ (ix2 r d) 0).trans ?_
    refine (congrArg (fun f : Fin 2 → Nat => f 0 * 8 + r.val) (map_whole (grid0.coords t))).trans ?_
    exact (congrArg (· + r.val) (Nat.zero_mul 8)).trans (Nat.zero_add _)
  | ⟨1, _⟩ =>
    refine (ValueKit.view_emb_slice_whole_unit_val main_arg1 _ _ _ (ix2 r d) 1).trans ?_
    refine (congrArg (fun f : Fin 2 → Nat => f 1 * 6144 + d.val) (map_whole (grid0.coords t))).trans ?_
    exact (congrArg (· + d.val) (Nat.zero_mul 6144)).trans (Nat.zero_add _)

theorem weight_apply (t : Fin cfg0.N) (r : Fin 512) (d : Fin 128) :
    (iblk m c 2 t : Vec Ideal S512x128 .f32) (ix2 r d) = m ((c : Thread nD τ).loc main_arg2) (ix2 (rowOf t r) d) := by
  unfold iblk
  refine (View.read_apply ..).trans ?_
  show V m c main_arg2 _ = _
  rw [V_main_arg2]
  congr 1
  funext a
  apply Fin.ext
  match a with
  | ⟨0, _⟩ =>
    refine (ValueKit.view_emb_slice_whole_unit_val main_arg2 _ _ _ (ix2 r d) 0).trans ?_
    refine (congrArg (fun f : Fin 2 → Nat => f 0 * 512 + r.val) (map_rows (grid0.coords t))).trans ?_
    refine (congrArg (fun n : Nat => n * 512 + r.val) (coord_tile t)).trans ?_
    exact congrArg (· + r.val) (Nat.mul_comm t.val 512)
  | ⟨1, _⟩ =>
    refine (ValueKit.view_emb_slice_whole_unit_val main_arg2 _ _ _ (ix2 r d) 1).trans ?_
    refine (congrArg (fun f : Fin 2 → Nat => f 1 * 128 + d.val) (map_rows (grid0.coords t))).trans ?_
    exact (congrArg (· + d.val) (Nat.zero_mul 128)).trans (Nat.zero_add _)

theorem first_block (t : Fin cfg0.N) (r : Fin 512) (d : Fin 1024) :
    (iblk m c 3 t : Vec Ideal S512x1024 .bf16) (ix2 r d)
      = firstRows (F := Ideal) (m ((c : Thread nD τ).loc main_arg3)) (m ((c : Thread nD τ).loc main_arg4)) (ix2 (rowOf t r) d) := by
  unfold iblk
  refine (View.read_apply ..).trans ?_
  show V m c main_v1 _ = _
  rw [V_first]
  congr 1
  funext a
  apply Fin.ext
  match a with
  | ⟨0, _⟩ =>
    refine (ValueKit.view_emb_slice_whole_unit_val main_v1 _ _ _ (ix2 r d) 0).trans ?_
    refine (congrArg (fun f : Fin 2 → Nat => f 0 * 512 + r.val) (map_rows (grid0.coords t))).trans ?_
    refine (congrArg (fun n : Nat => n * 512 + r.val) (coord_tile t)).trans ?_
    exact congrArg (· + r.val) (Nat.mul_comm t.val 512)
  | ⟨1, _⟩ =>
    refine (ValueKit.view_emb_slice_whole_unit_val main_v1 _ _ _ (ix2 r d) 1).trans ?_
    refine (congrArg (fun f : Fin 2 → Nat => f 1 * 1024 + d.val) (map_rows (grid0.coords t))).trans ?_
    exact (congrArg (· + d.val) (Nat.zero_mul 1024)).trans (Nat.zero_add _)

theorem second_block (t : Fin cfg0.N) (r : Fin 512) (d : Fin 1024) :
    (iblk m c 4 t : Vec Ideal S512x1024 .bf16) (ix2 r d)
      = secondRows (F := Ideal) (m ((c : Thread nD τ).loc main_arg3)) (m ((c : Thread nD τ).loc main_arg4)) (ix2 (rowOf t r) d) := by
  unfold iblk
  refine (View.read_apply ..).trans ?_
  show V m c main_v3 _ = _
  rw [V_second]
  congr 1
  funext a
  apply Fin.ext
  match a with
  | ⟨0, _⟩ =>
    refine (ValueKit.view_emb_slice_whole_unit_val main_v3 _ _ _ (ix2 r d) 0).trans ?_
    refine (congrArg (fun f : Fin 2 → Nat => f 0 * 512 + r.val) (map_rows (grid0.coords t))).trans ?_
    refine (congrArg (fun n : Nat => n * 512 + r.val) (coord_tile t)).trans ?_
    exact congrArg (· + r.val) (Nat.mul_comm t.val 512)
  | ⟨1, _⟩ =>
    refine (ValueKit.view_emb_slice_whole_unit_val main_v3 _ _ _ (ix2 r d) 1).trans ?_
    refine (congrArg (fun f : Fin 2 → Nat => f 1 * 1024 + d.val) (map_rows (grid0.coords t))).trans ?_
    exact (congrArg (· + d.val) (Nat.zero_mul 1024)).trans (Nat.zero_add _)

/-! ## The array -/

/-- What the call leaves in its output. -/
def outArray : FVec Ideal S16384x1024 .f32 := fun j =>
  combineAt (m ((c : Thread nD τ).loc main_arg0)) (m ((c : Thread nD τ).loc main_arg1)) (m ((c : Thread nD τ).loc main_arg2))
    (m ((c : Thread nD τ).loc main_arg3)) (m ((c : Thread nD τ).loc main_arg4)) (j 0) (j 1)

theorem zero2 : (![0, 0] : Fin 2 → Nat) = fun _ => 0 := funext fun a => by fin_cases a <;> rfl

theorem gate_apply (x1 : Vec Ideal S8x6144 .f32) (e : Fin 1024) :
    (View.ld x1 r0_2 : FVec Ideal S1x1024 .f32) (ix2 0 e) = x1 (ix2 0 ⟨5120 + e.val, by omega⟩) := by
  refine View.ld_unit_apply_of x1 _ _ inb_S8x6144_S1x1024_0_5120 (ix2 0 e) (ix2 0 ⟨5120 + e.val, by omega⟩) fun a => ?_
  match a with
  | ⟨0, _⟩ => rfl
  | ⟨1, _⟩ => rfl

/-- The block a point leaves. -/
theorem block_apply (t : Fin cfg0.N) (r : Fin 512) (e : Fin 1024) :
    (out0_5 (F := Ideal) (iblk m c 0 t) (iblk m c 1 t) (iblk m c 2 t) (iblk m c 3 t) (iblk m c 4 t) : FVec Ideal S512x1024 .f32) (ix2 r e)
      = outArray m c (ix2 (rowOf t r) e) := by
  unfold out0_5
  rw [View.canon_unit_zero (S := S512x1024) zero2]
  simp only [View.ld_unit_zero (S := S512x1024) zero2, View.ld_unit_zero (S := S512x128) zero2]
  refine (body_apply ..).trans ?_
  rw [gate_apply, stream_apply m c t r e, mod_apply m c t 0 _, weight_apply m c t r 0, weight_apply m c t r 1, first_block m c t r e,
    second_block m c t r e, first_apply, second_apply]
  rfl

theorem out_covers : (cfg0.win 5).Covers := by
  refine ⟨fun a => ?_, fun β => ?_⟩
  · match a with
    | ⟨0, _⟩ => exact (by decide : 0 < 512)
    | ⟨1, _⟩ => exact (by decide : 0 < 1024)
  · have b0 : (β (0 : Fin 2)).val < 32 := lt_of_lt_of_eq (β (0 : Fin 2)).isLt (show (16384 + 512 - 1) / 512 = 32 from rfl)
    have b1 : (β (1 : Fin 2)).val < 1 := lt_of_lt_of_eq (β (1 : Fin 2)).isLt (show (1024 + 1024 - 1) / 1024 = 1 from rfl)
    let t : Fin cfg0.N := ⟨(β (0 : Fin 2)).val, lt_of_lt_of_eq b0 N_0.symm⟩
    refine ⟨t, flush0_5 t, fun a => ⟨(congrFun (map_rows (grid0.coords t)) a).trans ?_, Or.inl rfl⟩⟩
    match a with
    | ⟨0, _⟩ => exact coord_tile t
    | ⟨1, _⟩ => exact (show 0 = (β (1 : Fin 2)).val by omega)

theorem array_eq : (dats m 0 c).arrAt 5 cfg0.N = outArray m c := by
  refine (dats m 0 c).arrAt_eq_of_covers 5 (outArray m c) out_covers fun t hf y => ?_
  refine (congrFun (after0_5 m c t) y).trans ?_
  obtain ⟨r, e, rfl⟩ : ∃ (r : Fin 512) (e : Fin 1024), y = ix2 r e := ⟨y (0 : Fin 2), y (1 : Fin 2), funext fun a => match a with | ⟨0, _⟩ => rfl | ⟨1, _⟩ => rfl⟩
  refine (block_apply m c t r e).trans ?_
  unfold outArray
  refine congrArg₂ (combineAt _ _ _ _ _) (Fin.ext ?_) (Fin.ext ?_)
  · refine Eq.symm ((ValueKit.view_emb_slice_whole_unit_val main_v4 _ _ _ (ix2 r e) 0).trans ?_)
    refine (congrArg (fun f : Fin 2 → Nat => f 0 * 512 + r.val) (map_rows (grid0.coords t))).trans ?_
    refine (congrArg (fun n : Nat => n * 512 + r.val) (coord_tile t)).trans ?_
    exact congrArg (· + r.val) (Nat.mul_comm t.val 512)
  · refine Eq.symm ((ValueKit.view_emb_slice_whole_unit_val main_v4 _ _ _ (ix2 r e) 1).trans ?_)
    refine (congrArg (fun f : Fin 2 → Nat => f 1 * 1024 + e.val) (map_rows (grid0.coords t))).trans ?_
    exact (congrArg (· + e.val) (Nat.zero_mul 1024)).trans (Nat.zero_add _)

theorem shaped_apply (y : FVec Ideal S16384x1024 .f32) (r : Fin 16384) (e : Fin 1024) : shaped y (ix3 0 r e) = y (ix2 r e) := by
  pointwise [shaped]

end Cert.Proof.Combine

end
-- ==== Proof.CombineReference.lean ====
/-
  The reference's combined rows, element by element.
-/
module

public import proofs.«01_k».proof.Proof.CombineBody
public import proofs.«01_k».proof.Proof.Gen.Reference3Ideal

@[expose] public section

set_option maxRecDepth 16384

noncomputable section

namespace Cert.Proof.Combine

open Idealize.ShloMosaic
open Cert.Reference3Ideal Cert.Reference3Ideal.Gen

theorem gather_pairs (ys : FVec Ideal S36864x1024 .bf16) (idx : IVec S2x16384x1 32) (p : Fin 2) (r : Fin 16384) (e : Fin 1024) :
    Host.gather gather_S36864x1024_S2x16384x1_S2x16384x1024_2_0_n_n_0_2_11024 ys idx (ix3 p r e) = ys (ix2 (named (idx (ix3 p r 0))) e) := by
  unfold Host.gather
  refine congrArg ys (funext fun a => Fin.ext ?_)
  match a with
  | ⟨0, _⟩ =>
    show GatherDims.start gather_S36864x1024_S2x16384x1_S2x16384x1024_2_0_n_n_0_2_11024 (ix3 p r e) idx (0 : Fin 2)
      + GatherDims.batchCoord gather_S36864x1024_S2x16384x1_S2x16384x1024_2_0_n_n_0_2_11024 (ix3 p r e) (0 : Fin 2)
      + GatherDims.offCoord gather_S36864x1024_S2x16384x1_S2x16384x1024_2_0_n_n_0_2_11024 (ix3 p r e) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S36864x1024_S2x16384x1_S2x16384x1024_2_0_n_n_0_2_11024.startIndexMap from List.mem_singleton.mpr rfl)]
    have hs : GatherDims.siIdx gather_S36864x1024_S2x16384x1_S2x16384x1024_2_0_n_n_0_2_11024 (ix3 p r e)
        ⟨List.idxOf (0 : Fin 2) gather_S36864x1024_S2x16384x1_S2x16384x1024_2_0_n_n_0_2_11024.startIndexMap,
          List.idxOf_lt_length_iff.2 (List.mem_singleton.mpr rfl)⟩ = ix3 p r 0 := by
      funext b
      apply Fin.ext
      match b with
      | ⟨0, _⟩ => rfl
      | ⟨1, _⟩ => rfl
      | ⟨2, _⟩ => rfl
    rw [hs]
    rfl
  | ⟨1, _⟩ =>
    show GatherDims.start gather_S36864x1024_S2x16384x1_S2x16384x1024_2_0_n_n_0_2_11024 (ix3 p r e) idx (1 : Fin 2)
      + GatherDims.batchCoord gather_S36864x1024_S2x16384x1_S2x16384x1024_2_0_n_n_0_2_11024 (ix3 p r e) (1 : Fin 2)
      + GatherDims.offCoord gather_S36864x1024_S2x16384x1_S2x16384x1024_2_0_n_n_0_2_11024 (ix3 p r e) (1 : Fin 2) = e.val
    rw [GatherDims.batchCoord_eq_zero _ _ _ List.not_mem_nil, Nat.add_zero]
    unfold GatherDims.start GatherDims.offCoord
    rw [dif_neg (show (1 : Fin 2) ∉ gather_S36864x1024_S2x16384x1_S2x16384x1024_2_0_n_n_0_2_11024.startIndexMap from
        fun h => absurd (List.mem_singleton.mp h) (by decide)),
      dif_pos ((GatherDims.mem_sKept _ _).mpr ⟨fun h => absurd (List.mem_singleton.mp h) (by decide), List.not_mem_nil⟩), Nat.zero_add]
    rfl

/-- The two experts' outputs, one array of rows after the other. -/
def pairs (ys : FVec Ideal S36864x1024 .bf16) (pos : IVec S32768 32) : FVec Ideal S2x16384x1024 .bf16 :=
  Host.gather gather_S36864x1024_S2x16384x1_S2x16384x1024_2_0_n_n_0_2_11024 ys
    (broadcastInDim S2x16384x1 ![0, 1] bcast_S2x16384_S2x16384x1_0_1 (shapeCast S2x16384 pos shapeCasts_S32768_S2x16384))

/-- The reference's output from them. -/
def summed (x : FVec Ideal S16384x1024 .f32) (md : FVec Ideal S8x6144 .f32) (ew : FVec Ideal S16384x128 .f32)
    (g : FVec Ideal S2x16384x1024 .bf16) : FVec Ideal S1x16384x1024 .f32 :=
  broadcastInDim S1x16384x1024 ![1, 2] bcast_S16384x1024_S1x16384x1024_1_2 (addf x (mulf (broadcastInDim S16384x1024 ![0, 1] bcast_S1x1024_S16384x1024_0_1 (extractStridedSlice S1x1024 ![0, 5120] md slices_S8x6144_S1x1024_0_5120)) (Host.reduceAdd (mulf (broadcastInDim S2x16384x1024 ![0, 1, 2] bcast_S2x16384x1_S2x16384x1024_0_1_2 (broadcastInDim S2x16384x1 ![0, 1] bcast_S2x16384_S2x16384x1_0_1 (transpose S2x16384 [1, 0] (extractStridedSlice S16384x2 ![0, 0] ew slices_S16384x128_S16384x2_0_0) transposes_S16384x2_S2x16384_1_0))) (extf .f32 g bitsLt_bf16_f32)) (constant S_ .f32 0x00000000#32) reducesTo_S2x16384x1024_S16384x1024_d0 h_S_)))

theorem position_apply (pos : IVec S32768 32) (p : Fin 2) (r : Fin 16384) :
    (broadcastInDim S2x16384x1 ![0, 1] bcast_S2x16384_S2x16384x1_0_1 (shapeCast S2x16384 pos shapeCasts_S32768_S2x16384) : IVec S2x16384x1 32) (ix3 p r 0)
      = pos (ix1 ⟨p.val * 16384 + r.val, by omega⟩) := by
  pointwise

theorem summed_apply (x : FVec Ideal S16384x1024 .f32) (md : FVec Ideal S8x6144 .f32) (ew : FVec Ideal S16384x128 .f32)
    (g : FVec Ideal S2x16384x1024 .bf16) (r : Fin 16384) (e : Fin 1024) :
    summed x md ew g (ix3 0 r e) = x (ix2 r e) + md (ix2 0 ⟨5120 + e.val, by omega⟩)
      * (ew (ix2 r 0) * g (ix3 0 r e) + ew (ix2 r 1) * g (ix3 1 r e)) := by
  pointwise [summed]
  rw [Fin.sum_univ_two]
  rfl

theorem reference_apply (x : FVec Ideal S16384x1024 .f32) (md : FVec Ideal S8x6144 .f32) (ew : FVec Ideal S16384x128 .f32)
    (ys : FVec Ideal S36864x1024 .bf16) (pos : IVec S32768 32) (r : Fin 16384) (e : Fin 1024) :
    summed x md ew (pairs ys pos) (ix3 0 r e) = combineAt x md ew ys pos r e := by
  rw [summed_apply]
  unfold pairs combineAt
  rw [gather_pairs, gather_pairs, position_apply, position_apply]
  have e0 : (⟨(0 : Fin 2).val * 16384 + r.val, by omega⟩ : Fin 32768) = ⟨r.val, by omega⟩ := Fin.ext ((congrArg (· + r.val) (Nat.zero_mul 16384)).trans (Nat.zero_add _))
  have e1 : (⟨(1 : Fin 2).val * 16384 + r.val, by omega⟩ : Fin 32768) = ⟨16384 + r.val, by omega⟩ := Fin.ext (congrArg (· + r.val) (Nat.one_mul 16384))
  rw [e0, e1]

end Cert.Proof.Combine

end
-- ==== Proof.CombineValue.lean ====
/-
  The combine call leaves what the reference computes, and the claims about the call.
-/
module

public import proofs.«01_k».proof.Defs
public import proofs.«01_k».proof.Proof.CombineTile
public import proofs.«01_k».proof.Proof.CombineReference
public import proofs.«01_k».proof.Proof.Gen.Reference3Ideal.Run
public import proofs.«01_k».proof.Proof.Gen.Kernel3
public import proofs.«01_k».proof.Proof.Gen.Kernel3.Frame
public import Idealize.ShloMosaic.Adequacy
public import Idealize.ShloMosaic.Init

@[expose] public section

set_option maxRecDepth 16384

noncomputable section

namespace Cert.Proof.Combine

open Idealize.ShloMosaic Idealize.ShloMosaic.TcCoe Idealize.SL.Sem
open Cert.Kernel3Ideal Cert.Kernel3Ideal.Gen

theorem frame_kernel3 : Cert.quiescent_Kernel3 := fun m ρ _ => Cert.Kernel3.Gen.frame m ρ

theorem frame_kernel3Ideal : Cert.quiescent_Kernel3Ideal := fun m ρ _ => Cert.Kernel3Ideal.Gen.frame m ρ

theorem frame_reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The run: the output shaped, the arguments as they were. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v5) = shaped (F := Ideal) (outArray m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_main m ρ)
  exact ⟨((h c).2 main_v5 (Pipeline.mem_restRefs_of main_v5 (by decide) (by decide))).trans
      ((W_out m c).trans (congrArg shaped (array_eq m c))),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c)⟩

theorem algebraic : Cert.algebraic_Kernel3Ideal_Reference3Ideal := by
  intro m g m' g' _ hag
  refine ⟨fun c => shaped (F := Ideal) (outArray m c), run_value m g, ?_⟩
  refine (θ_run Cert.Reference3Ideal.defs _ _).mono (fun r h c => ⟨(h c).1.trans ?_, (h c).2⟩)
    (Cert.Reference3Ideal.Value.run (F := Ideal) m' g')
  obtain ⟨a0, a1, a2, a3, a4⟩ := hag c
  rw [a0, a1, a2, a3, a4]
  show summed (m ((c : Thread nD τ).loc main_arg0)) (m ((c : Thread nD τ).loc main_arg1)) (m ((c : Thread nD τ).loc main_arg2))
    (pairs (m ((c : Thread nD τ).loc main_arg3)) (m ((c : Thread nD τ).loc main_arg4))) = _
  funext j
  obtain ⟨z, r, e, rfl⟩ : ∃ (z : Fin 1) (r : Fin 16384) (e : Fin 1024), j = ix3 z r e :=
    ⟨j 0, j 1, j 2, funext fun a => match a with | ⟨0, _⟩ => rfl | ⟨1, _⟩ => rfl | ⟨2, _⟩ => rfl⟩
  obtain rfl : z = 0 := Subsingleton.elim _ _
  exact (reference_apply _ _ _ _ _ r e).trans (shaped_apply (outArray m c) r e).symm

end Cert.Proof.Combine

end
-- ==== Proof.FfnBody.lean ====
/-
  What one block of the dense feed-forward call computes, element by element.
-/
module

public import proofs.«01_k».proof.Proof.Gen.Kernel4Ideal.Skeleton
public import Idealize.ShloMosaic.Lib.Pointwise

@[expose] public section

set_option maxRecDepth 16384

noncomputable section

namespace Cert.Proof.Ffn

open Idealize.ShloMosaic
open Cert.Kernel4Ideal Cert.Kernel4Ideal.Gen

/-! ## One row of the layer -/

/-- A normalized row, scaled and shifted. -/
def normed (x g s h : Fin 1024 → EReal) (d : Fin 1024) : EReal :=
  x d * Ideal.rsqrt (Ideal.div (∑ j, x j * x j) (Ideal.ofBits .f32 1149239296#32) + Ideal.ofBits .f32 897988541#32)
    * (g d * (1 + s d)) + h d

/-- A hidden element of the feed-forward network: the gate through `v * logistic v`, times the up projection. -/
def gated (a : Fin 1024 → EReal) (w1 w3 : Fin 1024 → Fin 2816 → EReal) (k : Fin 2816) : EReal :=
  (∑ d, a d * w1 d k) * Ideal.logistic (∑ d, a d * w1 d k) * ∑ d, a d * w3 d k

/-- An element of the row after the layer: the row itself and its network's output by the gate `q`. -/
def layer (x g s h q : Fin 1024 → EReal) (w1 w3 : Fin 1024 → Fin 2816 → EReal) (w2 : Fin 2816 → Fin 1024 → EReal)
    (e : Fin 1024) : EReal :=
  x e + q e * ∑ k, gated (normed x g s h) w1 w3 k * w2 k e

/-! ## The block -/

/-- Whether a row of the block at a point lies in the second stream, as the body tests it. -/
abbrev Late (i : grid0.Coords) (r : Fin 640) : Prop :=
  IntOp.cmpi .sge (IntOp.addi (Scalar.muli (BitVec.ofNat 32 (i 0).val) 640#32) (BitVec.ofNat 32 r.val)) 16384#32 = 1#1

theorem late_iff (i : grid0.Coords) (r : Fin 640) : Late i r ↔ 16384 ≤ 640 * (i 0).val + r.val := by
  have h : (i 0).val < 26 := (i 0).isLt
  have e : IntOp.addi (Scalar.muli (BitVec.ofNat 32 (i 0).val) 640#32) (BitVec.ofNat 32 r.val)
      = BitVec.ofNat 32 (640 * (i 0).val + r.val) := by
    apply BitVec.eq_of_toNat_eq
    show ((BitVec.ofNat 32 (i 0).val) * 640#32 + BitVec.ofNat 32 r.val).toNat = _
    rw [BitVec.toNat_add, BitVec.toNat_mul, BitVec.toNat_ofNat, BitVec.toNat_ofNat, BitVec.toNat_ofNat, BitVec.toNat_ofNat]
    omega
  unfold Late
  rw [e]
  have a : (BitVec.ofNat 32 (640 * (i 0).val + r.val)).toInt = ((640 * (i 0).val + r.val : Nat) : Int) := by
    have hn : (BitVec.ofNat 32 (640 * (i 0).val + r.val)).toNat = 640 * (i 0).val + r.val := by
      rw [BitVec.toNat_ofNat]; exact Nat.mod_eq_of_lt (by omega)
    rw [BitVec.toInt_eq_toNat_of_lt (by rw [hn]; omega), hn]
  show BitVec.ofBool (BitVec.sle 16384#32 (BitVec.ofNat 32 (640 * (i 0).val + r.val))) = 1#1 ↔ _
  unfold BitVec.sle
  rw [a]
  have b : (16384#32 : BitVec 32).toInt = 16384 := by decide
  rw [b]
  by_cases hh : 16384 ≤ 640 * (i 0).val + r.val
  · have : (decide ((16384 : Int) ≤ ((640 * (i 0).val + r.val : Nat) : Int))) = true := decide_eq_true (by omega)
    rw [this]
    exact ⟨fun _ => hh, fun _ => rfl⟩
  · have : (decide ((16384 : Int) ≤ ((640 * (i 0).val + r.val : Nat) : Int))) = false := decide_eq_false (by omega)
    rw [this]
    exact ⟨fun q => absurd q (by decide), fun q => absurd q hh⟩

theorem body_apply (i : grid0.Coords) (x : FVec Ideal S640x1024 .f32) (g : FVec Ideal S1x1024 .f32)
    (sx sc hx hc gc gx : FVec Ideal S1x1024 .f32) (w1 w3 : FVec Ideal S1024x2816 .bf16) (w2 : FVec Ideal S2816x1024 .bf16)
    (r : Fin 640) (e : Fin 1024) :
    (k0_pay1 (F := Ideal) (BitVec.ofNat 32 (i 0).val) (k0_pay2 x) hx hc (k0_pay4 i x g sx sc) (k0_pay5 i) w1 w3 gc gx w2
        : FVec Ideal S640x1024 .f32) (ix2 r e)
      = layer (fun d => x (ix2 r d)) (fun d => g (ix2 0 d)) (fun d => if Late i r then sc (ix2 0 d) else sx (ix2 0 d))
          (fun d => if Late i r then hc (ix2 0 d) else hx (ix2 0 d)) (fun d => if Late i r then gc (ix2 0 d) else gx (ix2 0 d))
          (fun d k => w1 (ix2 d k)) (fun d k => w3 (ix2 d k)) (fun k d => w2 (ix2 k d)) e := by
  pointwise [k0_pay1, k0_pay2, k0_pay3, k0_pay4, k0_pay5]
  by_cases hl : Late i r
  · have hs : ∀ a b : EReal, Scalar.select (IntOp.cmpi .sge (IntOp.addi (Scalar.muli (BitVec.ofNat 32 (i 0).val) 640#32)
        (BitVec.ofNat 32 r.val)) 16384#32) a b = a := fun a b => if_pos hl
    simp only [hs, layer, gated, normed, if_pos hl]
  · have hs : ∀ a b : EReal, Scalar.select (IntOp.cmpi .sge (IntOp.addi (Scalar.muli (BitVec.ofNat 32 (i 0).val) 640#32)
        (BitVec.ofNat 32 r.val)) 16384#32) a b = b := fun a b => if_neg hl
    simp only [hs, layer, gated, normed, if_neg hl]

end Cert.Proof.Ffn

end
-- ==== Proof.FfnTile.lean ====
/-
  The blocks a grid point of the dense feed-forward call reads, and the array the call leaves.
-/
module

public import proofs.«01_k».proof.Proof.FfnBody
public import proofs.«01_k».proof.Proof.Gen.Kernel4Ideal
public import proofs.«01_k».proof.Proof.Gen.Kernel4Ideal.Frame
public import proofs.«01_k».proof.Proof.Gen.Kernel4Ideal.Points
public import Idealize.ShloMosaic.Lib.StableHlo.RunRead
public import Idealize.ShloMosaic.Lib.Tactic.CleanTypes
public import Idealize.ShloMosaic.Lib.Pipeline.Value
public import Idealize.ShloMosaic.Lib.Pipeline.ValueKit.Geometry
public import Idealize.ShloMosaic.Lib.Pipeline.ValueKit.Tiles

@[expose] public section

set_option maxRecDepth 16384

noncomputable section

namespace Cert.Proof.Ffn

open Idealize.ShloMosaic Idealize.ShloMosaic.TcCoe Idealize.SL.Sem
open Cert.Kernel4Ideal Cert.Kernel4Ideal.Gen

/-! ## The arrays as the call finds them -/

section Arrays

variable {F : FTy → Type} [FloatOps F] (m : (ℓ : Loc nD τ sig) → Buf (Elt F) ℓ) (c : Dev nD)

/-- The two streams' rows, one after the other. -/
def joined (x : FVec F S1x16384x1024 .f32) (y : FVec F S1x256x1024 .f32) : FVec F S16640x1024 .f32 :=
  concatenate S16640x1024 0 [⟨S16384x1024, shapeCast S16384x1024 x shapeCasts_S1x16384x1024_S16384x1024⟩,
    ⟨S256x1024, shapeCast S256x1024 y shapeCasts_S1x256x1024_S256x1024⟩] concatenates_S16384x1024_S256x1024_S16640x1024_d0

theorem V_rows : V m c main_v2 = joined (m ((c : Thread nD τ).loc main_arg0)) (m ((c : Thread nD τ).loc main_arg1)) := by
  show StableHlo.after hostOps0 _ (Proc.devRef .tc main_v2) = _
  after_reads_simp
  rfl

theorem V_norm : V m c main_v3 = (shapeCast S1x1024 (m ((c : Thread nD τ).loc main_arg3)) shapeCasts_S1024_S1x1024 : FVec F S1x1024 .f32) := by
  show StableHlo.after hostOps0 _ (Proc.devRef .tc main_v3) = _
  after_reads_simp
  rfl

theorem V_gate : V m c main_v4 = (truncf .bf16 (m ((c : Thread nD τ).loc main_arg4)) bitsLt_bf16_f32 : FVec F S1024x2816 .bf16) := by
  show StableHlo.after hostOps0 _ (Proc.devRef .tc main_v4) = _
  after_reads_simp

theorem V_up : V m c main_v5 = (truncf .bf16 (m ((c : Thread nD τ).loc main_arg5)) bitsLt_bf16_f32 : FVec F S1024x2816 .bf16) := by
  show StableHlo.after hostOps0 _ (Proc.devRef .tc main_v5) = _
  after_reads_simp

theorem V_down : V m c main_v6 = (truncf .bf16 (m ((c : Thread nD τ).loc main_arg6)) bitsLt_bf16_f32 : FVec F S2816x1024 .bf16) := by
  show StableHlo.after hostOps0 _ (Proc.devRef .tc main_v6) = _
  after_reads_simp

end Arrays

theorem norm_apply (g : FVec Ideal S1024 .f32) (d : Fin 1024) :
    (shapeCast S1x1024 g shapeCasts_S1024_S1x1024 : FVec Ideal S1x1024 .f32) (ix2 0 d) = g (ix1 d) := by
  pointwise

/-! ## The blocks -/

variable (m : (ℓ : Loc nD τ sig) → Buf (Elt Ideal) ℓ) (c : Dev nD)

theorem coord_tile (t : Fin grid0.N) : (grid0.coords t 0).val = t.val := by
  have e : (grid0.coords t 0).val = t.val / 1 % 26 := Pipeline.Grid.coords_val t 0 (by decide) rfl
  have h : t.val < 26 := lt_of_lt_of_eq t.isLt N_0
  omega

theorem map_rows (i : grid0.Coords) : cc0_transform_0 i = ![(i 0).val, 0] := funext fun a =>
  match a with
  | ⟨0, _⟩ => by
    have h : (i 0).val < 26 := (i 0).isLt
    show (BitVec.ofNat 32 (i 0).val).toNat = (i 0).val
    rw [BitVec.toNat_ofNat]; omega
  | ⟨1, _⟩ => rfl

theorem map_whole (i : grid0.Coords) : cc0_transform_1 i = ![0, 0] := funext fun a =>
  match a with
  | ⟨0, _⟩ => rfl
  | ⟨1, _⟩ => rfl

/-- The row of the joined streams a block's row at a point is. -/
def rowOf (t : Fin grid0.N) (r : Fin 640) : Fin 16640 :=
  ⟨640 * t.val + r.val, by have h : t.val < 26 := lt_of_lt_of_eq t.isLt N_0; omega⟩

theorem rows_apply (t : Fin cfg0.N) (r : Fin 640) (d : Fin 1024) :
    (iblk m c 0 t : Vec Ideal S640x1024 .f32) (ix2 r d)
      = joined (F := Ideal) (m ((c : Thread nD τ).loc main_arg0)) (m ((c : Thread nD τ).loc main_arg1)) (ix2 (rowOf t r) d) := by
  unfold iblk
  refine (View.read_apply ..).trans ?_
  show V m c main_v2 _ = _
  rw [V_rows]
  congr 1
  funext a
  apply Fin.ext
  match a with
  | ⟨0, _⟩ =>
    refine (ValueKit.view_emb_slice_whole_unit_val main_v2 _ _ _ (ix2 r d) 0).trans ?_
    refine (congrArg (fun f : Fin 2 → Nat => f 0 * 640 + r.val) (map_rows (grid0.coords t))).trans ?_
    refine (congrArg (fun n : Nat => n * 640 + r.val) (coord_tile t)).trans ?_
    exact congrArg (· + r.val) (Nat.mul_comm t.val 640)
  | ⟨1, _⟩ =>
    refine (ValueKit.view_emb_slice_whole_unit_val main_v2 _ _ _ (ix2 r d) 1).trans ?_
    refine (congrArg (fun f : Fin 2 → Nat => f 1 * 1024 + d.val) (map_rows (grid0.coords t))).trans ?_
    exact (congrArg (· + d.val) (Nat.zero_mul 1024)).trans (Nat.zero_add _)

theorem mod_apply (t : Fin cfg0.N) (r : Fin 8) (d : Fin 6144) :
    (iblk m c 1 t : Vec Ideal S8x6144 .f32) (ix2 r d) = m ((c : Thread nD τ).loc main_arg2) (ix2 r d) := by
  unfold iblk
  refine (View.read_apply ..).trans ?_
  show V m c main_arg2 _ = _
  rw [V_main_arg2]
  congr 1
  funext a
  apply Fin.ext
  match a with
  | ⟨0, _⟩ =>
    refine (ValueKit.view_emb_slice_whole_unit_val main_arg2 _ _ _ (ix2 r d) 0).trans ?_
    refine (congrArg (fun f : Fin 2 → Nat => f 0 * 8 + r.val) (map_whole (grid0.coords t))).trans ?_
    exact (congrArg (· + r.val) (Nat.zero_mul 8)).trans (Nat.zero_add _)
  | ⟨1, _⟩ =>
    refine (ValueKit.view_emb_slice_whole_unit_val main_arg2 _ _ _ (ix2 r d) 1).trans ?_
    refine (congrArg (fun f : Fin 2 → Nat => f 1 * 6144 + d.val) (map_whole (grid0.coords t))).trans ?_
    exact (congrArg (· + d.val) (Nat.zero_mul 6144)).trans (Nat.zero_add _)

theorem norm_block (t : Fin cfg0.N) (d : Fin 1024) :
    (iblk m c 2 t : Vec Ideal S1x1024 .f32) (ix2 0 d) = m ((c : Thread nD τ).loc main_arg3) (ix1 d) := by
  unfold iblk
  refine (View.read_apply ..).trans ?_
  show V m c main_v3 _ = _
  rw [V_norm]
  refine Eq.trans ?_ (norm_apply _ d)
  congr 1
  funext a
  apply Fin.ext
  match a with
  | ⟨0, _⟩ =>
    refine (ValueKit.view_emb_slice_whole_unit_val main_v3 _ _ _ (ix2 0 d) 0).trans ?_
    exact (congrArg (fun f : Fin 2 → Nat => f 0 * 1 + 0) (map_whole (grid0.coords t))).trans rfl
  | ⟨1, _⟩ =>
    refine (ValueKit.view_emb_slice_whole_unit_val main_v3 _ _ _ (ix2 0 d) 1).trans ?_
    refine (congrArg (fun f : Fin 2 → Nat => f 1 * 1024 + d.val) (map_whole (grid0.coords t))).trans ?_
    exact (congrArg (· + d.val) (Nat.zero_mul 1024)).trans (Nat.zero_add _)

theorem gate_apply (t : Fin cfg0.N) (d : Fin 1024) (k : Fin 2816) :
    (iblk m c 3 t : Vec Ideal S1024x2816 .bf16) (ix2 d k) = (m ((c : Thread nD τ).loc main_arg4) : FVec Ideal S1024x2816 .f32) (ix2 d k) := by
  unfold iblk
  refine (View.read_apply ..).trans ?_
  show V m c main_v4 _ = _
  rw [V_gate]
  show (m ((c : Thread nD τ).loc main_arg4) : FVec Ideal S1024x2816 .f32) _ = _
  congr 1
  funext a
  apply Fin.ext
  match a with
  | ⟨0, _⟩ =>
    refine (ValueKit.view_emb_slice_whole_unit_val main_v4 _ _ _ (ix2 d k) 0).trans ?_
    refine (congrArg (fun f : Fin 2 → Nat => f 0 * 1024 + d.val) (map_whole (grid0.coords t))).trans ?_
    exact (congrArg (· + d.val) (Nat.zero_mul 1024)).trans (Nat.zero_add _)
  | ⟨1, _⟩ =>
    refine (ValueKit.view_emb_slice_whole_unit_val main_v4 _ _ _ (ix2 d k) 1).trans ?_
    refine (congrArg (fun f : Fin 2 → Nat => f 1 * 2816 + k.val) (map_whole (grid0.coords t))).trans ?_
    exact (congrArg (· + k.val) (Nat.zero_mul 2816)).trans (Nat.zero_add _)

theorem up_apply (t : Fin cfg0.N) (d : Fin 1024) (k : Fin 2816) :
    (iblk m c 4 t : Vec Ideal S1024x2816 .bf16) (ix2 d k) = (m ((c : Thread nD τ).loc main_arg5) : FVec Ideal S1024x2816 .f32) (ix2 d k) := by
  unfold iblk
  refine (View.read_apply ..).trans ?_
  show V m c main_v5 _ = _
  rw [V_up]
  show (m ((c : Thread nD τ).loc main_arg5) : FVec Ideal S1024x2816 .f32) _ = _
  congr 1
  funext a
  apply Fin.ext
  match a with
  | ⟨0, _⟩ =>
    refine (ValueKit.view_emb_slice_whole_unit_val main_v5 _ _ _ (ix2 d k) 0).trans ?_
    refine (congrArg (fun f : Fin 2 → Nat => f 0 * 1024 + d.val) (map_whole (grid0.coords t))).trans ?_
    exact (congrArg (· + d.val) (Nat.zero_mul 1024)).trans (Nat.zero_add _)
  | ⟨1, _⟩ =>
    refine (ValueKit.view_emb_slice_whole_unit_val main_v5 _ _ _ (ix2 d k) 1).trans ?_
    refine (congrArg (fun f : Fin 2 → Nat => f 1 * 2816 + k.val) (map_whole (grid0.coords t))).trans ?_
    exact (congrArg (· + k.val) (Nat.zero_mul 2816)).trans (Nat.zero_add _)

theorem down_apply (t : Fin cfg0.N) (k : Fin 2816) (e : Fin 1024) :
    (iblk m c 5 t : Vec Ideal S2816x1024 .bf16) (ix2 k e) = (m ((c : Thread nD τ).loc main_arg6) : FVec Ideal S2816x1024 .f32) (ix2 k e) := by
  unfold iblk
  refine (View.read_apply ..).trans ?_
  show V m c main_v6 _ = _
  rw [V_down]
  show (m ((c : Thread nD τ).loc main_arg6) : FVec Ideal S2816x1024 .f32) _ = _
  congr 1
  funext a
  apply Fin.ext
  match a with
  | ⟨0, _⟩ =>
    refine (ValueKit.view_emb_slice_whole_unit_val main_v6 _ _ _ (ix2 k e) 0).trans ?_
    refine (congrArg (fun f : Fin 2 → Nat => f 0 * 2816 + k.val) (map_whole (grid0.coords t))).trans ?_
    exact (congrArg (· + k.val) (Nat.zero_mul 2816)).trans (Nat.zero_add _)
  | ⟨1, _⟩ =>
    refine (ValueKit.view_emb_slice_whole_unit_val main_v6 _ _ _ (ix2 k e) 1).trans ?_
    refine (congrArg (fun f : Fin 2 → Nat => f 1 * 1024 + e.val) (map_whole (grid0.coords t))).trans ?_
    exact (congrArg (· + e.val) (Nat.zero_mul 1024)).trans (Nat.zero_add _)

/-! ## The array -/

section Spec

variable (x : FVec Ideal S1x16384x1024 .f32) (y : FVec Ideal S1x256x1024 .f32) (md : FVec Ideal S8x6144 .f32)
  (g : FVec Ideal S1024 .f32) (w1 w3 : FVec Ideal S1024x2816 .f32) (w2 : FVec Ideal S2816x1024 .f32)

/-- The modulation's row of a stream's row: the first stream's is 0, the second's 1. -/
def streamOf (r : Fin 16640) : Fin 8 := if 16384 ≤ r.val then 1 else 0

/-- An element of a row `z` after the layer, modulated by row `s` of the modulation. -/
def rowAt (s : Fin 8) (z : Fin 1024 → EReal) (e : Fin 1024) : EReal :=
  layer z (fun d => g (ix1 d)) (fun d => md (ix2 s ⟨4096 + d.val, by omega⟩)) (fun d => md (ix2 s ⟨3072 + d.val, by omega⟩))
    (fun d => md (ix2 s ⟨5120 + d.val, by omega⟩)) (fun d k => w1 (ix2 d k)) (fun d k => w3 (ix2 d k)) (fun k d => w2 (ix2 k d)) e

/-- An element of the output. -/
def ffnAt (r : Fin 16640) (e : Fin 1024) : EReal :=
  rowAt md g w1 w3 w2 (streamOf r) (fun d => joined x y (ix2 r d)) e

end Spec

/-- What the call leaves in its output. -/
def outArray (m : (ℓ : Loc nD τ sig) → Buf (Elt Ideal) ℓ) (c : Dev nD) : FVec Ideal S16640x1024 .f32 := fun j =>
  ffnAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (j 0) (j 1)

theorem zero2 : (![0, 0] : Fin 2 → Nat) = fun _ => 0 := funext fun a => by fin_cases a <;> rfl

/-- A load of a modulation's part of a row. -/
theorem part_apply (x1 : Vec Ideal S8x6144 .f32) (off : Fin 2 → Nat) (inb) (s : Fin 8) (n : Nat) (h : off = ![s.val, n]) (d : Fin 1024)
    (q : Fin 6144) (hq : q.val = n + d.val) :
    (View.ld x1 (Rect.unit (s := S8x6144) off S1x1024.size inb) : FVec Ideal S1x1024 .f32) (ix2 0 d) = x1 (ix2 s q) := by
  subst h
  refine View.ld_unit_apply_of x1 _ _ inb (ix2 0 d) (ix2 s q) fun a => ?_
  match a with
  | ⟨0, _⟩ => exact (Nat.add_zero s.val).symm
  | ⟨1, _⟩ => exact hq

/-- The block a point leaves. -/
theorem block_apply (t : Fin cfg0.N) (r : Fin 640) (e : Fin 1024) :
    (out0_6 (F := Ideal) (grid0.coords t) (iblk m c 0 t) (iblk m c 1 t) (iblk m c 2 t) (iblk m c 3 t) (iblk m c 4 t) (iblk m c 5 t)
        : FVec Ideal S640x1024 .f32) (ix2 r e)
      = outArray m c (ix2 (rowOf t r) e) := by
  unfold out0_6
  rw [View.canon_unit_zero (S := S640x1024) zero2]
  simp only [View.ld_unit_zero (S := S640x1024) zero2, View.ld_unit_zero (S := S1x1024) zero2,
    View.ld_unit_zero (S := S1024x2816) zero2, View.ld_unit_zero (S := S2816x1024) zero2]
  refine (body_apply ..).trans ?_
  unfold outArray ffnAt rowAt
  have hl : Late (grid0.coords t) r ↔ 16384 ≤ (rowOf t r).val := by
    rw [late_iff, coord_tile]; exact Iff.rfl
  have pick : ∀ (n : Nat) (hn : n + 1024 ≤ 6144) (p1 p0 : FVec Ideal S1x1024 .f32)
      (h1 : ∀ d : Fin 1024, p1 (ix2 0 d) = m ((c : Thread nD τ).loc main_arg2) (ix2 1 ⟨n + d.val, by omega⟩))
      (h0 : ∀ d : Fin 1024, p0 (ix2 0 d) = m ((c : Thread nD τ).loc main_arg2) (ix2 0 ⟨n + d.val, by omega⟩)),
      (fun d : Fin 1024 => if Late (grid0.coords t) r then p1 (ix2 0 d) else p0 (ix2 0 d))
        = fun d => m ((c : Thread nD τ).loc main_arg2) (ix2 (streamOf (rowOf t r)) ⟨n + d.val, by omega⟩) := by
    intro n hn p1 p0 h1 h0
    funext d
    unfold streamOf
    by_cases h : 16384 ≤ (rowOf t r).val
    · rw [if_pos (hl.mpr h), if_pos h]; exact h1 d
    · rw [if_neg (fun q => h (hl.mp q)), if_neg h]; exact h0 d
  have ld : ∀ (off : Fin 2 → Nat) (inb) (s : Fin 8) (n : Nat) (h : off = ![s.val, n]) (hn : n + 1024 ≤ 6144) (d : Fin 1024),
      (View.ld (iblk m c 1 t : Vec Ideal S8x6144 .f32) (Rect.unit (s := S8x6144) off S1x1024.size inb) : FVec Ideal S1x1024 .f32) (ix2 0 d)
        = m ((c : Thread nD τ).loc main_arg2) (ix2 s ⟨n + d.val, by omega⟩) := fun off inb s n h hn d =>
    (part_apply (iblk m c 1 t) off inb s n h d ⟨n + d.val, by omega⟩ rfl).trans (mod_apply m c t s _)
  rw [pick 4096 (by decide) _ _ (ld ![1, 4096] _ 1 4096 rfl (by decide)) (ld ![0, 4096] _ 0 4096 rfl (by decide)),
    pick 3072 (by decide) _ _ (ld ![1, 3072] _ 1 3072 rfl (by decide)) (ld ![0, 3072] _ 0 3072 rfl (by decide)),
    pick 5120 (by decide) _ _ (ld ![1, 5120] _ 1 5120 rfl (by decide)) (ld ![0, 5120] _ 0 5120 rfl (by decide)),
    show (fun d : Fin 1024 => (iblk m c 0 t : Vec Ideal S640x1024 .f32) (ix2 r d)) = _ from funext fun d => rows_apply m c t r d,
    show (fun d : Fin 1024 => (iblk m c 2 t : Vec Ideal S1x1024 .f32) (ix2 0 d)) = _ from funext fun d => norm_block m c t d,
    show (fun (d : Fin 1024) (k : Fin 2816) => (iblk m c 3 t : Vec Ideal S1024x2816 .bf16) (ix2 d k)) = _ from
      funext fun d => funext fun k => gate_apply m c t d k,
    show (fun (d : Fin 1024) (k : Fin 2816) => (iblk m c 4 t : Vec Ideal S1024x2816 .bf16) (ix2 d k)) = _ from
      funext fun d => funext fun k => up_apply m c t d k,
    show (fun (k : Fin 2816) (d : Fin 1024) => (iblk m c 5 t : Vec Ideal S2816x1024 .bf16) (ix2 k d)) = _ from
      funext fun k => funext fun d => down_apply m c t k d]
  rfl

theorem out_covers : (cfg0.win 6).Covers := by
  refine ⟨fun a => ?_, fun β => ?_⟩
  · match a with
    | ⟨0, _⟩ => exact (by decide : 0 < 640)
    | ⟨1, _⟩ => exact (by decide : 0 < 1024)
  · have b0 : (β (0 : Fin 2)).val < 26 := lt_of_lt_of_eq (β (0 : Fin 2)).isLt (show (16640 + 640 - 1) / 640 = 26 from rfl)
    have b1 : (β (1 : Fin 2)).val < 1 := lt_of_lt_of_eq (β (1 : Fin 2)).isLt (show (1024 + 1024 - 1) / 1024 = 1 from rfl)
    let t : Fin cfg0.N := ⟨(β (0 : Fin 2)).val, lt_of_lt_of_eq b0 N_0.symm⟩
    refine ⟨t, flush0_6 t, fun a => ⟨(congrFun (map_rows (grid0.coords t)) a).trans ?_, Or.inl rfl⟩⟩
    match a with
    | ⟨0, _⟩ => exact coord_tile t
    | ⟨1, _⟩ => exact (show 0 = (β (1 : Fin 2)).val by omega)

theorem array_eq : (dats m 0 c).arrAt 6 cfg0.N = outArray m c := by
  refine (dats m 0 c).arrAt_eq_of_covers 6 (outArray m c) out_covers fun t hf y => ?_
  refine (congrFun (after0_6 m c t) y).trans ?_
  obtain ⟨r, e, rfl⟩ : ∃ (r : Fin 640) (e : Fin 1024), y = ix2 r e := ⟨y (0 : Fin 2), y (1 : Fin 2), funext fun a => match a with | ⟨0, _⟩ => rfl | ⟨1, _⟩ => rfl⟩
  refine (block_apply m c t r e).trans ?_
  unfold outArray
  refine congrArg₂ (ffnAt _ _ _ _ _ _ _) (Fin.ext ?_) (Fin.ext ?_)
  · refine Eq.symm ((ValueKit.view_emb_slice_whole_unit_val main_v7 _ _ _ (ix2 r e) 0).trans ?_)
    refine (congrArg (fun f : Fin 2 → Nat => f 0 * 640 + r.val) (map_rows (grid0.coords t))).trans ?_
    refine (congrArg (fun n : Nat => n * 640 + r.val) (coord_tile t)).trans ?_
    exact congrArg (· + r.val) (Nat.mul_comm t.val 640)
  · refine Eq.symm ((ValueKit.view_emb_slice_whole_unit_val main_v7 _ _ _ (ix2 r e) 1).trans ?_)
    refine (congrArg (fun f : Fin 2 → Nat => f 1 * 1024 + e.val) (map_rows (grid0.coords t))).trans ?_
    exact (congrArg (· + e.val) (Nat.zero_mul 1024)).trans (Nat.zero_add _)

end Cert.Proof.Ffn

end
-- ==== Proof.FfnReference.lean ====
/-
  The reference's feed-forward layer, element by element.
-/
module

public import proofs.«01_k».proof.Proof.FfnTile
public import proofs.«01_k».proof.Proof.Gen.Reference4Ideal
public import proofs.«01_k».proof.Proof.Gen.Reference4Ideal.Run

@[expose] public section

set_option maxRecDepth 16384

noncomputable section

namespace Cert.Proof.Ffn

open Idealize.ShloMosaic Idealize.ShloMosaic.TcCoe Idealize.SL.Sem
open Cert.Reference4Ideal Cert.Reference4Ideal.Gen

/-! ## The parts -/

/-- Row 0 of the modulation, the first stream's; row 1, the second's. -/
def mod0 (md : FVec Ideal S8x6144 .f32) : FVec Ideal S6144 .f32 :=
  shapeCast S6144 (extractStridedSlice S1x6144 ![0, 0] md slices_S8x6144_S1x6144_0_0) shapeCasts_S1x6144_S6144

def mod1 (md : FVec Ideal S8x6144 .f32) : FVec Ideal S6144 .f32 :=
  shapeCast S6144 (extractStridedSlice S1x6144 ![1, 0] md slices_S8x6144_S1x6144_1_0) shapeCasts_S1x6144_S6144

/-- A vector along the rows of the first stream, and of the second. -/
def along0 (v : FVec Ideal S1024 .f32) : FVec Ideal S1x16384x1024 .f32 :=
  broadcastInDim S1x16384x1024 ![0, 1, 2] bcast_S1x1x1024_S1x16384x1024_0_1_2 (broadcastInDim S1x1x1024 ![2] bcast_S1024_S1x1x1024_2 v)

def along1 (v : FVec Ideal S1024 .f32) : FVec Ideal S1x256x1024 .f32 :=
  broadcastInDim S1x256x1024 ![0, 1, 2] bcast_S1x1x1024_S1x256x1024_0_1_2 (broadcastInDim S1x1x1024 ![2] bcast_S1024_S1x1x1024_2 v)

/-- One and the scale. -/
def scaleOf (v : FVec Ideal S6144 .f32) : FVec Ideal S1024 .f32 :=
  addf (broadcastInDim S1024 ![] bcast_S_S1024 (constant S_ .f32 0x3F800000#32)) (extractStridedSlice S1024 ![4096] v slices_S6144_S1024_4096)

/-- A stream normalized, scaled and shifted. -/
def pre0 (x : FVec Ideal S1x16384x1024 .f32) (v : FVec Ideal S6144 .f32) (g : FVec Ideal S1024 .f32) : FVec Ideal S1x16384x1024 .f32 :=
  addf (mulf (mulf (mulf x (broadcastInDim S1x16384x1024 ![0, 1, 2] bcast_S1x16384x1_S1x16384x1024_0_1_2 (Host.rsqrt (addf (Host.divf (broadcastInDim S1x16384x1 ![0, 1] bcast_S1x16384_S1x16384x1_0_1 (Host.reduceAdd (mulf x x) (constant S_ .f32 0x00000000#32) reducesTo_S1x16384x1024_S1x16384_d2 h_S_)) (broadcastInDim S1x16384x1 ![] bcast_S_S1x16384x1 (constant S_ .f32 0x44800000#32))) (broadcastInDim S1x16384x1 ![] bcast_S_S1x16384x1 (constant S_ .f32 0x358637BD#32))))))
    (along0 g)) (along0 (scaleOf v))) (along0 (extractStridedSlice S1024 ![3072] v slices_S6144_S1024_3072))

def pre1 (x : FVec Ideal S1x256x1024 .f32) (v : FVec Ideal S6144 .f32) (g : FVec Ideal S1024 .f32) : FVec Ideal S1x256x1024 .f32 :=
  addf (mulf (mulf (mulf x (broadcastInDim S1x256x1024 ![0, 1, 2] bcast_S1x256x1_S1x256x1024_0_1_2 (Host.rsqrt (addf (Host.divf (broadcastInDim S1x256x1 ![0, 1] bcast_S1x256_S1x256x1_0_1 (Host.reduceAdd (mulf x x) (constant S_ .f32 0x00000000#32) reducesTo_S1x256x1024_S1x256_d2 h_S_)) (broadcastInDim S1x256x1 ![] bcast_S_S1x256x1 (constant S_ .f32 0x44800000#32))) (broadcastInDim S1x256x1 ![] bcast_S_S1x256x1 (constant S_ .f32 0x358637BD#32))))))
    (along1 g)) (along1 (scaleOf v))) (along1 (extractStridedSlice S1024 ![3072] v slices_S6144_S1024_3072))

/-- The first or the second projection of a stream. -/
def proj0 (a : FVec Ideal S1x16384x1024 .f32) (w : FVec Ideal S1024x2816 .f32) : FVec Ideal S1x16384x2816 .f32 :=
  Host.dotGeneral dot_S1x16384x1024_S1024x2816_S1x16384x2816_2_0_01_1_n_n none a w

def proj1 (a : FVec Ideal S1x256x1024 .f32) (w : FVec Ideal S1024x2816 .f32) : FVec Ideal S1x256x2816 .f32 :=
  Host.dotGeneral dot_S1x256x1024_S1024x2816_S1x256x2816_2_0_01_1_n_n none a w

/-- The gate's nonlinearity, `a` by one over one and `exp (-a)`. -/
def silu0 (a : FVec Ideal S1x16384x2816 .f32) : FVec Ideal S1x16384x2816 .f32 :=
  mulf a (Host.divf (broadcastInDim S1x16384x2816 ![] bcast_S_S1x16384x2816 (constant S_ .f32 0x3F800000#32)) (addf (broadcastInDim S1x16384x2816 ![] bcast_S_S1x16384x2816 (constant S_ .f32 0x3F800000#32)) (Host.exp (Host.negf a))))

def silu1 (a : FVec Ideal S1x256x2816 .f32) : FVec Ideal S1x256x2816 .f32 :=
  mulf a (Host.divf (broadcastInDim S1x256x2816 ![] bcast_S_S1x256x2816 (constant S_ .f32 0x3F800000#32)) (addf (broadcastInDim S1x256x2816 ![] bcast_S_S1x256x2816 (constant S_ .f32 0x3F800000#32)) (Host.exp (Host.negf a))))

/-- A stream after the layer. -/
def after0 (x : FVec Ideal S1x16384x1024 .f32) (v : FVec Ideal S6144 .f32) (a : FVec Ideal S1x16384x1024 .f32)
    (w1 w3 : FVec Ideal S1024x2816 .f32) (w2 : FVec Ideal S2816x1024 .f32) : FVec Ideal S1x16384x1024 .f32 :=
  addf x (mulf (along0 (extractStridedSlice S1024 ![5120] v slices_S6144_S1024_5120))
    (Host.dotGeneral dot_S1x16384x2816_S2816x1024_S1x16384x1024_2_0_01_1_n_n none (mulf (silu0 (proj0 a w1)) (proj0 a w3)) w2))

def after1 (x : FVec Ideal S1x256x1024 .f32) (v : FVec Ideal S6144 .f32) (a : FVec Ideal S1x256x1024 .f32)
    (w1 w3 : FVec Ideal S1024x2816 .f32) (w2 : FVec Ideal S2816x1024 .f32) : FVec Ideal S1x256x1024 .f32 :=
  addf x (mulf (along1 (extractStridedSlice S1024 ![5120] v slices_S6144_S1024_5120))
    (Host.dotGeneral dot_S1x256x2816_S2816x1024_S1x256x1024_2_0_01_1_n_n none (mulf (silu1 (proj1 a w1)) (proj1 a w3)) w2))

theorem res_eq (m : (ℓ : Loc nD τ sig) → Buf (Elt Ideal) ℓ) (c : Dev nD) :
    Value.res_main_v72 (F := Ideal) m c
      = joined (F := Ideal)
          (after0 (m ((c : Thread nD τ).loc main_arg0)) (mod0 (m ((c : Thread nD τ).loc main_arg2)))
            (pre0 (m ((c : Thread nD τ).loc main_arg0)) (mod0 (m ((c : Thread nD τ).loc main_arg2))) (m ((c : Thread nD τ).loc main_arg3)))
            (m ((c : Thread nD τ).loc main_arg4)) (m ((c : Thread nD τ).loc main_arg5)) (m ((c : Thread nD τ).loc main_arg6)))
          (after1 (m ((c : Thread nD τ).loc main_arg1)) (mod1 (m ((c : Thread nD τ).loc main_arg2)))
            (pre1 (m ((c : Thread nD τ).loc main_arg1)) (mod1 (m ((c : Thread nD τ).loc main_arg2))) (m ((c : Thread nD τ).loc main_arg3)))
            (m ((c : Thread nD τ).loc main_arg4)) (m ((c : Thread nD τ).loc main_arg5)) (m ((c : Thread nD τ).loc main_arg6))) := rfl

/-! ## At an index -/

theorem mod0_apply (md : FVec Ideal S8x6144 .f32) (q : Fin 6144) : mod0 md (ix1 q) = md (ix2 0 q) := by
  pointwise [mod0]

theorem mod1_apply (md : FVec Ideal S8x6144 .f32) (q : Fin 6144) : mod1 md (ix1 q) = md (ix2 1 q) := by
  pointwise [mod1]

theorem pre0_apply (x : FVec Ideal S1x16384x1024 .f32) (v : FVec Ideal S6144 .f32) (g : FVec Ideal S1024 .f32) (r : Fin 16384) (d : Fin 1024) :
    pre0 x v g (ix3 0 r d) = normed (fun d => x (ix3 0 r d)) (fun d => g (ix1 d)) (fun d => v (ix1 ⟨4096 + d.val, by omega⟩))
      (fun d => v (ix1 ⟨3072 + d.val, by omega⟩)) d := by
  unfold normed
  rw [← mul_assoc]
  pointwise [pre0, along0, scaleOf]

theorem pre1_apply (x : FVec Ideal S1x256x1024 .f32) (v : FVec Ideal S6144 .f32) (g : FVec Ideal S1024 .f32) (r : Fin 256) (d : Fin 1024) :
    pre1 x v g (ix3 0 r d) = normed (fun d => x (ix3 0 r d)) (fun d => g (ix1 d)) (fun d => v (ix1 ⟨4096 + d.val, by omega⟩))
      (fun d => v (ix1 ⟨3072 + d.val, by omega⟩)) d := by
  unfold normed
  rw [← mul_assoc]
  pointwise [pre1, along1, scaleOf]

theorem proj0_apply (a : FVec Ideal S1x16384x1024 .f32) (w : FVec Ideal S1024x2816 .f32) (r : Fin 16384) (k : Fin 2816) :
    proj0 a w (ix3 0 r k) = ∑ d : Fin 1024, a (ix3 0 r d) * w (ix2 d k) := by
  pointwise [proj0]

theorem proj1_apply (a : FVec Ideal S1x256x1024 .f32) (w : FVec Ideal S1024x2816 .f32) (r : Fin 256) (k : Fin 2816) :
    proj1 a w (ix3 0 r k) = ∑ d : Fin 1024, a (ix3 0 r d) * w (ix2 d k) := by
  pointwise [proj1]

theorem silu0_apply (a : FVec Ideal S1x16384x2816 .f32) (r : Fin 16384) (k : Fin 2816) :
    silu0 a (ix3 0 r k) = a (ix3 0 r k) * Ideal.logistic (a (ix3 0 r k)) := by
  unfold Ideal.logistic
  pointwise [silu0]

theorem silu1_apply (a : FVec Ideal S1x256x2816 .f32) (r : Fin 256) (k : Fin 2816) :
    silu1 a (ix3 0 r k) = a (ix3 0 r k) * Ideal.logistic (a (ix3 0 r k)) := by
  unfold Ideal.logistic
  pointwise [silu1]

theorem after0_apply (x : FVec Ideal S1x16384x1024 .f32) (v : FVec Ideal S6144 .f32) (a : FVec Ideal S1x16384x1024 .f32)
    (w1 w3 : FVec Ideal S1024x2816 .f32) (w2 : FVec Ideal S2816x1024 .f32) (r : Fin 16384) (e : Fin 1024) :
    after0 x v a w1 w3 w2 (ix3 0 r e) = x (ix3 0 r e) + v (ix1 ⟨5120 + e.val, by omega⟩)
      * ∑ k : Fin 2816, silu0 (proj0 a w1) (ix3 0 r k) * proj0 a w3 (ix3 0 r k) * w2 (ix2 k e) := by
  pointwise [after0, along0]

theorem after1_apply (x : FVec Ideal S1x256x1024 .f32) (v : FVec Ideal S6144 .f32) (a : FVec Ideal S1x256x1024 .f32)
    (w1 w3 : FVec Ideal S1024x2816 .f32) (w2 : FVec Ideal S2816x1024 .f32) (r : Fin 256) (e : Fin 1024) :
    after1 x v a w1 w3 w2 (ix3 0 r e) = x (ix3 0 r e) + v (ix1 ⟨5120 + e.val, by omega⟩)
      * ∑ k : Fin 2816, silu1 (proj1 a w1) (ix3 0 r k) * proj1 a w3 (ix3 0 r k) * w2 (ix2 k e) := by
  pointwise [after1, along1]

/-- The first stream's rows come first. -/
theorem joined_first (x : FVec Ideal S1x16384x1024 .f32) (y : FVec Ideal S1x256x1024 .f32) (r : Fin 16640) (d : Fin 1024)
    (h : r.val < 16384) : joined x y (ix2 r d) = x (ix3 0 ⟨r.val, h⟩ d) := by
  pointwise [joined]
  rw [dif_pos h]

/-- The second stream's follow. -/
theorem joined_second (x : FVec Ideal S1x16384x1024 .f32) (y : FVec Ideal S1x256x1024 .f32) (r : Fin 16640) (d : Fin 1024)
    (h : ¬r.val < 16384) : joined x y (ix2 r d) = y (ix3 0 ⟨r.val - 16384, by omega⟩ d) := by
  pointwise [joined]
  rw [dif_neg h]

section Layer

variable (x : FVec Ideal S1x16384x1024 .f32) (y : FVec Ideal S1x256x1024 .f32) (md : FVec Ideal S8x6144 .f32)
  (g : FVec Ideal S1024 .f32) (w1 w3 : FVec Ideal S1024x2816 .f32) (w2 : FVec Ideal S2816x1024 .f32)

theorem first_apply (r : Fin 16384) (e : Fin 1024) :
    after0 x (mod0 md) (pre0 x (mod0 md) g) w1 w3 w2 (ix3 0 r e) = rowAt md g w1 w3 w2 0 (fun d => x (ix3 0 r d)) e := by
  rw [after0_apply]
  simp only [silu0_apply, proj0_apply, pre0_apply, mod0_apply]
  rfl

theorem second_apply (r : Fin 256) (e : Fin 1024) :
    after1 y (mod1 md) (pre1 y (mod1 md) g) w1 w3 w2 (ix3 0 r e) = rowAt md g w1 w3 w2 1 (fun d => y (ix3 0 r d)) e := by
  rw [after1_apply]
  simp only [silu1_apply, proj1_apply, pre1_apply, mod1_apply]
  rfl

/-- The reference's layer is the kernel's, row by row. -/
theorem reference_apply (r : Fin 16640) (e : Fin 1024) :
    joined (after0 x (mod0 md) (pre0 x (mod0 md) g) w1 w3 w2) (after1 y (mod1 md) (pre1 y (mod1 md) g) w1 w3 w2) (ix2 r e)
      = ffnAt x y md g w1 w3 w2 r e := by
  unfold ffnAt streamOf
  by_cases h : r.val < 16384
  · rw [joined_first _ _ r e h, if_neg (Nat.not_le.mpr h), first_apply,
      show (fun d => joined x y (ix2 r d)) = _ from funext fun d => joined_first x y r d h]
  · rw [joined_second _ _ r e h, if_pos (Nat.not_lt.mp h), second_apply,
      show (fun d => joined x y (ix2 r d)) = _ from funext fun d => joined_second x y r d h]

end Layer

end Cert.Proof.Ffn

end
-- ==== Proof.FfnValue.lean ====
/-
  The dense feed-forward call leaves what the reference computes, and the claims about the call.
-/
module

public import proofs.«01_k».proof.Defs
public import proofs.«01_k».proof.Proof.FfnReference
public import proofs.«01_k».proof.Proof.Gen.Kernel4
public import proofs.«01_k».proof.Proof.Gen.Kernel4.Frame
public import proofs.«01_k».proof.Proof.Gen.Kernel4Ideal.Value
public import Idealize.ShloMosaic.Adequacy
public import Idealize.ShloMosaic.Init

@[expose] public section

set_option maxRecDepth 16384

noncomputable section

namespace Cert.Proof.Ffn

open Idealize.ShloMosaic Idealize.ShloMosaic.TcCoe Idealize.SL.Sem
open Cert.Kernel4Ideal Cert.Kernel4Ideal.Gen

theorem frame_kernel4 : Cert.quiescent_Kernel4 := fun m ρ _ => Cert.Kernel4.Gen.frame m ρ

theorem frame_kernel4Ideal : Cert.quiescent_Kernel4Ideal := fun m ρ _ => Cert.Kernel4Ideal.Gen.frame m ρ

theorem frame_reference4Ideal : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic : Cert.algebraic_Kernel4Ideal_Reference4Ideal := by
  intro m g m' g' _ hag
  refine ⟨fun c => outArray m c, ?_, ?_⟩
  · exact (θ_run defs _ _).mono (fun r h c => ⟨(h c).1.trans (array_eq m c), (h c).2⟩) (Cert.Kernel4Ideal.Value.run_blocks (F := Ideal) m g)
  · refine (θ_run Cert.Reference4Ideal.defs _ _).mono (fun r h c => ⟨(h c).1.trans ?_, (h c).2⟩)
      (Cert.Reference4Ideal.Value.run (F := Ideal) m' g')
    obtain ⟨a0, a1, a2, a3, a4, a5, a6⟩ := hag c
    rw [res_eq, a0, a1, a2, a3, a4, a5, a6]
    funext j
    obtain ⟨r, e, rfl⟩ : ∃ (r : Fin 16640) (e : Fin 1024), j = ix2 r e := ⟨j 0, j 1, funext fun a => match a with | ⟨0, _⟩ => rfl | ⟨1, _⟩ => rfl⟩
    exact reference_apply _ _ _ _ _ _ _ r e

end Cert.Proof.Ffn

end
-- ==== Proof.OutMean.lean ====
/-
  The mean of a head's 64 columns: as a product by the segment matrix, a value split into a part and the rest, and as the
  sum over the head divided by 64. Of real values the two are the same.
-/
module

public import Idealize.ShloMosaic.PureOps.Ideal.Laws
public import Idealize.ShloMosaic.Lib.IdealHost

@[expose] public section

noncomputable section

namespace Cert.Proof.Out

open Idealize.ShloMosaic

/-! ## The two means -/

/-- The mean by the segment matrix `s`: a value and what the split leaves of it, each by the matrix. -/
def segMean (s : Fin 128 → Fin 128 → EReal) (v : Fin 128 → EReal) (l : Fin 128) : EReal :=
  ∑ k, v k * s k l + ∑ k, (v k - v k) * s k l

/-- A value less its mean, over the root of the mean of the squares of such and a small constant. -/
def segNormed (s : Fin 128 → Fin 128 → EReal) (v : Fin 128 → EReal) (l : Fin 128) : EReal :=
  (v l - segMean s v l) * Ideal.rsqrt (segMean s (fun k => (v k - segMean s v k) * (v k - segMean s v k)) l + Ideal.ofBits .f32 0x358637BD#32)

/-- The column `j` of the head that column `q` lies in. -/
def headCol (q : Fin 512) (j : Fin 64) : Fin 512 := ⟨q.val / 64 * 64 + j.val, by omega⟩

/-- The mean over a head. -/
def headMean (v : Fin 512 → EReal) (q : Fin 512) : EReal :=
  Ideal.div (∑ j, v (headCol q j)) (Ideal.ofBits .f32 0x42800000#32)

def headNormed (v : Fin 512 → EReal) (q : Fin 512) : EReal :=
  (v q - headMean v q) * Ideal.rsqrt (headMean (fun k => (v k - headMean v k) * (v k - headMean v k)) q + Ideal.ofBits .f32 0x358637BD#32)

/-- Column `k` of the group `g` of 128 columns. -/
def groupCol (g : Fin 4) (k : Fin 128) : Fin 512 := ⟨128 * g.val + k.val, by omega⟩

/-! ## They agree -/

theorem ofBits_64 : Ideal.ofBits .f32 0x42800000#32 = ((64 : ℝ) : EReal) := by
  simp [Ideal.ofBits, Ideal.ieee, -EReal.coe_mul]; norm_num

theorem ofBits_one_64th : Ideal.ofBits .bf16 15488#16 = (((1 : ℝ) / 64 : ℝ) : EReal) := by
  simp [Ideal.ofBits, Ideal.ieee, -EReal.coe_mul]; norm_num

theorem ofBits_none : Ideal.ofBits .bf16 0#16 = ((0 : ℝ) : EReal) := by
  simp [Ideal.ofBits, Ideal.ieee]

theorem coe_sum {n : Nat} (f : Fin n → ℝ) : ∑ i, (f i : EReal) = ((∑ i, f i : ℝ) : EReal) := by
  induction n with
  | zero => simp
  | succ n ih => rw [Fin.sum_univ_castSucc, Fin.sum_univ_castSucc, ih, EReal.coe_add]

/-- A sum over 128 columns weighted to one half of them. -/
theorem half_sum (u : Fin 128 → ℝ) (l : Fin 128) :
    ∑ k : Fin 128, u k * (if k.val / 64 = l.val / 64 then (1 : ℝ) / 64 else 0)
      = (∑ j : Fin 64, u ⟨l.val / 64 * 64 + j.val, by omega⟩) / 64 := by
  have split : ∀ f : Fin 128 → ℝ, ∑ k, f k = (∑ j : Fin 64, f ⟨j.val, by omega⟩) + ∑ j : Fin 64, f ⟨64 + j.val, by omega⟩ := fun f =>
    Fin.sum_univ_add (a := 64) (b := 64) f
  rw [split, Finset.sum_div]
  have h : l.val / 64 = 0 ∨ l.val / 64 = 1 := by omega
  rcases h with h | h
  · have a : ∀ j : Fin 64, j.val / 64 = l.val / 64 := fun j => by omega
    have b : ∀ j : Fin 64, ¬(64 + j.val) / 64 = l.val / 64 := fun j => by omega
    simp only [if_pos (a _), if_neg (b _), mul_zero, Finset.sum_const_zero, add_zero]
    refine Finset.sum_congr rfl fun j _ => ?_
    rw [mul_one_div]
    congr 2
    apply Fin.ext
    show j.val = l.val / 64 * 64 + j.val
    omega
  · have a : ∀ j : Fin 64, ¬j.val / 64 = l.val / 64 := fun j => by omega
    have b : ∀ j : Fin 64, (64 + j.val) / 64 = l.val / 64 := fun j => by omega
    simp only [if_neg (a _), if_pos (b _), mul_zero, Finset.sum_const_zero, zero_add]
    refine Finset.sum_congr rfl fun j _ => ?_
    rw [mul_one_div]
    congr 2
    apply Fin.ext
    show 64 + j.val = l.val / 64 * 64 + j.val
    omega

/-- The mean over a head, of reals. -/
def avg (u : Fin 512 → ℝ) (q : Fin 512) : ℝ := (∑ j, u (headCol q j)) / 64

theorem headMean_coe (u : Fin 512 → ℝ) (q : Fin 512) : headMean (fun k => (u k : EReal)) q = (avg u q : EReal) := by
  unfold headMean avg Ideal.div
  rw [ofBits_64, coe_sum, if_neg (by norm_num : ¬((64 : ℝ) : EReal) = 0), ← EReal.coe_inv, ← EReal.coe_mul, div_eq_mul_inv]

section

variable (s : Fin 128 → Fin 128 → EReal)
  (hs : ∀ k l, s k l = ((if k.val / 64 = l.val / 64 then (1 : ℝ) / 64 else 0 : ℝ) : EReal))

include hs

theorem segMean_coe (u : Fin 512 → ℝ) (g : Fin 4) (l : Fin 128) :
    segMean s (fun k => (u (groupCol g k) : EReal)) l = (avg u (groupCol g l) : EReal) := by
  unfold segMean
  simp only [hs, ← EReal.coe_sub, ← EReal.coe_mul, sub_self, zero_mul, EReal.coe_zero, Finset.sum_const_zero, add_zero, coe_sum]
  congr 1
  rw [half_sum (fun k => u (groupCol g k)) l]
  unfold avg
  congr 1
  refine Finset.sum_congr rfl fun j _ => ?_
  congr 1
  apply Fin.ext
  show 128 * g.val + (l.val / 64 * 64 + j.val) = (128 * g.val + l.val) / 64 * 64 + j.val
  omega

/-- Normalized by the matrix and by the head: the same, of real values. -/
theorem normed_eq (v : Fin 512 → EReal) (hv : ∀ q, v q ≠ ⊤ ∧ v q ≠ ⊥) (g : Fin 4) (l : Fin 128) :
    segNormed s (fun k => v (groupCol g k)) l = headNormed v (groupCol g l) := by
  obtain ⟨u, rfl⟩ : ∃ u : Fin 512 → ℝ, v = fun q => (u q : EReal) :=
    ⟨fun q => (v q).toReal, funext fun q => (EReal.coe_toReal (hv q).1 (hv q).2).symm⟩
  unfold segNormed headNormed
  simp only [segMean_coe s hs, headMean_coe, ← EReal.coe_sub, ← EReal.coe_mul]
  rw [segMean_coe s hs (fun k => (u k - avg u k) * (u k - avg u k)) g l]

end

/-! ## A sum over 1024 columns, the last 512 first -/

theorem sum_1024 (f : Fin 1024 → EReal) :
    ∑ k, f k = (∑ k : Fin 512, f ⟨512 + k.val, by omega⟩) + (∑ k : Fin 128, f ⟨(groupCol 0 k).val, by omega⟩)
      + (∑ k : Fin 128, f ⟨(groupCol 1 k).val, by omega⟩) + (∑ k : Fin 128, f ⟨(groupCol 2 k).val, by omega⟩)
      + ∑ k : Fin 128, f ⟨(groupCol 3 k).val, by omega⟩ := by
  have e : ∑ k, f k = (∑ k : Fin 512, f ⟨k.val, by omega⟩) + ∑ k : Fin 512, f ⟨512 + k.val, by omega⟩ :=
    Fin.sum_univ_add (a := 512) (b := 512) f
  have e3 : ∑ k : Fin 512, f ⟨k.val, by omega⟩ = (∑ k : Fin 384, f ⟨k.val, by omega⟩) + ∑ k : Fin 128, f ⟨384 + k.val, by omega⟩ :=
    Fin.sum_univ_add (a := 384) (b := 128) (fun k : Fin 512 => f ⟨k.val, by omega⟩)
  have e2 : ∑ k : Fin 384, f ⟨k.val, by omega⟩ = (∑ k : Fin 256, f ⟨k.val, by omega⟩) + ∑ k : Fin 128, f ⟨256 + k.val, by omega⟩ :=
    Fin.sum_univ_add (a := 256) (b := 128) (fun k : Fin 384 => f ⟨k.val, by omega⟩)
  have e1 : ∑ k : Fin 256, f ⟨k.val, by omega⟩ = (∑ k : Fin 128, f ⟨k.val, by omega⟩) + ∑ k : Fin 128, f ⟨128 + k.val, by omega⟩ :=
    Fin.sum_univ_add (a := 128) (b := 128) (fun k : Fin 256 => f ⟨k.val, by omega⟩)
  rw [e, e3, e2, e1, add_comm]
  simp only [add_assoc]
  refine congrArg (_ + ·) (congrArg₂ (· + ·) (Finset.sum_congr rfl fun k _ => congrArg f (Fin.ext ?_)) rfl)
  show k.val = 128 * 0 + k.val
  omega

end Cert.Proof.Out

end
-- ==== Proof.OutBody.lean ====
/-
  What one block of the output call of the first layer computes, element by element.
-/
module

public import proofs.«01_k».proof.Proof.OutMean
public import proofs.«01_k».proof.Proof.Gen.Kernel5Ideal.Skeleton
public import Idealize.ShloMosaic.Lib.Pointwise

@[expose] public section

set_option maxRecDepth 16384

noncomputable section

namespace Cert.Proof.Out

open Idealize.ShloMosaic
open Cert.Kernel5Ideal Cert.Kernel5Ideal.Gen

/-- A group's columns after the retention: normalized by the matrix and gated through `v * logistic v`. -/
def segGated (s : Fin 128 → Fin 128 → EReal) (v rg : Fin 128 → EReal) (l : Fin 128) : EReal :=
  segNormed s v l * (rg l * Ideal.logistic (rg l))

/-- The same by the heads. -/
def headGated (v rg : Fin 512 → EReal) (q : Fin 512) : EReal :=
  headNormed v q * (rg q * Ideal.logistic (rg q))

section Pays

variable (s : FVec Ideal S128x128 .bf16) (a b rg : FVec Ideal S640x128 .bf16) (w : FVec Ideal S128x1024 .bf16)
  (acc : FVec Ideal S640x1024 .f32)

theorem pay1_apply (ao : FVec Ideal S640x512 .bf16) (w5 : FVec Ideal S512x1024 .bf16) (r : Fin 640) (e : Fin 1024) :
    (k0_pay1 (F := Ideal) ao w5 : FVec Ideal S640x1024 .f32) (ix2 r e) = ∑ k : Fin 512, ao (ix2 r k) * w5 (ix2 k e) := by
  pointwise [k0_pay1]

theorem pay2_apply (r : Fin 640) (l : Fin 128) :
    (k0_pay2 (F := Ideal) s a b rg : FVec Ideal S640x128 .bf16) (ix2 r l)
      = segGated (fun k l => s (ix2 k l)) (fun k => a (ix2 r k) + b (ix2 r k)) (fun k => rg (ix2 r k)) l := by
  unfold segGated segNormed segMean
  pointwise [k0_pay2]

theorem pay4_apply (p : FVec Ideal S640x128 .bf16) (wp : FVec Ideal S128x1024 .bf16) (r : Fin 640) (e : Fin 1024) :
    (k0_pay4 (F := Ideal) s acc p wp (constant S640x1024 .f32 0x00000000#32) a b rg w : FVec Ideal S640x1024 .f32) (ix2 r e)
      = acc (ix2 r e) + (∑ k : Fin 128, p (ix2 r k) * wp (ix2 k e))
        + ∑ k : Fin 128, segGated (fun k l => s (ix2 k l)) (fun k => a (ix2 r k) + b (ix2 r k)) (fun k => rg (ix2 r k)) k * w (ix2 k e) := by
  unfold segGated segNormed segMean
  pointwise [k0_pay4]

theorem pay6_apply (r : Fin 640) (e : Fin 1024) :
    (k0_pay6 (F := Ideal) s acc (k0_pay5 a b) rg w : FVec Ideal S640x1024 .f32) (ix2 r e)
      = acc (ix2 r e)
        + ∑ k : Fin 128, segGated (fun k l => s (ix2 k l)) (fun k => a (ix2 r k) + b (ix2 r k)) (fun k => rg (ix2 r k)) k * w (ix2 k e) := by
  unfold segGated segNormed segMean
  pointwise [k0_pay6, k0_pay5]

/-- Whether a row of the block at a point lies in the second stream, as the body tests it. -/
abbrev Late (i : grid0.Coords) (r : Fin 640) : Prop :=
  IntOp.cmpi .sge (IntOp.addi (Scalar.muli (BitVec.ofNat 32 (i 0).val) 640#32) (BitVec.ofNat 32 r.val)) 16384#32 = 1#1

theorem late_iff (i : grid0.Coords) (r : Fin 640) : Late i r ↔ 16384 ≤ 640 * (i 0).val + r.val := by
  have h : (i 0).val < 26 := (i 0).isLt
  have e : IntOp.addi (Scalar.muli (BitVec.ofNat 32 (i 0).val) 640#32) (BitVec.ofNat 32 r.val)
      = BitVec.ofNat 32 (640 * (i 0).val + r.val) := by
    apply BitVec.eq_of_toNat_eq
    show ((BitVec.ofNat 32 (i 0).val) * 640#32 + BitVec.ofNat 32 r.val).toNat = _
    rw [BitVec.toNat_add, BitVec.toNat_mul, BitVec.toNat_ofNat, BitVec.toNat_ofNat, BitVec.toNat_ofNat, BitVec.toNat_ofNat]
    omega
  unfold Late
  rw [e]
  have a : (BitVec.ofNat 32 (640 * (i 0).val + r.val)).toInt = ((640 * (i 0).val + r.val : Nat) : Int) := by
    have hn : (BitVec.ofNat 32 (640 * (i 0).val + r.val)).toNat = 640 * (i 0).val + r.val := by
      rw [BitVec.toNat_ofNat]; exact Nat.mod_eq_of_lt (by omega)
    rw [BitVec.toInt_eq_toNat_of_lt (by rw [hn]; omega), hn]
  show BitVec.ofBool (BitVec.sle 16384#32 (BitVec.ofNat 32 (640 * (i 0).val + r.val))) = 1#1 ↔ _
  unfold BitVec.sle
  rw [a]
  have b : (16384#32 : BitVec 32).toInt = 16384 := by decide
  rw [b]
  by_cases hh : 16384 ≤ 640 * (i 0).val + r.val
  · have : (decide ((16384 : Int) ≤ ((640 * (i 0).val + r.val : Nat) : Int))) = true := decide_eq_true (by omega)
    rw [this]
    exact ⟨fun _ => hh, fun _ => rfl⟩
  · have : (decide ((16384 : Int) ≤ ((640 * (i 0).val + r.val : Nat) : Int))) = false := decide_eq_false (by omega)
    rw [this]
    exact ⟨fun q => absurd q (by decide), fun q => absurd q hh⟩

theorem pay9_apply (i : grid0.Coords) (x : FVec Ideal S640x1024 .f32) (gc gx : FVec Ideal S1x1024 .f32) (r : Fin 640) (e : Fin 1024) :
    (k0_pay9 (F := Ideal) (BitVec.ofNat 32 (i 0).val) s acc (k0_pay7 s a b) (k0_pay8 s a b) rg w x gc gx : FVec Ideal S640x1024 .f32) (ix2 r e)
      = x (ix2 r e) + (if Late i r then gc (ix2 0 e) else gx (ix2 0 e)) * (acc (ix2 r e)
        + ∑ k : Fin 128, segGated (fun k l => s (ix2 k l)) (fun k => a (ix2 r k) + b (ix2 r k)) (fun k => rg (ix2 r k)) k * w (ix2 k e)) := by
  unfold segGated segNormed segMean
  pointwise [k0_pay9, k0_pay8, k0_pay7]
  by_cases hl : Late i r
  · rw [if_pos hl]
    have hs : ∀ a b : EReal, Scalar.select (IntOp.cmpi .sge (IntOp.addi (Scalar.muli (BitVec.ofNat 32 (i 0).val) 640#32)
        (BitVec.ofNat 32 r.val)) 16384#32) a b = a := fun a b => if_pos hl
    simp only [hs]
  · rw [if_neg hl]
    have hs : ∀ a b : EReal, Scalar.select (IntOp.cmpi .sge (IntOp.addi (Scalar.muli (BitVec.ofNat 32 (i 0).val) 640#32)
        (BitVec.ofNat 32 r.val)) 16384#32) a b = b := fun a b => if_neg hl
    simp only [hs]

theorem pay3_eq : k0_pay3 (F := Ideal) w = w := by
  funext j
  pointwise [k0_pay3]

end Pays

end Cert.Proof.Out

end
-- ==== Proof.OutSegment.lean ====
/-
  The segment matrix of the output call: the mean over each half of 128 columns.
-/
module

public import proofs.«01_k».proof.Proof.Gen.Kernel5Ideal
public import Idealize.ShloMosaic.Lib.Pointwise

@[expose] public section

set_option maxRecDepth 65536

noncomputable section

namespace Cert.Proof.Out

open Idealize.ShloMosaic
open Cert.Kernel5Ideal Cert.Kernel5Ideal.Gen

/-- The matrix's words: one sixty-fourth where row and column lie in the same half, zero elsewhere. -/
theorem words_all : ∀ k l : Fin 128, lit0 ⟨k.val * 128 + l.val, by omega⟩ = if k.val / 64 = l.val / 64 then 15488#16 else 0#16 := by
  decide +kernel

end Cert.Proof.Out

end
-- ==== Proof.OutTile.lean ====
/-
  The blocks a grid point of the output call of the first layer reads, and the array the call leaves.
-/
module

public import proofs.«01_k».proof.Proof.OutBody
public import proofs.«01_k».proof.Proof.OutSegment
public import proofs.«01_k».proof.Proof.Gen.Kernel5Ideal.Frame
public import proofs.«01_k».proof.Proof.Gen.Kernel5Ideal.Points
public import Idealize.ShloMosaic.Lib.StableHlo.RunRead
public import Idealize.ShloMosaic.Lib.Tactic.CleanTypes
public import Idealize.ShloMosaic.Lib.Pipeline.Value
public import Idealize.ShloMosaic.Lib.Pipeline.ValueKit.Geometry
public import Idealize.ShloMosaic.Lib.Pipeline.ValueKit.Tiles

@[expose] public section

set_option maxRecDepth 16384

noncomputable section

namespace Cert.Proof.Out

open Idealize.ShloMosaic Idealize.ShloMosaic.TcCoe Idealize.SL.Sem
open Cert.Kernel5Ideal Cert.Kernel5Ideal.Gen

/-! ## The arrays as the call finds them -/

section Arrays

variable {F : FTy → Type} [FloatOps F] (m : (ℓ : Loc nD τ sig) → Buf (Elt F) ℓ) (c : Dev nD)

/-- The two streams' rows, one after the other. -/
def joined (x : FVec F S1x16384x1024 .f32) (y : FVec F S1x256x1024 .f32) : FVec F S16640x1024 .f32 :=
  concatenate S16640x1024 0 [⟨S16384x1024, shapeCast S16384x1024 x shapeCasts_S1x16384x1024_S16384x1024⟩,
    ⟨S256x1024, shapeCast S256x1024 y shapeCasts_S1x256x1024_S256x1024⟩] concatenates_S16384x1024_S256x1024_S16640x1024_d0

/-- The segment matrix. -/
def segMatrix : FVec F S128x128 .bf16 := fun i => FloatOps.ofBits .bf16 (lit0 (S128x128.rowMajor i))

theorem V_rows : V m c main_v2 = joined (m ((c : Thread nD τ).loc main_arg0)) (m ((c : Thread nD τ).loc main_arg1)) := by
  show StableHlo.after hostOps0 _ (Proc.devRef .tc main_v2) = _
  after_reads_simp
  rfl

theorem V_weight : V m c main_v3 = (truncf .bf16 (m ((c : Thread nD τ).loc main_arg7)) bitsLt_bf16_f32 : FVec F S1024x1024 .bf16) := by
  show StableHlo.after hostOps0 _ (Proc.devRef .tc main_v3) = _
  after_reads_simp

theorem V_seg : V m c main_cst = (segMatrix : FVec F S128x128 .bf16) := by
  show StableHlo.after hostOps0 _ (Proc.devRef .tc main_cst) = _
  after_reads_simp
  rfl

end Arrays

theorem segMatrix_apply (k l : Fin 128) :
    segMatrix (F := Ideal) (ix2 k l) = ((if k.val / 64 = l.val / 64 then (1 : ℝ) / 64 else 0 : ℝ) : EReal) := by
  have e : lit0 (S128x128.rowMajor (ix2 k l)) = lit0 ⟨k.val * 128 + l.val, by omega⟩ := congrArg lit0 (Fin.ext (Shape.rowMajor_val_two _))
  show Ideal.ofBits .bf16 (lit0 (S128x128.rowMajor (ix2 k l))) = _
  rw [e, words_all k l]
  by_cases h : k.val / 64 = l.val / 64
  · rw [if_pos h, if_pos h]; exact ofBits_one_64th
  · rw [if_neg h, if_neg h]; exact ofBits_none

/-! ## The blocks -/

variable (m : (ℓ : Loc nD τ sig) → Buf (Elt Ideal) ℓ) (c : Dev nD)

theorem coord_tile (t : Fin grid0.N) : (grid0.coords t 0).val = t.val := by
  have e : (grid0.coords t 0).val = t.val / 1 % 26 := Pipeline.Grid.coords_val t 0 (by decide) rfl
  have h : t.val < 26 := lt_of_lt_of_eq t.isLt N_0
  omega

theorem map_rows (i : grid0.Coords) : cc0_transform_0 i = ![(i 0).val, 0] := funext fun a =>
  match a with
  | ⟨0, _⟩ => by
    have h : (i 0).val < 26 := (i 0).isLt
    show (BitVec.ofNat 32 (i 0).val).toNat = (i 0).val
    rw [BitVec.toNat_ofNat]; omega
  | ⟨1, _⟩ => rfl

theorem map_whole (i : grid0.Coords) : cc0_transform_1 i = ![0, 0] := funext fun a =>
  match a with
  | ⟨0, _⟩ => rfl
  | ⟨1, _⟩ => rfl

/-- The row of the joined streams a block's row at a point is. -/
def rowOf (t : Fin grid0.N) (r : Fin 640) : Fin 16640 :=
  ⟨640 * t.val + r.val, by have h : t.val < 26 := lt_of_lt_of_eq t.isLt N_0; omega⟩

theorem rows_apply (t : Fin cfg0.N) (r : Fin 640) (d : Fin 1024) :
    (iblk m c 0 t : Vec Ideal S640x1024 .f32) (ix2 r d) = joined (F := Ideal) (m ((c : Thread nD τ).loc main_arg0)) (m ((c : Thread nD τ).loc main_arg1)) (ix2 (rowOf t r) d) := by
  unfold iblk
  refine (View.read_apply ..).trans ?_
  show V m c main_v2 _ = _
  rw [V_rows]
  congr 1
  funext a
  apply Fin.ext
  match a with
  | ⟨0, _⟩ =>
    refine (ValueKit.view_emb_slice_whole_unit_val main_v2 _ _ _ (ix2 r d) 0).trans ?_
    refine (congrArg (fun f : Fin 2 → Nat => f 0 * 640 + r.val) (map_rows (grid0.coords t))).trans ?_
    refine (congrArg (fun n : Nat => n * 640 + r.val) (coord_tile t)).trans ?_
    exact congrArg (· + r.val) (Nat.mul_comm t.val 640)
  | ⟨1, _⟩ =>
    refine (ValueKit.view_emb_slice_whole_unit_val main_v2 _ _ _ (ix2 r d) 1).trans ?_
    refine (congrArg (fun f : Fin 2 → Nat => f 1 * 1024 + d.val) (map_rows (grid0.coords t))).trans ?_
    exact (congrArg (· + d.val) (Nat.zero_mul 1024)).trans (Nat.zero_add _)

theorem mod_apply (t : Fin cfg0.N) (r : Fin 8) (d : Fin 6144) :
    (iblk m c 1 t : Vec Ideal S8x6144 .f32) (ix2 r d) = m ((c : Thread nD τ).loc main_arg2) (ix2 r d) := by
  unfold iblk
  refine (View.read_apply ..).trans ?_
  show V m c main_arg2 _ = _
  rw [V_main_arg2]
  congr 1
  funext a
  apply Fin.ext
  match a with
  | ⟨0, _⟩ =>
    refine (ValueKit.view_emb_slice_whole_unit_val main_arg2 _ _ _ (ix2 r d) 0).trans ?_
    refine (congrArg (fun f : Fin 2 → Nat => f 0 * 8 + r.val) (map_whole (grid0.coords t))).trans ?_
    exact (congrArg (· + r.val) (Nat.zero_mul 8)).trans (Nat.zero_add _)
  | ⟨1, _⟩ =>
    refine (ValueKit.view_emb_slice_whole_unit_val main_arg2 _ _ _ (ix2 r d) 1).trans ?_
    refine (congrArg (fun f : Fin 2 → Nat => f 1 * 6144 + d.val) (map_whole (grid0.coords t))).trans ?_
    exact (congrArg (· + d.val) (Nat.zero_mul 6144)).trans (Nat.zero_add _)

theorem fwd_apply (t : Fin cfg0.N) (r : Fin 640) (d : Fin 512) :
    (iblk m c 2 t : Vec Ideal S640x512 .bf16) (ix2 r d) = m ((c : Thread nD τ).loc main_arg3) (ix2 (rowOf t r) d) := by
  unfold iblk
  refine (View.read_apply ..).trans ?_
  show V m c main_arg3 _ = _
  rw [V_main_arg3]
  congr 1
  funext a
  apply Fin.ext
  match a with
  | ⟨0, _⟩ =>
    refine (ValueKit.view_emb_slice_whole_unit_val main_arg3 _ _ _ (ix2 r d) 0).trans ?_
    refine (congrArg (fun f : Fin 2 → Nat => f 0 * 640 + r.val) (map_rows (grid0.coords t))).trans ?_
    refine (congrArg (fun n : Nat => n * 640 + r.val) (coord_tile t)).trans ?_
    exact congrArg (· + r.val) (Nat.mul_comm t.val 640)
  | ⟨1, _⟩ =>
    refine (ValueKit.view_emb_slice_whole_unit_val main_arg3 _ _ _ (ix2 r d) 1).trans ?_
    refine (congrArg (fun f : Fin 2 → Nat => f 1 * 512 + d.val) (map_rows (grid0.coords t))).trans ?_
    exact (congrArg (· + d.val) (Nat.zero_mul 512)).trans (Nat.zero_add _)

theorem bwd_apply (t : Fin cfg0.N) (r : Fin 640) (d : Fin 512) :
    (iblk m c 3 t : Vec Ideal S640x512 .bf16) (ix2 r d) = m ((c : Thread nD τ).loc main_arg4) (ix2 (rowOf t r) d) := by
  unfold iblk
  refine (View.read_apply ..).trans ?_
  show V m c main_arg4 _ = _
  rw [V_main_arg4]
  congr 1
  funext a
  apply Fin.ext
  match a with
  | ⟨0, _⟩ =>
    refine (ValueKit.view_emb_slice_whole_unit_val main_arg4 _ _ _ (ix2 r d) 0).trans ?_
    refine (congrArg (fun f : Fin 2 → Nat => f 0 * 640 + r.val) (map_rows (grid0.coords t))).trans ?_
    refine (congrArg (fun n : Nat => n * 640 + r.val) (coord_tile t)).trans ?_
    exact congrArg (· + r.val) (Nat.mul_comm t.val 640)
  | ⟨1, _⟩ =>
    refine (ValueKit.view_emb_slice_whole_unit_val main_arg4 _ _ _ (ix2 r d) 1).trans ?_
    refine (congrArg (fun f : Fin 2 → Nat => f 1 * 512 + d.val) (map_rows (grid0.coords t))).trans ?_
    exact (congrArg (· + d.val) (Nat.zero_mul 512)).trans (Nat.zero_add _)

theorem gate_apply (t : Fin cfg0.N) (r : Fin 640) (d : Fin 512) :
    (iblk m c 4 t : Vec Ideal S640x512 .bf16) (ix2 r d) = m ((c : Thread nD τ).loc main_arg5) (ix2 (rowOf t r) d) := by
  unfold iblk
  refine (View.read_apply ..).trans ?_
  show V m c main_arg5 _ = _
  rw [V_main_arg5]
  congr 1
  funext a
  apply Fin.ext
  match a with
  | ⟨0, _⟩ =>
    refine (ValueKit.view_emb_slice_whole_unit_val main_arg5 _ _ _ (ix2 r d) 0).trans ?_
    refine (congrArg (fun f : Fin 2 → Nat => f 0 * 640 + r.val) (map_rows (grid0.coords t))).trans ?_
    refine (congrArg (fun n : Nat => n * 640 + r.val) (coord_tile t)).trans ?_
    exact congrArg (· + r.val) (Nat.mul_comm t.val 640)
  | ⟨1, _⟩ =>
    refine (ValueKit.view_emb_slice_whole_unit_val main_arg5 _ _ _ (ix2 r d) 1).trans ?_
    refine (congrArg (fun f : Fin 2 → Nat => f 1 * 512 + d.val) (map_rows (grid0.coords t))).trans ?_
    exact (congrArg (· + d.val) (Nat.zero_mul 512)).trans (Nat.zero_add _)

theorem attn_apply (t : Fin cfg0.N) (r : Fin 640) (d : Fin 512) :
    (iblk m c 5 t : Vec Ideal S640x512 .bf16) (ix2 r d) = m ((c : Thread nD τ).loc main_arg6) (ix2 (rowOf t r) d) := by
  unfold iblk
  refine (View.read_apply ..).trans ?_
  show V m c main_arg6 _ = _
  rw [V_main_arg6]
  congr 1
  funext a
  apply Fin.ext
  match a with
  | ⟨0, _⟩ =>
    refine (ValueKit.view_emb_slice_whole_unit_val main_arg6 _ _ _ (ix2 r d) 0).trans ?_
    refine (congrArg (fun f : Fin 2 → Nat => f 0 * 640 + r.val) (map_rows (grid0.coords t))).trans ?_
    refine (congrArg (fun n : Nat => n * 640 + r.val) (coord_tile t)).trans ?_
    exact congrArg (· + r.val) (Nat.mul_comm t.val 640)
  | ⟨1, _⟩ =>
    refine (ValueKit.view_emb_slice_whole_unit_val main_arg6 _ _ _ (ix2 r d) 1).trans ?_
    refine (congrArg (fun f : Fin 2 → Nat => f 1 * 512 + d.val) (map_rows (grid0.coords t))).trans ?_
    exact (congrArg (· + d.val) (Nat.zero_mul 512)).trans (Nat.zero_add _)

theorem weight_apply (t : Fin cfg0.N) (r : Fin 1024) (d : Fin 1024) :
    (iblk m c 7 t : Vec Ideal S1024x1024 .bf16) (ix2 r d) = (m ((c : Thread nD τ).loc main_arg7) : FVec Ideal S1024x1024 .f32) (ix2 r d) := by
  unfold iblk
  refine (View.read_apply ..).trans ?_
  show V m c main_v3 _ = _
  rw [V_weight]
  show (m ((c : Thread nD τ).loc main_arg7) : FVec Ideal S1024x1024 .f32) _ = _
  congr 1
  funext a
  apply Fin.ext
  match a with
  | ⟨0, _⟩ =>
    refine (ValueKit.view_emb_slice_whole_unit_val main_v3 _ _ _ (ix2 r d) 0).trans ?_
    refine (congrArg (fun f : Fin 2 → Nat => f 0 * 1024 + r.val) (map_whole (grid0.coords t))).trans ?_
    exact (congrArg (· + r.val) (Nat.zero_mul 1024)).trans (Nat.zero_add _)
  | ⟨1, _⟩ =>
    refine (ValueKit.view_emb_slice_whole_unit_val main_v3 _ _ _ (ix2 r d) 1).trans ?_
    refine (congrArg (fun f : Fin 2 → Nat => f 1 * 1024 + d.val) (map_whole (grid0.coords t))).trans ?_
    exact (congrArg (· + d.val) (Nat.zero_mul 1024)).trans (Nat.zero_add _)

theorem seg_block (t : Fin cfg0.N) (r : Fin 128) (d : Fin 128) :
    (iblk m c 6 t : Vec Ideal S128x128 .bf16) (ix2 r d) = segMatrix (F := Ideal) (ix2 r d) := by
  unfold iblk
  refine (View.read_apply ..).trans ?_
  show V m c main_cst _ = _
  rw [V_seg]
  congr 1
  funext a
  apply Fin.ext
  match a with
  | ⟨0, _⟩ =>
    refine (ValueKit.view_emb_slice_whole_unit_val main_cst _ _ _ (ix2 r d) 0).trans ?_
    refine (congrArg (fun f : Fin 2 → Nat => f 0 * 128 + r.val) (map_whole (grid0.coords t))).trans ?_
    exact (congrArg (· + r.val) (Nat.zero_mul 128)).trans (Nat.zero_add _)
  | ⟨1, _⟩ =>
    refine (ValueKit.view_emb_slice_whole_unit_val main_cst _ _ _ (ix2 r d) 1).trans ?_
    refine (congrArg (fun f : Fin 2 → Nat => f 1 * 128 + d.val) (map_whole (grid0.coords t))).trans ?_
    exact (congrArg (· + d.val) (Nat.zero_mul 128)).trans (Nat.zero_add _)

/-! ## The body's result of whole blocks -/

theorem zero2 : (![0, 0] : Fin 2 → Nat) = fun _ => 0 := funext fun a => by fin_cases a <;> rfl

/-- A row of the output weights under a column of the gated retention. -/
def weightRow (q : Fin 512) : Fin 1024 := ⟨q.val, by omega⟩

/-- And under a column of the attention's output. -/
def attnRow (q : Fin 512) : Fin 1024 := ⟨512 + q.val, by omega⟩

/-- The gate's column of the modulation. -/
def gateCol (e : Fin 1024) : Fin 6144 := ⟨2048 + e.val, by omega⟩

section Loads

variable (z : Vec Ideal S640x512 .bf16) (w : Vec Ideal S1024x1024 .bf16) (md : Vec Ideal S8x6144 .f32)

theorem group_load (off : Fin 2 → Nat) (inb) (g : Fin 4) (h : off = ![0, 128 * g.val]) (r : Fin 640) (k : Fin 128) :
    (View.ld z (Rect.unit (s := S640x512) off S640x128.size inb) : FVec Ideal S640x128 .bf16) (ix2 r k) = z (ix2 r (groupCol g k)) := by
  subst h
  refine View.ld_unit_apply_of z _ _ inb (ix2 r k) (ix2 r (groupCol g k)) fun a => ?_
  match a with
  | ⟨0, _⟩ => exact (Nat.zero_add r.val).symm
  | ⟨1, _⟩ => rfl

theorem weight_load (off : Fin 2 → Nat) (inb) (g : Fin 4) (h : off = ![128 * g.val, 0]) (k : Fin 128) (e : Fin 1024) :
    (View.ld w (Rect.unit (s := S1024x1024) off S128x1024.size inb) : FVec Ideal S128x1024 .bf16) (ix2 k e)
      = w (ix2 (weightRow (groupCol g k)) e) := by
  subst h
  refine View.ld_unit_apply_of w _ _ inb (ix2 k e) (ix2 (weightRow (groupCol g k)) e) fun a => ?_
  match a with
  | ⟨0, _⟩ => rfl
  | ⟨1, _⟩ => exact (Nat.zero_add e.val).symm

theorem attn_load (inb) (k : Fin 512) (e : Fin 1024) :
    (View.ld w (Rect.unit (s := S1024x1024) ![512, 0] S512x1024.size inb) : FVec Ideal S512x1024 .bf16) (ix2 k e)
      = w (ix2 (attnRow k) e) := by
  refine View.ld_unit_apply_of w _ _ inb (ix2 k e) (ix2 (attnRow k) e) fun a => ?_
  match a with
  | ⟨0, _⟩ => rfl
  | ⟨1, _⟩ => exact (Nat.zero_add e.val).symm

theorem gate_load (off : Fin 2 → Nat) (inb) (s : Fin 8) (h : off = ![s.val, 2048]) (e : Fin 1024) :
    (View.ld md (Rect.unit (s := S8x6144) off S1x1024.size inb) : FVec Ideal S1x1024 .f32) (ix2 0 e) = md (ix2 s (gateCol e)) := by
  subst h
  refine View.ld_unit_apply_of md _ _ inb (ix2 0 e) (ix2 s (gateCol e)) fun a => ?_
  match a with
  | ⟨0, _⟩ => exact (Nat.add_zero s.val).symm
  | ⟨1, _⟩ => rfl

end Loads

theorem out_apply (i : grid0.Coords) (x0 : Vec Ideal S640x1024 .f32) (x1 : Vec Ideal S8x6144 .f32) (x2 x3 x4 x5 : Vec Ideal S640x512 .bf16)
    (x6 : Vec Ideal S128x128 .bf16) (x7 : Vec Ideal S1024x1024 .bf16) (r : Fin 640) (e : Fin 1024) :
    (out0_8 (F := Ideal) i x0 x1 x2 x3 x4 x5 x6 x7 : FVec Ideal S640x1024 .f32) (ix2 r e)
      = x0 (ix2 r e) + (if Late i r then x1 (ix2 1 (gateCol e)) else x1 (ix2 0 (gateCol e)))
        * ((∑ k : Fin 512, x5 (ix2 r k) * x7 (ix2 (attnRow k) e))
          + (∑ k : Fin 128, segGated (fun k l => x6 (ix2 k l)) (fun k => x2 (ix2 r (groupCol 0 k)) + x3 (ix2 r (groupCol 0 k))) (fun k => x4 (ix2 r (groupCol 0 k))) k * x7 (ix2 (weightRow (groupCol 0 k)) e))
          + (∑ k : Fin 128, segGated (fun k l => x6 (ix2 k l)) (fun k => x2 (ix2 r (groupCol 1 k)) + x3 (ix2 r (groupCol 1 k))) (fun k => x4 (ix2 r (groupCol 1 k))) k * x7 (ix2 (weightRow (groupCol 1 k)) e))
          + (∑ k : Fin 128, segGated (fun k l => x6 (ix2 k l)) (fun k => x2 (ix2 r (groupCol 2 k)) + x3 (ix2 r (groupCol 2 k))) (fun k => x4 (ix2 r (groupCol 2 k))) k * x7 (ix2 (weightRow (groupCol 2 k)) e))
          + ∑ k : Fin 128, segGated (fun k l => x6 (ix2 k l)) (fun k => x2 (ix2 r (groupCol 3 k)) + x3 (ix2 r (groupCol 3 k))) (fun k => x4 (ix2 r (groupCol 3 k))) k * x7 (ix2 (weightRow (groupCol 3 k)) e)) := by
  unfold out0_8
  rw [View.canon_unit_zero (S := S640x1024) zero2]
  simp only [View.ld_unit_zero (S := S640x1024) zero2, View.ld_unit_zero (S := S640x512) zero2, View.ld_unit_zero (S := S128x128) zero2]
  rw [pay9_apply, pay6_apply, pay4_apply, pay1_apply, pay3_eq]
  have ga : ∀ (k : Fin 512) (e : Fin 1024), (View.ld x7 r0_2 : FVec Ideal S512x1024 .bf16) (ix2 k e) = x7 (ix2 (attnRow k) e) := fun k e => attn_load x7 _ k e
  have g0 : ∀ (z : Vec Ideal S640x512 .bf16) (r : Fin 640) (k : Fin 128), (View.ld z r0_3 : FVec Ideal S640x128 .bf16) (ix2 r k) = z (ix2 r (groupCol 0 k)) := fun z r k => group_load z _ _ 0 rfl r k
  have w0 : ∀ (k : Fin 128) (e : Fin 1024), (View.ld x7 r0_4 : FVec Ideal S128x1024 .bf16) (ix2 k e) = x7 (ix2 (weightRow (groupCol 0 k)) e) := fun k e => weight_load x7 _ _ 0 rfl k e
  have g1 : ∀ (z : Vec Ideal S640x512 .bf16) (r : Fin 640) (k : Fin 128), (View.ld z r0_5 : FVec Ideal S640x128 .bf16) (ix2 r k) = z (ix2 r (groupCol 1 k)) := fun z r k => group_load z _ _ 1 rfl r k
  have w1 : ∀ (k : Fin 128) (e : Fin 1024), (View.ld x7 r0_6 : FVec Ideal S128x1024 .bf16) (ix2 k e) = x7 (ix2 (weightRow (groupCol 1 k)) e) := fun k e => weight_load x7 _ _ 1 rfl k e
  have g2 : ∀ (z : Vec Ideal S640x512 .bf16) (r : Fin 640) (k : Fin 128), (View.ld z r0_7 : FVec Ideal S640x128 .bf16) (ix2 r k) = z (ix2 r (groupCol 2 k)) := fun z r k => group_load z _ _ 2 rfl r k
  have w2 : ∀ (k : Fin 128) (e : Fin 1024), (View.ld x7 r0_8 : FVec Ideal S128x1024 .bf16) (ix2 k e) = x7 (ix2 (weightRow (groupCol 2 k)) e) := fun k e => weight_load x7 _ _ 2 rfl k e
  have g3 : ∀ (z : Vec Ideal S640x512 .bf16) (r : Fin 640) (k : Fin 128), (View.ld z r0_9 : FVec Ideal S640x128 .bf16) (ix2 r k) = z (ix2 r (groupCol 3 k)) := fun z r k => group_load z _ _ 3 rfl r k
  have w3 : ∀ (k : Fin 128) (e : Fin 1024), (View.ld x7 r0_10 : FVec Ideal S128x1024 .bf16) (ix2 k e) = x7 (ix2 (weightRow (groupCol 3 k)) e) := fun k e => weight_load x7 _ _ 3 rfl k e
  have m1 : (View.ld x1 r0_12 : FVec Ideal S1x1024 .f32) (ix2 0 e) = x1 (ix2 1 (gateCol e)) := gate_load x1 _ _ 1 rfl e
  have m0 : (View.ld x1 r0_13 : FVec Ideal S1x1024 .f32) (ix2 0 e) = x1 (ix2 0 (gateCol e)) := gate_load x1 _ _ 0 rfl e
  simp only [pay2_apply]
  simp only [ga, w0, w1, w2, w3, m1, m0]
  have hg : ∀ (s : Fin 128 → Fin 128 → EReal) (w a a' b b' g g' : Fin 128 → EReal), a = a' → b = b' → g = g' →
      ∑ k, segGated s (fun k => a k + b k) g k * w k = ∑ k, segGated s (fun k => a' k + b' k) g' k * w k := by
    intro s w a a' b b' g g' h1 h2 h3
    rw [h1, h2, h3]
  refine congrArg (fun v : EReal => _ + _ * v) (congrArg₂ (· + ·) (congrArg₂ (· + ·) (congrArg₂ (· + ·) (congrArg₂ (· + ·) rfl ?_) ?_) ?_) ?_)
  · exact hg _ _ _ _ _ _ _ _ (funext (g0 x2 r)) (funext (g0 x3 r)) (funext (g0 x4 r))
  · exact hg _ _ _ _ _ _ _ _ (funext (g1 x2 r)) (funext (g1 x3 r)) (funext (g1 x4 r))
  · exact hg _ _ _ _ _ _ _ _ (funext (g2 x2 r)) (funext (g2 x3 r)) (funext (g2 x4 r))
  · exact hg _ _ _ _ _ _ _ _ (funext (g3 x2 r)) (funext (g3 x3 r)) (funext (g3 x4 r))

/-! ## The array -/

/-- The modulation's row of a stream's row: the first stream's is 0, the second's 1. -/
def streamOf (r : Fin 16640) : Fin 8 := if 16384 ≤ r.val then 1 else 0

/-- One row after another. -/
def beside (a b : Fin 512 → EReal) (k : Fin 1024) : EReal := if h : k.val < 512 then a ⟨k.val, h⟩ else b ⟨k.val - 512, by omega⟩

section Spec

variable (x : FVec Ideal S1x16384x1024 .f32) (y : FVec Ideal S1x256x1024 .f32) (md : FVec Ideal S8x6144 .f32)
  (a b rg ao : FVec Ideal S16640x512 .bf16) (w : FVec Ideal S1024x1024 .f32)

/-- An element of the layer's output product. -/
def productAt (r : Fin 16640) (e : Fin 1024) : EReal :=
  ∑ k : Fin 1024, beside (headGated (fun q => a (ix2 r q) + b (ix2 r q)) (fun q => rg (ix2 r q))) (fun q => ao (ix2 r q)) k * w (ix2 k e)

/-- An element of the output. -/
def outAt (r : Fin 16640) (e : Fin 1024) : EReal :=
  joined x y (ix2 r e) + md (ix2 (streamOf r) (gateCol e)) * productAt a b rg ao w r e

/-- The product by groups of columns, the attention's first. -/
theorem groups_eq (s : Fin 128 → Fin 128 → EReal) (hs : ∀ k l, s k l = ((if k.val / 64 = l.val / 64 then (1 : ℝ) / 64 else 0 : ℝ) : EReal))
    (r : Fin 16640) (e : Fin 1024) (hv : ∀ q, a (ix2 r q) + b (ix2 r q) ≠ (⊤ : EReal) ∧ a (ix2 r q) + b (ix2 r q) ≠ (⊥ : EReal)) :
    (∑ k : Fin 512, ao (ix2 r k) * w (ix2 (attnRow k) e))
      + (∑ k : Fin 128, segGated s (fun k => a (ix2 r (groupCol 0 k)) + b (ix2 r (groupCol 0 k))) (fun k => rg (ix2 r (groupCol 0 k))) k * w (ix2 (weightRow (groupCol 0 k)) e))
      + (∑ k : Fin 128, segGated s (fun k => a (ix2 r (groupCol 1 k)) + b (ix2 r (groupCol 1 k))) (fun k => rg (ix2 r (groupCol 1 k))) k * w (ix2 (weightRow (groupCol 1 k)) e))
      + (∑ k : Fin 128, segGated s (fun k => a (ix2 r (groupCol 2 k)) + b (ix2 r (groupCol 2 k))) (fun k => rg (ix2 r (groupCol 2 k))) k * w (ix2 (weightRow (groupCol 2 k)) e))
      + (∑ k : Fin 128, segGated s (fun k => a (ix2 r (groupCol 3 k)) + b (ix2 r (groupCol 3 k))) (fun k => rg (ix2 r (groupCol 3 k))) k * w (ix2 (weightRow (groupCol 3 k)) e))
      = productAt a b rg ao w r e := by
  have lo : ∀ (f h : Fin 512 → EReal) (q : Fin 512), beside f h (weightRow q) = f q := fun f h q => dif_pos q.isLt
  have hi : ∀ (f h : Fin 512 → EReal) (q : Fin 512), beside f h (attnRow q) = h q := fun f h q => by
    refine (dif_neg (by show ¬512 + q.val < 512; omega)).trans (congrArg h (Fin.ext ?_))
    show 512 + q.val - 512 = q.val
    omega
  have sg : ∀ (g : Fin 4) (k : Fin 128),
      segGated s (fun k => a (ix2 r (groupCol g k)) + b (ix2 r (groupCol g k))) (fun k => rg (ix2 r (groupCol g k))) k
        = headGated (fun q => a (ix2 r q) + b (ix2 r q)) (fun q => rg (ix2 r q)) (groupCol g k) := fun g k => by
    unfold segGated headGated
    exact congrArg (· * _) (normed_eq s hs (fun q => a (ix2 r q) + b (ix2 r q)) hv g k)
  unfold productAt
  refine Eq.symm ((sum_1024 _).trans ?_)
  refine congrArg₂ (· + ·) (congrArg₂ (· + ·) (congrArg₂ (· + ·) (congrArg₂ (· + ·) ?_ ?_) ?_) ?_) ?_
  · exact Finset.sum_congr rfl fun k _ => congrArg (· * _) (hi _ _ k)
  · exact Finset.sum_congr rfl fun k _ => congrArg (· * _) ((lo _ _ (groupCol 0 k)).trans (sg 0 k).symm)
  · exact Finset.sum_congr rfl fun k _ => congrArg (· * _) ((lo _ _ (groupCol 1 k)).trans (sg 1 k).symm)
  · exact Finset.sum_congr rfl fun k _ => congrArg (· * _) ((lo _ _ (groupCol 2 k)).trans (sg 2 k).symm)
  · exact Finset.sum_congr rfl fun k _ => congrArg (· * _) ((lo _ _ (groupCol 3 k)).trans (sg 3 k).symm)

end Spec

/-- What the call leaves in its output. -/
def outArray (m : (ℓ : Loc nD τ sig) → Buf (Elt Ideal) ℓ) (c : Dev nD) : FVec Ideal S16640x1024 .f32 := fun j =>
  outAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (j 0) (j 1)

/-- The retention's two outputs add up to real values. -/
def RealSums (a b : FVec Ideal S16640x512 .bf16) : Prop := ∀ (r : Fin 16640) (q : Fin 512),
  a (ix2 r q) + b (ix2 r q) ≠ (⊤ : EReal) ∧ a (ix2 r q) + b (ix2 r q) ≠ (⊥ : EReal)

/-- The block a point leaves. -/
theorem block_apply (hf : RealSums (m ((c : Thread nD τ).loc main_arg3)) (m ((c : Thread nD τ).loc main_arg4))) (t : Fin cfg0.N) (r : Fin 640) (e : Fin 1024) :
    (out0_8 (F := Ideal) (grid0.coords t) (iblk m c 0 t) (iblk m c 1 t) (iblk m c 2 t) (iblk m c 3 t) (iblk m c 4 t) (iblk m c 5 t)
        (iblk m c 6 t) (iblk m c 7 t) : FVec Ideal S640x1024 .f32) (ix2 r e)
      = outArray m c (ix2 (rowOf t r) e) := by
  refine (out_apply (grid0.coords t) (iblk m c 0 t) (iblk m c 1 t) (iblk m c 2 t) (iblk m c 3 t) (iblk m c 4 t) (iblk m c 5 t)
    (iblk m c 6 t) (iblk m c 7 t) r e).trans ?_
  have hl : Late (grid0.coords t) r ↔ 16384 ≤ (rowOf t r).val := by
    rw [late_iff, coord_tile]; exact Iff.rfl
  simp only [rows_apply m c t, mod_apply m c t, fwd_apply m c t, bwd_apply m c t, gate_apply m c t, attn_apply m c t, weight_apply m c t,
    seg_block m c t]
  rw [groups_eq (m ((c : Thread nD τ).loc main_arg3)) (m ((c : Thread nD τ).loc main_arg4)) (m ((c : Thread nD τ).loc main_arg5))
    (m ((c : Thread nD τ).loc main_arg6)) (m ((c : Thread nD τ).loc main_arg7)) (fun k l => segMatrix (F := Ideal) (ix2 k l)) segMatrix_apply
    (rowOf t r) e (hf (rowOf t r))]
  refine Eq.trans ?_ (show outAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (rowOf t r) e = outArray m c (ix2 (rowOf t r) e) from rfl)
  unfold outAt streamOf
  by_cases h : 16384 ≤ (rowOf t r).val
  · rw [if_pos (hl.mpr h), if_pos h]
  · rw [if_neg (fun q => h (hl.mp q)), if_neg h]

theorem out_covers : (cfg0.win 8).Covers := by
  refine ⟨fun a => ?_, fun β => ?_⟩
  · match a with
    | ⟨0, _⟩ => exact (by decide : 0 < 640)
    | ⟨1, _⟩ => exact (by decide : 0 < 1024)
  · have b0 : (β (0 : Fin 2)).val < 26 := lt_of_lt_of_eq (β (0 : Fin 2)).isLt (show (16640 + 640 - 1) / 640 = 26 from rfl)
    have b1 : (β (1 : Fin 2)).val < 1 := lt_of_lt_of_eq (β (1 : Fin 2)).isLt (show (1024 + 1024 - 1) / 1024 = 1 from rfl)
    let t : Fin cfg0.N := ⟨(β (0 : Fin 2)).val, lt_of_lt_of_eq b0 N_0.symm⟩
    refine ⟨t, flush0_8 t, fun a => ⟨(congrFun (map_rows (grid0.coords t)) a).trans ?_, Or.inl rfl⟩⟩
    match a with
    | ⟨0, _⟩ => exact coord_tile t
    | ⟨1, _⟩ => exact (show 0 = (β (1 : Fin 2)).val by omega)

theorem array_eq (hf : RealSums (m ((c : Thread nD τ).loc main_arg3)) (m ((c : Thread nD τ).loc main_arg4))) : (dats m 0 c).arrAt 8 cfg0.N = outArray m c := by
  refine (dats m 0 c).arrAt_eq_of_covers 8 (outArray m c) out_covers fun t hw y => ?_
  refine (congrFun (after0_8 m c t) y).trans ?_
  obtain ⟨r, e, rfl⟩ : ∃ (r : Fin 640) (e : Fin 1024), y = ix2 r e := ⟨y (0 : Fin 2), y (1 : Fin 2), funext fun a => match a with | ⟨0, _⟩ => rfl | ⟨1, _⟩ => rfl⟩
  refine (block_apply m c hf t r e).trans ?_
  unfold outArray
  refine congrArg₂ (outAt _ _ _ _ _ _ _ _) (Fin.ext ?_) (Fin.ext ?_)
  · refine Eq.symm ((ValueKit.view_emb_slice_whole_unit_val main_v4 _ _ _ (ix2 r e) 0).trans ?_)
    refine (congrArg (fun f : Fin 2 → Nat => f 0 * 640 + r.val) (map_rows (grid0.coords t))).trans ?_
    refine (congrArg (fun n : Nat => n * 640 + r.val) (coord_tile t)).trans ?_
    exact congrArg (· + r.val) (Nat.mul_comm t.val 640)
  · refine Eq.symm ((ValueKit.view_emb_slice_whole_unit_val main_v4 _ _ _ (ix2 r e) 1).trans ?_)
    refine (congrArg (fun f : Fin 2 → Nat => f 1 * 1024 + e.val) (map_rows (grid0.coords t))).trans ?_
    exact (congrArg (· + e.val) (Nat.zero_mul 1024)).trans (Nat.zero_add _)

end Cert.Proof.Out

end
-- ==== Proof.OutReference.lean ====
/-
  The reference's output product of the first layer, element by element.
-/
module

public import proofs.«01_k».proof.Proof.OutTile
public import proofs.«01_k».proof.Proof.Gen.Reference5Ideal
public import proofs.«01_k».proof.Proof.Gen.Reference5Ideal.Run

@[expose] public section

set_option maxRecDepth 16384

noncomputable section

namespace Cert.Proof.Out

open Idealize.ShloMosaic Idealize.ShloMosaic.TcCoe Idealize.SL.Sem
open Cert.Reference5Ideal Cert.Reference5Ideal.Gen

/-! ## The parts -/

/-- The retention's two outputs added, by heads. -/
def added (a b : FVec Ideal S16640x512 .bf16) : FVec Ideal S16640x8x64 .f32 :=
  shapeCast _ (addf (extf .f32 a bitsLt_bf16_f32) (extf .f32 b bitsLt_bf16_f32)) shapeCasts_S16640x512_S16640x8x64

/-- The mean over the last axis. -/
def meanOf (v : FVec Ideal S16640x8x64 .f32) : FVec Ideal S16640x8x1 .f32 :=
  Host.divf (broadcastInDim S16640x8x1 ![0, 1] bcast_S16640x8_S16640x8x1_0_1 (Host.reduceAdd v (constant S_ .f32 0x00000000#32) reducesTo_S16640x8x64_S16640x8_d2 h_S_)) (broadcastInDim S16640x8x1 ![] bcast_S_S16640x8x1 (constant S_ .f32 0x42800000#32))

/-- The values less their means. -/
def centred (v : FVec Ideal S16640x8x64 .f32) : FVec Ideal S16640x8x64 .f32 :=
  subf v (broadcastInDim S16640x8x64 ![0, 1, 2] bcast_S16640x8x1_S16640x8x64_0_1_2 (meanOf v))

/-- The values normalized by heads. -/
def normedOf (v : FVec Ideal S16640x8x64 .f32) : FVec Ideal S16640x8x64 .f32 :=
  mulf (centred v) (broadcastInDim S16640x8x64 ![0, 1, 2] bcast_S16640x8x1_S16640x8x64_0_1_2 (Host.rsqrt (addf (meanOf (mulf (centred v) (centred v))) (broadcastInDim S16640x8x1 ![] bcast_S_S16640x8x1 (constant S_ .f32 0x358637BD#32)))))

/-- The gate, `v` by one over one and `exp (-v)`. -/
def siluOf (rg : FVec Ideal S16640x512 .bf16) : FVec Ideal S16640x512 .f32 :=
  mulf (extf .f32 rg bitsLt_bf16_f32) (Host.divf (broadcastInDim S16640x512 ![] bcast_S_S16640x512 (constant S_ .f32 0x3F800000#32)) (addf (broadcastInDim S16640x512 ![] bcast_S_S16640x512 (constant S_ .f32 0x3F800000#32)) (Host.exp (Host.negf (extf .f32 rg bitsLt_bf16_f32)))))

/-- The product of the gated retention and the attention's output, side by side, with the weights. -/
def productOf (n : FVec Ideal S16640x8x64 .f32) (s : FVec Ideal S16640x512 .f32) (ao : FVec Ideal S16640x512 .bf16) (w : FVec Ideal S1024x1024 .f32) :
    FVec Ideal S16640x1024 .f32 :=
  Host.dotGeneral dot_S16640x1024_S1024x1024_S16640x1024_1_0_0_1_n_n none (concatenate S16640x1024 1 [⟨S16640x512, mulf (shapeCast _ n shapeCasts_S16640x8x64_S16640x512) s⟩, ⟨S16640x512, extf .f32 ao bitsLt_bf16_f32⟩] concatenates_S16640x512_S16640x512_S16640x1024_d1) w

/-- A stream and its rows of the product by its gate. -/
def first (x : FVec Ideal S1x16384x1024 .f32) (md : FVec Ideal S8x6144 .f32) (p : FVec Ideal S16640x1024 .f32) : FVec Ideal S16384x1024 .f32 :=
  addf (shapeCast _ x shapeCasts_S1x16384x1024_S16384x1024) (mulf (broadcastInDim S16384x1024 ![0, 1] bcast_S1x1024_S16384x1024_0_1 (broadcastInDim S1x1024 ![1] bcast_S1024_S1x1024_1 (shapeCast _ (extractStridedSlice S1x1024 ![0, 0] (extractStridedSlice S8x1024 ![0, 2048] md slices_S8x6144_S8x1024_0_2048) slices_S8x1024_S1x1024_0_0) shapeCasts_S1x1024_S1024))) (extractStridedSlice S16384x1024 ![0, 0] p slices_S16640x1024_S16384x1024_0_0))

def second (y : FVec Ideal S1x256x1024 .f32) (md : FVec Ideal S8x6144 .f32) (p : FVec Ideal S16640x1024 .f32) : FVec Ideal S256x1024 .f32 :=
  addf (shapeCast _ y shapeCasts_S1x256x1024_S256x1024) (mulf (broadcastInDim S256x1024 ![0, 1] bcast_S1x1024_S256x1024_0_1 (broadcastInDim S1x1024 ![1] bcast_S1024_S1x1024_1 (shapeCast _ (extractStridedSlice S1x1024 ![1, 0] (extractStridedSlice S8x1024 ![0, 2048] md slices_S8x6144_S8x1024_0_2048) slices_S8x1024_S1x1024_1_0) shapeCasts_S1x1024_S1024))) (extractStridedSlice S256x1024 ![16384, 0] p slices_S16640x1024_S256x1024_16384_0))

/-- The two, one after the other. -/
def both (x : FVec Ideal S16384x1024 .f32) (y : FVec Ideal S256x1024 .f32) : FVec Ideal S16640x1024 .f32 :=
  concatenate S16640x1024 0 [⟨S16384x1024, x⟩, ⟨S256x1024, y⟩] concatenates_S16384x1024_S256x1024_S16640x1024_d0

theorem res_eq (m : (ℓ : Loc nD τ sig) → Buf (Elt Ideal) ℓ) (c : Dev nD) :
    Value.res_main_v46 (F := Ideal) m c
      = both
          (first (m ((c : Thread nD τ).loc main_arg0)) (m ((c : Thread nD τ).loc main_arg2))
            (productOf (normedOf (added (m ((c : Thread nD τ).loc main_arg3)) (m ((c : Thread nD τ).loc main_arg4)))) (siluOf (m ((c : Thread nD τ).loc main_arg5)))
              (m ((c : Thread nD τ).loc main_arg6)) (m ((c : Thread nD τ).loc main_arg7))))
          (second (m ((c : Thread nD τ).loc main_arg1)) (m ((c : Thread nD τ).loc main_arg2))
            (productOf (normedOf (added (m ((c : Thread nD τ).loc main_arg3)) (m ((c : Thread nD τ).loc main_arg4)))) (siluOf (m ((c : Thread nD τ).loc main_arg5)))
              (m ((c : Thread nD τ).loc main_arg6)) (m ((c : Thread nD τ).loc main_arg7)))) := rfl

/-! ## At an index -/

/-- The column of a head's element. -/
def colOf (h : Fin 8) (j : Fin 64) : Fin 512 := ⟨64 * h.val + j.val, by omega⟩

theorem added_apply (a b : FVec Ideal S16640x512 .bf16) (r : Fin 16640) (h : Fin 8) (j : Fin 64) :
    added a b (ix3 r h j) = a (ix2 r (colOf h j)) + b (ix2 r (colOf h j)) := by
  pointwise [added]
  congr 3
  all_goals first
    | rfl
    | (apply Fin.ext; show _ = 64 * h.val + j.val; simp; omega)

theorem meanOf_apply (v : FVec Ideal S16640x8x64 .f32) (r : Fin 16640) (h : Fin 8) :
    meanOf v (ix3 r h 0) = Ideal.div (∑ j : Fin 64, v (ix3 r h j)) (Ideal.ofBits .f32 0x42800000#32) := by
  pointwise [meanOf]

theorem centred_apply (v : FVec Ideal S16640x8x64 .f32) (r : Fin 16640) (h : Fin 8) (j : Fin 64) :
    centred v (ix3 r h j) = v (ix3 r h j) - meanOf v (ix3 r h 0) := by
  pointwise [centred]

theorem normedOf_apply (v : FVec Ideal S16640x8x64 .f32) (r : Fin 16640) (h : Fin 8) (j : Fin 64) :
    normedOf v (ix3 r h j) = centred v (ix3 r h j)
      * Ideal.rsqrt (meanOf (mulf (centred v) (centred v)) (ix3 r h 0) + Ideal.ofBits .f32 0x358637BD#32) := by
  pointwise [normedOf]

theorem siluOf_apply (rg : FVec Ideal S16640x512 .bf16) (r : Fin 16640) (q : Fin 512) :
    siluOf rg (ix2 r q) = rg (ix2 r q) * Ideal.logistic (rg (ix2 r q)) := by
  unfold Ideal.logistic
  pointwise [siluOf]

theorem square_apply (v : FVec Ideal S16640x8x64 .f32) (i : S16640x8x64.Idx) : mulf v v i = v i * v i := rfl

/-- The heads' normalization, column by column. -/
theorem normed_apply (a b : FVec Ideal S16640x512 .bf16) (r : Fin 16640) (h : Fin 8) (j : Fin 64) :
    normedOf (added a b) (ix3 r h j) = headNormed (fun q => a (ix2 r q) + b (ix2 r q)) (colOf h j) := by
  have hc : ∀ j k : Fin 64, headCol (colOf h j) k = colOf h k := fun j k => Fin.ext (by
    show (64 * h.val + j.val) / 64 * 64 + k.val = 64 * h.val + k.val
    omega)
  rw [normedOf_apply, meanOf_apply]
  simp only [square_apply, centred_apply, meanOf_apply, added_apply]
  unfold headNormed headMean
  simp only [hc]

theorem productOf_apply (n : FVec Ideal S16640x8x64 .f32) (s : FVec Ideal S16640x512 .f32) (ao : FVec Ideal S16640x512 .bf16)
    (w : FVec Ideal S1024x1024 .f32) (r : Fin 16640) (e : Fin 1024) :
    productOf n s ao w (ix2 r e) = ∑ k : Fin 1024,
      beside (fun q => n (ix3 r ⟨q.val / 64, by omega⟩ ⟨q.val % 64, by omega⟩) * s (ix2 r q)) (fun q => ao (ix2 r q)) k * w (ix2 k e) := by
  unfold beside
  pointwise [productOf]

/-- The reference's product is the kernel's. -/
theorem product_eq (a b rg ao : FVec Ideal S16640x512 .bf16) (w : FVec Ideal S1024x1024 .f32) (r : Fin 16640) (e : Fin 1024) :
    productOf (normedOf (added a b)) (siluOf rg) ao w (ix2 r e) = productAt a b rg ao w r e := by
  have hq : ∀ q : Fin 512, colOf ⟨q.val / 64, by omega⟩ ⟨q.val % 64, by omega⟩ = q := fun q => Fin.ext (by
    show 64 * (q.val / 64) + q.val % 64 = q.val
    omega)
  rw [productOf_apply]
  simp only [normed_apply, siluOf_apply, hq]
  rfl

theorem first_apply (x : FVec Ideal S1x16384x1024 .f32) (md : FVec Ideal S8x6144 .f32) (p : FVec Ideal S16640x1024 .f32) (r : Fin 16384) (e : Fin 1024) :
    first x md p (ix2 r e) = x (ix3 0 r e) + md (ix2 0 (gateCol e)) * p (ix2 ⟨r.val, by omega⟩ e) := by
  unfold gateCol
  pointwise [first]

theorem second_apply (y : FVec Ideal S1x256x1024 .f32) (md : FVec Ideal S8x6144 .f32) (p : FVec Ideal S16640x1024 .f32) (r : Fin 256) (e : Fin 1024) :
    second y md p (ix2 r e) = y (ix3 0 r e) + md (ix2 1 (gateCol e)) * p (ix2 ⟨16384 + r.val, by omega⟩ e) := by
  unfold gateCol
  pointwise [second]

/-- The first stream's rows come first. -/
theorem joined_first (x : FVec Ideal S1x16384x1024 .f32) (y : FVec Ideal S1x256x1024 .f32) (r : Fin 16640) (d : Fin 1024)
    (h : r.val < 16384) : joined x y (ix2 r d) = x (ix3 0 ⟨r.val, h⟩ d) := by
  pointwise [joined]
  rw [dif_pos h]

/-- The second stream's follow. -/
theorem joined_second (x : FVec Ideal S1x16384x1024 .f32) (y : FVec Ideal S1x256x1024 .f32) (r : Fin 16640) (d : Fin 1024)
    (h : ¬r.val < 16384) : joined x y (ix2 r d) = y (ix3 0 ⟨r.val - 16384, by omega⟩ d) := by
  pointwise [joined]
  rw [dif_neg h]

theorem both_first (x : FVec Ideal S16384x1024 .f32) (y : FVec Ideal S256x1024 .f32) (r : Fin 16640) (d : Fin 1024)
    (h : r.val < 16384) : both x y (ix2 r d) = x (ix2 ⟨r.val, h⟩ d) := by
  pointwise [both]
  rw [dif_pos h]

theorem both_second (x : FVec Ideal S16384x1024 .f32) (y : FVec Ideal S256x1024 .f32) (r : Fin 16640) (d : Fin 1024)
    (h : ¬r.val < 16384) : both x y (ix2 r d) = y (ix2 ⟨r.val - 16384, by omega⟩ d) := by
  pointwise [both]
  rw [dif_neg h]

/-- The reference's result is the kernel's, row by row. -/
theorem reference_apply (x : FVec Ideal S1x16384x1024 .f32) (y : FVec Ideal S1x256x1024 .f32) (md : FVec Ideal S8x6144 .f32)
    (a b rg ao : FVec Ideal S16640x512 .bf16) (w : FVec Ideal S1024x1024 .f32) (r : Fin 16640) (e : Fin 1024) :
    both (first x md (productOf (normedOf (added a b)) (siluOf rg) ao w)) (second y md (productOf (normedOf (added a b)) (siluOf rg) ao w)) (ix2 r e)
      = outAt x y md a b rg ao w r e := by
  unfold outAt streamOf
  by_cases h : r.val < 16384
  · rw [both_first _ _ r e h, if_neg (Nat.not_le.mpr h), first_apply, joined_first x y r e h, product_eq]
  · rw [both_second _ _ r e h, if_pos (Nat.not_lt.mp h), second_apply, joined_second x y r e h, product_eq]
    have hr : (⟨16384 + (r.val - 16384), by omega⟩ : Fin 16640) = r := Fin.ext (by show 16384 + (r.val - 16384) = r.val; omega)
    rw [hr]

end Cert.Proof.Out

end
-- ==== Proof.OutValue.lean ====
/-
  The output call of the first layer leaves what the reference computes, and the claims about the call.
-/
module

public import proofs.«01_k».proof.Defs
public import proofs.«01_k».proof.Proof.OutReference
public import proofs.«01_k».proof.Proof.Gen.Pre_finite_retention
public import proofs.«01_k».proof.Proof.Gen.Kernel5
public import proofs.«01_k».proof.Proof.Gen.Kernel5.Frame
public import proofs.«01_k».proof.Proof.Gen.Kernel5Ideal.Value
public import Idealize.ShloMosaic.Adequacy
public import Idealize.ShloMosaic.Init

@[expose] public section

set_option maxRecDepth 16384

noncomputable section

namespace Cert.Proof.Out

open Idealize.ShloMosaic Idealize.ShloMosaic.TcCoe Idealize.SL.Sem
open Cert.Kernel5Ideal Cert.Kernel5Ideal.Gen

theorem frame_kernel5 : Cert.quiescent_Kernel5 := fun m ρ _ => Cert.Kernel5.Gen.frame m ρ

theorem frame_kernel5Ideal : Cert.quiescent_Kernel5Ideal := fun m ρ _ => Cert.Kernel5Ideal.Gen.frame m ρ

theorem frame_reference5Ideal : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The frames once more, where the precondition is assumed. -/
theorem frame_kernel5Ideal_pre : Cert.quiescent_Kernel5Ideal_pre_finite_retention := fun m ρ _ => Cert.Kernel5Ideal.Gen.frame m ρ

theorem frame_reference5Ideal_pre : Cert.quiescent_Reference5Ideal_pre_finite_retention := fun m ρ _ => frame_reference5Ideal m ρ trivial

/-- Below the greatest value with its negative: neither infinity. -/
theorem real_of_abs (v : EReal) (h : max v (-v) < Ideal.ofBits .f32 0x7F800000#32) : v ≠ ⊤ ∧ v ≠ ⊥ := by
  have htop : Ideal.ofBits .f32 0x7F800000#32 = ⊤ := by simp [Ideal.ofBits, Ideal.ieee]
  rw [htop] at h
  constructor
  · rintro rfl; simp at h
  · rintro rfl; simp at h

theorem real_add (u v : EReal) (hu : u ≠ ⊤ ∧ u ≠ ⊥) (hv : v ≠ ⊤ ∧ v ≠ ⊥) : u + v ≠ ⊤ ∧ u + v ≠ ⊥ := by
  lift u to ℝ using hu
  lift v to ℝ using hv
  rw [← EReal.coe_add]
  exact ⟨EReal.coe_ne_top _, EReal.coe_ne_bot _⟩

theorem lt_of_cmp (u v : EReal) (h : Ideal.cmp .olt u v = 1#1) : u < v := by
  by_contra hn
  have e : Ideal.cmp .olt u v = 0#1 := by
    show BitVec.ofBool (decide (u < v)) = _
    rw [decide_eq_false hn]
    rfl
  rw [e] at h
  exact absurd h (by decide)

theorem both_one (p q : BitVec 1) (h : IntOp.andi p q = 1#1) : p = 1#1 ∧ q = 1#1 := by
  revert h
  unfold IntOp.andi
  revert p q
  decide

theorem real_of_pre (x : FVec Ideal S1x16384x1024 .f32) (y : FVec Ideal S1x256x1024 .f32) (md : FVec Ideal S8x6144 .f32)
    (a b rg ao : FVec Ideal S16640x512 .bf16) (w : FVec Ideal S1024x1024 .f32)
    (h : Cert.Pre_finite_retention.fn (F := Ideal) x y md a b rg ao w = fun _ => 1#1) : RealSums a b := by
  intro r q
  have hi : IntOp.andi (Ideal.cmp .olt (max (a (ix2 r q) : EReal) (-(a (ix2 r q) : EReal))) (Ideal.ofBits .f32 0x7F800000#32))
      (Ideal.cmp .olt (max (b (ix2 r q) : EReal) (-(b (ix2 r q) : EReal))) (Ideal.ofBits .f32 0x7F800000#32)) = 1#1 := congrFun h (ix2 r q)
  obtain ⟨h1, h2⟩ := both_one _ _ hi
  exact real_add _ _ (real_of_abs _ (lt_of_cmp _ _ h1)) (real_of_abs _ (lt_of_cmp _ _ h2))

theorem algebraic : Cert.algebraic_Kernel5Ideal_Reference5Ideal_pre_finite_retention := by
  intro m g m' g' hp hag
  refine ⟨fun c => outArray m c, ?_, ?_⟩
  · exact (θ_run defs _ _).mono (fun r h c => ⟨(h c).1.trans (array_eq m c (real_of_pre _ _ _ _ _ _ _ _ (hp c))), (h c).2⟩)
      (Cert.Kernel5Ideal.Value.run_blocks (F := Ideal) m g)
  · refine (θ_run Cert.Reference5Ideal.defs _ _).mono (fun r h c => ⟨(h c).1.trans ?_, (h c).2⟩)
      (Cert.Reference5Ideal.Value.run (F := Ideal) m' g')
    obtain ⟨a0, a1, a2, a3, a4, a5, a6, a7⟩ := hag c
    rw [res_eq, a0, a1, a2, a3, a4, a5, a6, a7]
    funext j
    obtain ⟨r, e, rfl⟩ : ∃ (r : Fin 16640) (e : Fin 1024), j = ix2 r e := ⟨j 0, j 1, funext fun a => match a with | ⟨0, _⟩ => rfl | ⟨1, _⟩ => rfl⟩
    exact reference_apply _ _ _ _ _ _ _ _ r e

end Cert.Proof.Out

end
-- ==== Proof.AdaBody.lean ====
/-
  What one block of the modulation call computes, element by element.
-/
module

public import proofs.«01_k».proof.Proof.Gen.Kernel6Ideal.Skeleton
public import Idealize.ShloMosaic.Lib.Pointwise

@[expose] public section

set_option maxRecDepth 16384

noncomputable section

namespace Cert.Proof.Ada

open Idealize.ShloMosaic
open Cert.Kernel6Ideal Cert.Kernel6Ideal.Gen

/-- A conditioning vector through `v * logistic v`, times a column of the weights. -/
def column (v w : Fin 1024 → EReal) : EReal := ∑ k, w k * (v k * Ideal.logistic (v k))

/-- A row of the modulation without its bias: the latent stream's, the context stream's, and zero below them. -/
def rowOf (a b : EReal) (r : Fin 8) : EReal := if r.val < 1 then a else if r.val < 2 then b else 0

theorem body_apply (x : FVec Ideal S8x1024 .f32) (w : FVec Ideal S1024x1536 .f32) (b : FVec Ideal S1x1536 .f32) (r : Fin 8) (e : Fin 1536) :
    (k0_pay1 (F := Ideal) x w b : FVec Ideal S8x1536 .f32) (ix2 r e)
      = rowOf (column (fun k => x (ix2 0 k)) fun k => w (ix2 k e)) (column (fun k => x (ix2 1 k)) fun k => w (ix2 k e)) r + b (ix2 0 e) := by
  unfold rowOf column
  pointwise [k0_pay1]
  refine congrArg (· + b (ix2 0 e)) ?_
  by_cases h0 : r.val < 1
  · rw [dif_pos h0, if_pos h0]
  · rw [dif_neg h0, if_neg h0]
    by_cases h1 : r.val < 2
    · rw [dif_pos (show r.val - 1 < 1 by omega), if_pos h1]
    · rw [dif_neg (show ¬r.val - 1 < 1 by omega), if_neg h1]

end Cert.Proof.Ada

end
-- ==== Proof.AdaRows.lean ====
/-
  The conditioning vectors as rows of one array: row 0 the latent stream's, row 1 the context stream's, zero below.
-/
module

public import proofs.«01_k».proof.Proof.Gen.Kernel6Ideal
public import Idealize.ShloMosaic.Lib.Pointwise
public import Idealize.ShloMosaic.Lib.Routing.OpsOne

@[expose] public section

set_option maxRecDepth 16384

noncomputable section

namespace Cert.Proof.Ada

open Idealize.ShloMosaic Idealize.ShloMosaic.Routing
open Cert.Kernel6Ideal Cert.Kernel6Ideal.Gen

/-- Entry `f` of a vector written at row `k` lands at column `f` of that row. -/
theorem lands (idx : IVec S1 32) (k : Fin 8) (hk : (idx (ix1 0)).toInt = (k.val : Int)) (f e : Fin 1024) (r : Fin 8) :
    scatter_S8x1024_S1_S1024_0_0_0_0.resultIdx? (ix1 f) idx = some (ix2 r e) ↔ r = k ∧ f = e := by
  have start0 : scatter_S8x1024_S1_S1024_0_0_0_0.start (ix1 f) idx 0 = (k.val : Int) := by
    unfold ScatterDims.start
    rw [dif_pos (show (0 : Fin 2) ∈ scatter_S8x1024_S1_S1024_0_0_0_0.scatterDimsToOperandDims from List.mem_singleton.2 rfl)]
    refine Eq.trans (congrArg (fun i => (idx i).toInt) (funext fun b => ?_)) hk
    match b with
    | ⟨0, _⟩ => exact Subsingleton.elim (α := Fin 1) _ _
  have start1 : scatter_S8x1024_S1_S1024_0_0_0_0.start (ix1 f) idx 1 = 0 := by
    unfold ScatterDims.start
    exact dif_neg fun h => absurd (List.mem_singleton.1 h) (by decide)
  have win0 : scatter_S8x1024_S1_S1024_0_0_0_0.window (ix1 f) 0 = 0 := by
    unfold ScatterDims.window
    exact dif_neg fun h => (of_decide_eq_true (List.mem_filter.1 h).2) (List.mem_singleton.2 rfl)
  have win1 : scatter_S8x1024_S1_S1024_0_0_0_0.window (ix1 f) 1 = f.val := by
    unfold ScatterDims.window
    rw [dif_pos (show (1 : Fin 2) ∈ scatter_S8x1024_S1_S1024_0_0_0_0.sKept from List.mem_filter.2 ⟨List.mem_finRange _, by decide⟩)]
    rfl
  refine (resultIdx?_ix2 (R := 8) (C := 1024) scatter_S8x1024_S1_S1024_0_0_0_0 (ix1 f) idx r e).trans ?_
  rw [Fin.ext_iff, Fin.ext_iff, start0, start1, win0, win1]
  omega

/-- A vector written over row `k`. -/
theorem written_apply (x : FVec Ideal S8x1024 .f32) (idx : IVec S1 32) (v : FVec Ideal S1024 .f32) (k : Fin 8)
    (hk : (idx (ix1 0)).toInt = (k.val : Int)) (r : Fin 8) (e : Fin 1024) :
    Host.scatter scatter_S8x1024_S1_S1024_0_0_0_0 (fun _ b => b) x idx v (ix2 r e) = if r = k then v (ix1 e) else x (ix2 r e) := by
  have at_index : ∀ j : S1024.Idx, j = ix1 (j 0) := fun j => funext fun a => match a with | ⟨0, _⟩ => rfl
  have lands' : ∀ j : S1024.Idx, scatter_S8x1024_S1_S1024_0_0_0_0.resultIdx? j idx = some (ix2 r e) → r = k ∧ j 0 = e := fun j h =>
    (lands idx k hk (j 0) e r).1 ((congrArg (fun t => scatter_S8x1024_S1_S1024_0_0_0_0.resultIdx? t idx) (at_index j).symm).trans h)
  by_cases h : r = k
  · rw [if_pos h]
    exact scatter_set_hit _ x idx v _ _ (fun j hj => (congrArg v (at_index j)).trans (congrArg (fun t => v (ix1 t)) (lands' j hj).2)) (ix1 e)
      ((lands idx k hk e e r).2 ⟨h, rfl⟩)
  · rw [if_neg h]
    exact scatter_set_miss _ x idx v _ fun j hj => h (lands' j hj).1

section Rows

variable {F : FTy → Type} [FloatOps F]

/-- The two conditioning vectors over an array of zeros. -/
def rows (c : FVec F S1x1024 .f32) (cc : FVec F S1024 .f32) : FVec F S8x1024 .f32 :=
  Host.scatter scatter_S8x1024_S1_S1024_0_0_0_0 (fun _ b => b)
    (Host.scatter scatter_S8x1024_S1_S1024_0_0_0_0 (fun _ b => b) (broadcastInDim S8x1024 ![] bcast_S_S8x1024 (constant S_ .f32 0x00000000#32))
      (broadcastInDim S1 ![] bcast_S_S1 (constantI S_ 32 0#32)) (shapeCast S1024 c shapeCasts_S1x1024_S1024))
    (broadcastInDim S1 ![] bcast_S_S1 (constantI S_ 32 1#32)) cc

end Rows

theorem vector_apply (c : FVec Ideal S1x1024 .f32) (e : Fin 1024) :
    (shapeCast S1024 c shapeCasts_S1x1024_S1024 : FVec Ideal S1024 .f32) (ix1 e) = c (ix2 0 e) := by
  pointwise

theorem rows_first (c : FVec Ideal S1x1024 .f32) (cc : FVec Ideal S1024 .f32) (e : Fin 1024) : rows c cc (ix2 0 e) = c (ix2 0 e) := by
  unfold rows
  rw [written_apply _ _ _ 1 rfl, if_neg (by decide), written_apply _ _ _ 0 rfl, if_pos rfl, vector_apply]

theorem rows_second (c : FVec Ideal S1x1024 .f32) (cc : FVec Ideal S1024 .f32) (e : Fin 1024) : rows c cc (ix2 1 e) = cc (ix1 e) := by
  unfold rows
  rw [written_apply _ _ _ 1 rfl, if_pos rfl]

end Cert.Proof.Ada

end
-- ==== Proof.AdaTile.lean ====
/-
  The blocks a grid point of the modulation call reads, and the array the call leaves.
-/
module

public import proofs.«01_k».proof.Proof.AdaBody
public import proofs.«01_k».proof.Proof.AdaRows
public import proofs.«01_k».proof.Proof.Gen.Kernel6Ideal.Frame
public import proofs.«01_k».proof.Proof.Gen.Kernel6Ideal.Points
public import Idealize.ShloMosaic.Lib.StableHlo.RunRead
public import Idealize.ShloMosaic.Lib.Tactic.CleanTypes
public import Idealize.ShloMosaic.Lib.Pipeline.Value
public import Idealize.ShloMosaic.Lib.Pipeline.ValueKit.Geometry
public import Idealize.ShloMosaic.Lib.Pipeline.ValueKit.Tiles

@[expose] public section

set_option maxRecDepth 16384

noncomputable section

namespace Cert.Proof.Ada

open Idealize.ShloMosaic Idealize.ShloMosaic.TcCoe Idealize.SL.Sem
open Cert.Kernel6Ideal Cert.Kernel6Ideal.Gen

/-! ## The arrays as the call finds them -/

section Arrays

variable {F : FTy → Type} [FloatOps F] (m : (ℓ : Loc nD τ sig) → Buf (Elt F) ℓ) (c : Dev nD)

theorem V_rows : V m c main_v5 = rows (m ((c : Thread nD τ).loc main_arg0)) (m ((c : Thread nD τ).loc main_arg1)) := by
  show StableHlo.after hostOps0 _ (Proc.devRef .tc main_v5) = _
  after_reads_simp
  rfl

theorem V_bias : V m c main_v6 = (shapeCast S1x6144 (m ((c : Thread nD τ).loc main_arg3)) shapeCasts_S6144_S1x6144 : FVec F S1x6144 .f32) := by
  show StableHlo.after hostOps0 _ (Proc.devRef .tc main_v6) = _
  after_reads_simp
  rfl

end Arrays

theorem bias_apply (b : FVec Ideal S6144 .f32) (q : Fin 6144) :
    (shapeCast S1x6144 b shapeCasts_S6144_S1x6144 : FVec Ideal S1x6144 .f32) (ix2 0 q) = b (ix1 q) := by
  pointwise

/-! ## The blocks -/

variable (m : (ℓ : Loc nD τ sig) → Buf (Elt Ideal) ℓ) (c : Dev nD)

theorem coord_tile (t : Fin grid0.N) : (grid0.coords t 0).val = t.val := by
  have e : (grid0.coords t 0).val = t.val / 1 % 4 := Pipeline.Grid.coords_val t 0 (by decide) rfl
  have h : t.val < 4 := lt_of_lt_of_eq t.isLt N_0
  omega

theorem map_whole (i : grid0.Coords) : cc0_transform_0 i = ![0, 0] := funext fun a =>
  match a with
  | ⟨0, _⟩ => rfl
  | ⟨1, _⟩ => rfl

theorem map_columns (i : grid0.Coords) : cc0_transform_1 i = ![0, (i 0).val] := funext fun a =>
  match a with
  | ⟨0, _⟩ => rfl
  | ⟨1, _⟩ => by
    have h : (i 0).val < 4 := (i 0).isLt
    show (BitVec.ofNat 32 (i 0).val).toNat = (i 0).val
    rw [BitVec.toNat_ofNat]; omega

/-- The column of the modulation a block's column at a point is. -/
def colOf (t : Fin grid0.N) (e : Fin 1536) : Fin 6144 :=
  ⟨1536 * t.val + e.val, by have h : t.val < 4 := lt_of_lt_of_eq t.isLt N_0; omega⟩

theorem rows_block (t : Fin cfg0.N) (r : Fin 8) (k : Fin 1024) :
    (iblk m c 0 t : Vec Ideal S8x1024 .f32) (ix2 r k)
      = rows (F := Ideal) (m ((c : Thread nD τ).loc main_arg0)) (m ((c : Thread nD τ).loc main_arg1)) (ix2 r k) := by
  unfold iblk
  refine (View.read_apply ..).trans ?_
  show V m c main_v5 _ = _
  rw [V_rows]
  congr 1
  funext a
  apply Fin.ext
  match a with
  | ⟨0, _⟩ =>
    refine (ValueKit.view_emb_slice_whole_unit_val main_v5 _ _ _ (ix2 r k) 0).trans ?_
    refine (congrArg (fun f : Fin 2 → Nat => f 0 * 8 + r.val) (map_whole (grid0.coords t))).trans ?_
    exact (congrArg (· + r.val) (Nat.zero_mul 8)).trans (Nat.zero_add _)
  | ⟨1, _⟩ =>
    refine (ValueKit.view_emb_slice_whole_unit_val main_v5 _ _ _ (ix2 r k) 1).trans ?_
    refine (congrArg (fun f : Fin 2 → Nat => f 1 * 1024 + k.val) (map_whole (grid0.coords t))).trans ?_
    exact (congrArg (· + k.val) (Nat.zero_mul 1024)).trans (Nat.zero_add _)

theorem weight_block (t : Fin cfg0.N) (k : Fin 1024) (e : Fin 1536) :
    (iblk m c 1 t : Vec Ideal S1024x1536 .f32) (ix2 k e) = m ((c : Thread nD τ).loc main_arg2) (ix2 k (colOf t e)) := by
  unfold iblk
  refine (View.read_apply ..).trans ?_
  show V m c main_arg2 _ = _
  rw [V_main_arg2]
  congr 1
  funext a
  apply Fin.ext
  match a with
  | ⟨0, _⟩ =>
    refine (ValueKit.view_emb_slice_whole_unit_val main_arg2 _ _ _ (ix2 k e) 0).trans ?_
    refine (congrArg (fun f : Fin 2 → Nat => f 0 * 1024 + k.val) (map_columns (grid0.coords t))).trans ?_
    exact (congrArg (· + k.val) (Nat.zero_mul 1024)).trans (Nat.zero_add _)
  | ⟨1, _⟩ =>
    refine (ValueKit.view_emb_slice_whole_unit_val main_arg2 _ _ _ (ix2 k e) 1).trans ?_
    refine (congrArg (fun f : Fin 2 → Nat => f 1 * 1536 + e.val) (map_columns (grid0.coords t))).trans ?_
    refine (congrArg (fun n : Nat => n * 1536 + e.val) (coord_tile t)).trans ?_
    exact congrArg (· + e.val) (Nat.mul_comm t.val 1536)

theorem bias_block (t : Fin cfg0.N) (e : Fin 1536) :
    (iblk m c 2 t : Vec Ideal S1x1536 .f32) (ix2 0 e) = m ((c : Thread nD τ).loc main_arg3) (ix1 (colOf t e)) := by
  unfold iblk
  refine (View.read_apply ..).trans ?_
  show V m c main_v6 _ = _
  rw [V_bias]
  refine Eq.trans ?_ (bias_apply _ (colOf t e))
  congr 1
  funext a
  apply Fin.ext
  match a with
  | ⟨0, _⟩ =>
    refine (ValueKit.view_emb_slice_whole_unit_val main_v6 _ _ _ (ix2 0 e) 0).trans ?_
    exact (congrArg (fun f : Fin 2 → Nat => f 0 * 1 + 0) (map_columns (grid0.coords t))).trans rfl
  | ⟨1, _⟩ =>
    refine (ValueKit.view_emb_slice_whole_unit_val main_v6 _ _ _ (ix2 0 e) 1).trans ?_
    refine (congrArg (fun f : Fin 2 → Nat => f 1 * 1536 + e.val) (map_columns (grid0.coords t))).trans ?_
    refine (congrArg (fun n : Nat => n * 1536 + e.val) (coord_tile t)).trans ?_
    exact congrArg (· + e.val) (Nat.mul_comm t.val 1536)

/-! ## The array -/

/-- An element of the modulation: the row of its stream and the bias. -/
def adaAt (x : FVec Ideal S1x1024 .f32) (y : FVec Ideal S1024 .f32) (w : FVec Ideal S1024x6144 .f32) (b : FVec Ideal S6144 .f32)
    (r : Fin 8) (q : Fin 6144) : EReal :=
  rowOf (column (fun k => x (ix2 0 k)) fun k => w (ix2 k q)) (column (fun k => y (ix1 k)) fun k => w (ix2 k q)) r + b (ix1 q)

/-- What the call leaves in its output. -/
def outArray : FVec Ideal S8x6144 .f32 := fun j =>
  adaAt (m ((c : Thread nD τ).loc main_arg0)) (m ((c : Thread nD τ).loc main_arg1)) (m ((c : Thread nD τ).loc main_arg2))
    (m ((c : Thread nD τ).loc main_arg3)) (j 0) (j 1)

theorem zero2 : (![0, 0] : Fin 2 → Nat) = fun _ => 0 := funext fun a => by fin_cases a <;> rfl

/-- The block a point leaves. -/
theorem block_apply (t : Fin cfg0.N) (r : Fin 8) (e : Fin 1536) :
    (out0_3 (F := Ideal) (iblk m c 0 t) (iblk m c 1 t) (iblk m c 2 t) : FVec Ideal S8x1536 .f32) (ix2 r e)
      = outArray m c (ix2 r (colOf t e)) := by
  unfold out0_3
  rw [View.canon_unit_zero (S := S8x1536) zero2]
  simp only [View.ld_unit_zero (S := S8x1024) zero2, View.ld_unit_zero (S := S1024x1536) zero2, View.ld_unit_zero (S := S1x1536) zero2]
  refine (body_apply ..).trans ?_
  simp only [rows_block m c t, weight_block m c t, bias_block m c t, rows_first, rows_second]
  rfl

theorem out_covers : (cfg0.win 3).Covers := by
  refine ⟨fun a => ?_, fun β => ?_⟩
  · match a with
    | ⟨0, _⟩ => exact (by decide : 0 < 8)
    | ⟨1, _⟩ => exact (by decide : 0 < 1536)
  · have b0 : (β (0 : Fin 2)).val < 1 := lt_of_lt_of_eq (β (0 : Fin 2)).isLt (show (8 + 8 - 1) / 8 = 1 from rfl)
    have b1 : (β (1 : Fin 2)).val < 4 := lt_of_lt_of_eq (β (1 : Fin 2)).isLt (show (6144 + 1536 - 1) / 1536 = 4 from rfl)
    let t : Fin cfg0.N := ⟨(β (1 : Fin 2)).val, lt_of_lt_of_eq b1 N_0.symm⟩
    refine ⟨t, flush0_3 t, fun a => ⟨(congrFun (map_columns (grid0.coords t)) a).trans ?_, Or.inl rfl⟩⟩
    match a with
    | ⟨0, _⟩ => exact (show 0 = (β (0 : Fin 2)).val by omega)
    | ⟨1, _⟩ => exact coord_tile t

theorem array_eq : (dats m 0 c).arrAt 3 cfg0.N = outArray m c := by
  refine (dats m 0 c).arrAt_eq_of_covers 3 (outArray m c) out_covers fun t hf y => ?_
  refine (congrFun (after0_3 m c t) y).trans ?_
  obtain ⟨r, e, rfl⟩ : ∃ (r : Fin 8) (e : Fin 1536), y = ix2 r e := ⟨y (0 : Fin 2), y (1 : Fin 2), funext fun a => match a with | ⟨0, _⟩ => rfl | ⟨1, _⟩ => rfl⟩
  refine (block_apply m c t r e).trans ?_
  unfold outArray
  refine congrArg₂ (adaAt _ _ _ _) (Fin.ext ?_) (Fin.ext ?_)
  · refine Eq.symm ((ValueKit.view_emb_slice_whole_unit_val main_v7 _ _ _ (ix2 r e) 0).trans ?_)
    refine (congrArg (fun f : Fin 2 → Nat => f 0 * 8 + r.val) (map_columns (grid0.coords t))).trans ?_
    exact (congrArg (· + r.val) (Nat.zero_mul 8)).trans (Nat.zero_add _)
  · refine Eq.symm ((ValueKit.view_emb_slice_whole_unit_val main_v7 _ _ _ (ix2 r e) 1).trans ?_)
    refine (congrArg (fun f : Fin 2 → Nat => f 1 * 1536 + e.val) (map_columns (grid0.coords t))).trans ?_
    refine (congrArg (fun n : Nat => n * 1536 + e.val) (coord_tile t)).trans ?_
    exact congrArg (· + e.val) (Nat.mul_comm t.val 1536)

end Cert.Proof.Ada

end
-- ==== Proof.AdaReference.lean ====
/-
  The reference's modulation, element by element.
-/
module

public import proofs.«01_k».proof.Proof.AdaTile
public import proofs.«01_k».proof.Proof.Gen.Reference6Ideal

@[expose] public section

set_option maxRecDepth 16384

noncomputable section

namespace Cert.Proof.Ada

open Idealize.ShloMosaic
open Cert.Reference6Ideal Cert.Reference6Ideal.Gen

/-- The latent stream's row. -/
def latent (x : FVec Ideal S1x1024 .f32) (w : FVec Ideal S1024x6144 .f32) (b : FVec Ideal S6144 .f32) : FVec Ideal S1x6144 .f32 :=
  addf (Host.dotGeneral dot_S1x1024_S1024x6144_S1x6144_1_0_0_1_n_n none (mulf x (Host.divf (broadcastInDim S1x1024 ![] bcast_S_S1x1024 (constant S_ .f32 0x3F800000#32)) (addf (broadcastInDim S1x1024 ![] bcast_S_S1x1024 (constant S_ .f32 0x3F800000#32)) (Host.exp (Host.negf x))))) w)
    (broadcastInDim S1x6144 ![1] bcast_S6144_S1x6144_1 b)

/-- The context stream's vector. -/
def context (y : FVec Ideal S1024 .f32) (w : FVec Ideal S1024x6144 .f32) (b : FVec Ideal S6144 .f32) : FVec Ideal S6144 .f32 :=
  addf (Host.dotGeneral dot_S1024_S1024x6144_S6144_0_0_n_1_n_n none (mulf y (Host.divf (broadcastInDim S1024 ![] bcast_S_S1024 (constant S_ .f32 0x3F800000#32)) (addf (broadcastInDim S1024 ![] bcast_S_S1024 (constant S_ .f32 0x3F800000#32)) (Host.exp (Host.negf y))))) w) b

/-- The two rows, and the bias below them. -/
def stacked (l : FVec Ideal S1x6144 .f32) (u b : FVec Ideal S6144 .f32) : FVec Ideal S8x6144 .f32 :=
  concatenate S8x6144 0 [⟨S1x6144, l⟩, ⟨S1x6144, broadcastInDim S1x6144 ![1] bcast_S6144_S1x6144_1 u⟩,
    ⟨S6x6144, broadcastInDim S6x6144 ![1] bcast_S6144_S6x6144_1 b⟩] concatenates_S1x6144_S1x6144_S6x6144_S8x6144_d0

theorem latent_apply (x : FVec Ideal S1x1024 .f32) (w : FVec Ideal S1024x6144 .f32) (b : FVec Ideal S6144 .f32) (q : Fin 6144) :
    latent x w b (ix2 0 q) = column (fun k => x (ix2 0 k)) (fun k => w (ix2 k q)) + b (ix1 q) := by
  have e : latent x w b (ix2 0 q) = (∑ k : Fin 1024, x (ix2 0 k) * Ideal.logistic (x (ix2 0 k)) * w (ix2 k q)) + b (ix1 q) := by
    unfold Ideal.logistic
    pointwise [latent]
  exact e.trans (congrArg (· + b (ix1 q)) (Finset.sum_congr rfl fun k _ => mul_comm _ _))

theorem context_apply (y : FVec Ideal S1024 .f32) (w : FVec Ideal S1024x6144 .f32) (b : FVec Ideal S6144 .f32) (q : Fin 6144) :
    context y w b (ix1 q) = column (fun k => y (ix1 k)) (fun k => w (ix2 k q)) + b (ix1 q) := by
  have e : context y w b (ix1 q) = (∑ k : Fin 1024, y (ix1 k) * Ideal.logistic (y (ix1 k)) * w (ix2 k q)) + b (ix1 q) := by
    unfold Ideal.logistic
    pointwise [context]
  exact e.trans (congrArg (· + b (ix1 q)) (Finset.sum_congr rfl fun k _ => mul_comm _ _))

theorem stacked_apply (l : FVec Ideal S1x6144 .f32) (u b : FVec Ideal S6144 .f32) (r : Fin 8) (q : Fin 6144) :
    stacked l u b (ix2 r q) = if r.val < 1 then l (ix2 0 q) else if r.val < 2 then u (ix1 q) else b (ix1 q) := by
  pointwise [stacked]
  by_cases h0 : r.val < 1
  · rw [dif_pos h0, if_pos h0]
    exact congrArg (fun i => l (ix2 i q)) (Subsingleton.elim (α := Fin 1) _ _)
  · rw [dif_neg h0, if_neg h0]
    by_cases h1 : r.val < 2
    · rw [dif_pos (show r.val - 1 < 1 by omega), if_pos h1]
    · rw [dif_neg (show ¬r.val - 1 < 1 by omega), if_neg h1]

/-- The reference's rows are the call's. -/
theorem reference_apply (x : FVec Ideal S1x1024 .f32) (y : FVec Ideal S1024 .f32) (w : FVec Ideal S1024x6144 .f32) (b : FVec Ideal S6144 .f32)
    (r : Fin 8) (q : Fin 6144) : stacked (latent x w b) (context y w b) b (ix2 r q) = adaAt x y w b r q := by
  rw [stacked_apply, latent_apply, context_apply]
  unfold adaAt rowOf
  by_cases h0 : r.val < 1
  · rw [if_pos h0, if_pos h0]
  · rw [if_neg h0, if_neg h0]
    by_cases h1 : r.val < 2
    · rw [if_pos h1, if_pos h1]
    · rw [if_neg h1, if_neg h1, zero_add]

end Cert.Proof.Ada

end
-- ==== Proof.AdaValue.lean ====
/-
  The modulation call leaves what the reference computes, and the claims about the call.
-/
module

public import proofs.«01_k».proof.Defs
public import proofs.«01_k».proof.Proof.AdaReference
public import proofs.«01_k».proof.Proof.Gen.Reference6Ideal.Run
public import proofs.«01_k».proof.Proof.Gen.Kernel6
public import proofs.«01_k».proof.Proof.Gen.Kernel6.Frame
public import proofs.«01_k».proof.Proof.Gen.Kernel6Ideal.Value
public import Idealize.ShloMosaic.Adequacy
public import Idealize.ShloMosaic.Init

@[expose] public section

set_option maxRecDepth 16384

noncomputable section

namespace Cert.Proof.Ada

open Idealize.ShloMosaic Idealize.ShloMosaic.TcCoe Idealize.SL.Sem
open Cert.Kernel6Ideal Cert.Kernel6Ideal.Gen

theorem frame_kernel6 : Cert.quiescent_Kernel6 := fun m ρ _ => Cert.Kernel6.Gen.frame m ρ

theorem frame_kernel6Ideal : Cert.quiescent_Kernel6Ideal := fun m ρ _ => Cert.Kernel6Ideal.Gen.frame m ρ

theorem frame_reference6Ideal : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic : Cert.algebraic_Kernel6Ideal_Reference6Ideal := by
  intro m g m' g' _ hag
  refine ⟨fun c => outArray m c, ?_, ?_⟩
  · exact (θ_run defs _ _).mono (fun r h c => ⟨(h c).1.trans (array_eq m c), (h c).2⟩) (Cert.Kernel6Ideal.Value.run_blocks (F := Ideal) m g)
  · refine (θ_run Cert.Reference6Ideal.defs _ _).mono (fun r h c => ⟨(h c).1.trans ?_, (h c).2⟩)
      (Cert.Reference6Ideal.Value.run (F := Ideal) m' g')
    obtain ⟨a0, a1, a2, a3⟩ := hag c
    rw [a0, a1, a2, a3]
    show stacked (latent (m ((c : Thread nD τ).loc main_arg0)) (m ((c : Thread nD τ).loc main_arg2)) (m ((c : Thread nD τ).loc main_arg3)))
      (context (m ((c : Thread nD τ).loc main_arg1)) (m ((c : Thread nD τ).loc main_arg2)) (m ((c : Thread nD τ).loc main_arg3)))
      (m ((c : Thread nD τ).loc main_arg3)) = _
    funext j
    obtain ⟨r, q, rfl⟩ : ∃ (r : Fin 8) (q : Fin 6144), j = ix2 r q := ⟨j 0, j 1, funext fun a => match a with | ⟨0, _⟩ => rfl | ⟨1, _⟩ => rfl⟩
    exact reference_apply _ _ _ _ r q

end Cert.Proof.Ada

end
-- ==== Proof.lean ====
/-
  The claim: the frames of the six calls and of their references, and that each call gives its reference's array.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.Reference
public import proofs.«01_k».proof.Proof.Gen.Reference.Run
public import proofs.«01_k».proof.Proof.Gen.ReferenceIdeal
public import proofs.«01_k».proof.Proof.Gen.ReferenceIdeal.Run
public import proofs.«01_k».proof.Proof.Gen.Pre_row_indices
public import proofs.«01_k».proof.Proof.Gen.Kernel2
public import proofs.«01_k».proof.Proof.Gen.Kernel2.Frame
public import proofs.«01_k».proof.Proof.Gen.Kernel2.Points
public import proofs.«01_k».proof.Proof.Gen.Kernel2.Launch
public import proofs.«01_k».proof.Proof.Gen.Kernel2.Skeleton
public import proofs.«01_k».proof.Proof.Gen.Kernel2Ideal
public import proofs.«01_k».proof.Proof.Gen.Kernel2Ideal.Frame
public import proofs.«01_k».proof.Proof.Gen.Kernel2Ideal.Points
public import proofs.«01_k».proof.Proof.Gen.Kernel2Ideal.Launch
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Pre_experts
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Points
public import proofs.«01_k».proof.Proof.Gen.Kernel3Ideal.Skeleton
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Points
public import proofs.«01_k».proof.Proof.Gen.Kernel4Ideal.Skeleton
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Points
public import proofs.«01_k».proof.Proof.Gen.Kernel5Ideal.Skeleton
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Points
public import proofs.«01_k».proof.Proof.Gen.Kernel6Ideal.Skeleton
public import proofs.«01_k».proof.Proof.Gen.Kernel6Ideal.Value
public import proofs.«01_k».proof.Proof.Gen.Reference6Ideal
public import proofs.«01_k».proof.Proof.Gen.Reference6Ideal.Run
public import proofs.«01_k».proof.Proof.Gen.Pre_finite_retention
public import proofs.«01_k».proof.Proof.Value
public import proofs.«01_k».proof.Proof.MoeValue
public import proofs.«01_k».proof.Proof.CombineValue
public import proofs.«01_k».proof.Proof.FfnValue
public import proofs.«01_k».proof.Proof.OutValue
public import proofs.«01_k».proof.Proof.AdaValue

@[expose] public section

noncomputable section

namespace Cert.Proof

theorem claim : Cert.Claim :=
  ⟨Cert.Kernel.Gen.facts, Cert.KernelIdeal.Gen.facts, Cert.ReferenceIdeal.Gen.facts, Cert.Reference.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Pre_row_indices.Gen.facts, Cert.Pre_experts.Gen.facts, Cert.Pre_finite_retention.Gen.facts,
    Gather.frame_kernel, Gather.frame_ideal, Gather.frame_referenceIdeal, Gather.frame_reference,
    Moe.frame_kernel2, Moe.frame_kernel2Ideal, Moe.frame_reference2Ideal,
    Combine.frame_kernel3, Combine.frame_kernel3Ideal, Combine.frame_reference3Ideal,
    Ffn.frame_kernel4, Ffn.frame_kernel4Ideal, Ffn.frame_reference4Ideal,
    Out.frame_kernel5, Out.frame_kernel5Ideal, Out.frame_kernel5Ideal_pre, Out.frame_reference5Ideal, Out.frame_reference5Ideal_pre,
    Ada.frame_kernel6, Ada.frame_kernel6Ideal, Ada.frame_reference6Ideal,
    trivial, Gather.algebraic, Gather.bitexact, trivial, Moe.algebraic, trivial, Combine.algebraic, trivial, Ffn.algebraic,
    trivial, Out.algebraic, trivial, Ada.algebraic⟩

end Cert.Proof

end
